-- ==== Defs.lean ====
def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Mixers (m : (ℓ : Loc Cert.Mixers.nD Cert.Mixers.τ Cert.Mixers.sig) → Buf (Elt Bits) ℓ) : Prop :=
  True

def Pre_MixersIdeal (m : (ℓ : Loc Cert.MixersIdeal.nD Cert.MixersIdeal.τ Cert.MixersIdeal.sig) → Buf (Elt Ideal) ℓ) : Prop :=
  True

def Pre_MixersRefIdeal (m : (ℓ : Loc Cert.MixersRefIdeal.nD Cert.MixersRefIdeal.τ Cert.MixersRefIdeal.sig) → Buf (Elt Ideal) ℓ) : Prop :=
  True

def Pre_Decay (m : (ℓ : Loc Cert.Decay.nD Cert.Decay.τ Cert.Decay.sig) → Buf (Elt Bits) ℓ) : Prop :=
  True

def Pre_DecayIdeal (m : (ℓ : Loc Cert.DecayIdeal.nD Cert.DecayIdeal.τ Cert.DecayIdeal.sig) → Buf (Elt Ideal) ℓ) : Prop :=
  True

def Pre_DecayRefIdeal (m : (ℓ : Loc Cert.DecayRefIdeal.nD Cert.DecayRefIdeal.τ Cert.DecayRefIdeal.sig) → Buf (Elt Ideal) ℓ) : Prop :=
  True

def Pre_Short (m : (ℓ : Loc Cert.Short.nD Cert.Short.τ Cert.Short.sig) → Buf (Elt Bits) ℓ) : Prop :=
  True

def Pre_ShortIdeal (m : (ℓ : Loc Cert.ShortIdeal.nD Cert.ShortIdeal.τ Cert.ShortIdeal.sig) → Buf (Elt Ideal) ℓ) : Prop :=
  True

def Pre_ShortRefIdeal (m : (ℓ : Loc Cert.ShortRefIdeal.nD Cert.ShortRefIdeal.τ Cert.ShortRefIdeal.sig) → Buf (Elt Ideal) ℓ) : Prop :=
  True

def Pre_GlaOut (m : (ℓ : Loc Cert.GlaOut.nD Cert.GlaOut.τ Cert.GlaOut.sig) → Buf (Elt Bits) ℓ) : Prop :=
  True

def Pre_GlaOutIdeal (m : (ℓ : Loc Cert.GlaOutIdeal.nD Cert.GlaOutIdeal.τ Cert.GlaOutIdeal.sig) → Buf (Elt Ideal) ℓ) : Prop :=
  True

def Pre_GlaOutRefIdeal (m : (ℓ : Loc Cert.GlaOutRefIdeal.nD Cert.GlaOutRefIdeal.τ Cert.GlaOutRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Lna (m : (ℓ : Loc Cert.Lna.nD Cert.Lna.τ Cert.Lna.sig) → Buf (Elt Bits) ℓ) : Prop :=
  True

def Pre_LnaIdeal (m : (ℓ : Loc Cert.LnaIdeal.nD Cert.LnaIdeal.τ Cert.LnaIdeal.sig) → Buf (Elt Ideal) ℓ) : Prop :=
  True

def Pre_LnaRefIdeal (m : (ℓ : Loc Cert.LnaRefIdeal.nD Cert.LnaRefIdeal.τ Cert.LnaRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_Lnb (m : (ℓ : Loc Cert.Lnb.nD Cert.Lnb.τ Cert.Lnb.sig) → Buf (Elt Bits) ℓ) : Prop :=
  True

def Pre_LnbIdeal (m : (ℓ : Loc Cert.LnbIdeal.nD Cert.LnbIdeal.τ Cert.LnbIdeal.sig) → Buf (Elt Ideal) ℓ) : Prop :=
  True

def Pre_LnbRefIdeal (m : (ℓ : Loc Cert.LnbRefIdeal.nD Cert.LnbRefIdeal.τ Cert.LnbRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3))
      ∧ r.2.sem = fun _ => 0)

def quiescent_Mixers [hMixers : Cert.Mixers.Facts] : Prop :=
  ∀ (m : (ℓ : Loc Cert.Mixers.nD Cert.Mixers.τ Cert.Mixers.sig) → Buf (Elt Bits) ℓ) (g : Dev Cert.Mixers.nD → PrngReg), Pre_Mixers m →
    θ_run (Cert.Mixers.defs (F := Bits)) (onTc (τ := Cert.Mixers.τ) (Cert.Mixers.main (F := Bits))) ⟨m, fun _ => 0, g⟩ (fun r => (∀ c : Dev Cert.Mixers.nD,
      r.2.mem ((c.tc : Thread Cert.Mixers.nD Cert.Mixers.τ).loc Cert.Mixers.main_arg0) = m ((c.tc : Thread Cert.Mixers.nD Cert.Mixers.τ).loc Cert.Mixers.main_arg0)
      ∧ r.2.mem ((c.tc : Thread Cert.Mixers.nD Cert.Mixers.τ).loc Cert.Mixers.main_arg1) = m ((c.tc : Thread Cert.Mixers.nD Cert.Mixers.τ).loc Cert.Mixers.main_arg1)
      ∧ r.2.mem ((c.tc : Thread Cert.Mixers.nD Cert.Mixers.τ).loc Cert.Mixers.main_arg2) = m ((c.tc : Thread Cert.Mixers.nD Cert.Mixers.τ).loc Cert.Mixers.main_arg2))
      ∧ r.2.sem = fun _ => 0)

def quiescent_MixersIdeal [hMixersIdeal : Cert.MixersIdeal.Facts] : Prop :=
  ∀ (m : (ℓ : Loc Cert.MixersIdeal.nD Cert.MixersIdeal.τ Cert.MixersIdeal.sig) → Buf (Elt Ideal) ℓ) (g : Dev Cert.MixersIdeal.nD → PrngReg), Pre_MixersIdeal m →
    θ_run (Cert.MixersIdeal.defs (F := Ideal)) (onTc (τ := Cert.MixersIdeal.τ) (Cert.MixersIdeal.main (F := Ideal))) ⟨m, fun _ => 0, g⟩ (fun r => (∀ c : Dev Cert.MixersIdeal.nD,
      r.2.mem ((c.tc : Thread Cert.MixersIdeal.nD Cert.MixersIdeal.τ).loc Cert.MixersIdeal.main_arg0) = m ((c.tc : Thread Cert.MixersIdeal.nD Cert.MixersIdeal.τ).loc Cert.MixersIdeal.main_arg0)
      ∧ r.2.mem ((c.tc : Thread Cert.MixersIdeal.nD Cert.MixersIdeal.τ).loc Cert.MixersIdeal.main_arg1) = m ((c.tc : Thread Cert.MixersIdeal.nD Cert.MixersIdeal.τ).loc Cert.MixersIdeal.main_arg1)
      ∧ r.2.mem ((c.tc : Thread Cert.MixersIdeal.nD Cert.MixersIdeal.τ).loc Cert.MixersIdeal.main_arg2) = m ((c.tc : Thread Cert.MixersIdeal.nD Cert.MixersIdeal.τ).loc Cert.MixersIdeal.main_arg2))
      ∧ r.2.sem = fun _ => 0)

def quiescent_MixersRefIdeal [hMixersRefIdeal : Cert.MixersRefIdeal.Facts] : Prop :=
  ∀ (m : (ℓ : Loc Cert.MixersRefIdeal.nD Cert.MixersRefIdeal.τ Cert.MixersRefIdeal.sig) → Buf (Elt Ideal) ℓ) (g : Dev Cert.MixersRefIdeal.nD → PrngReg), Pre_MixersRefIdeal m →
    θ_run (Cert.MixersRefIdeal.defs (F := Ideal)) (onTc (τ := Cert.MixersRefIdeal.τ) (Cert.MixersRefIdeal.main (F := Ideal))) ⟨m, fun _ => 0, g⟩ (fun r => (∀ c : Dev Cert.MixersRefIdeal.nD,
      r.2.mem ((c.tc : Thread Cert.MixersRefIdeal.nD Cert.MixersRefIdeal.τ).loc Cert.MixersRefIdeal.main_arg0) = m ((c.tc : Thread Cert.MixersRefIdeal.nD Cert.MixersRefIdeal.τ).loc Cert.MixersRefIdeal.main_arg0)
      ∧ r.2.mem ((c.tc : Thread Cert.MixersRefIdeal.nD Cert.MixersRefIdeal.τ).loc Cert.MixersRefIdeal.main_arg1) = m ((c.tc : Thread Cert.MixersRefIdeal.nD Cert.MixersRefIdeal.τ).loc Cert.MixersRefIdeal.main_arg1)
      ∧ r.2.mem ((c.tc : Thread Cert.MixersRefIdeal.nD Cert.MixersRefIdeal.τ).loc Cert.MixersRefIdeal.main_arg2) = m ((c.tc : Thread Cert.MixersRefIdeal.nD Cert.MixersRefIdeal.τ).loc Cert.MixersRefIdeal.main_arg2))
      ∧ r.2.sem = fun _ => 0)

def quiescent_Decay [hDecay : Cert.Decay.Facts] : Prop :=
  ∀ (m : (ℓ : Loc Cert.Decay.nD Cert.Decay.τ Cert.Decay.sig) → Buf (Elt Bits) ℓ) (g : Dev Cert.Decay.nD → PrngReg), Pre_Decay m →
    θ_run (Cert.Decay.defs (F := Bits)) (onTc (τ := Cert.Decay.τ) (Cert.Decay.main (F := Bits))) ⟨m, fun _ => 0, g⟩ (fun r => (∀ c : Dev Cert.Decay.nD,
      r.2.mem ((c.tc : Thread Cert.Decay.nD Cert.Decay.τ).loc Cert.Decay.main_arg0) = m ((c.tc : Thread Cert.Decay.nD Cert.Decay.τ).loc Cert.Decay.main_arg0)
      ∧ r.2.mem ((c.tc : Thread Cert.Decay.nD Cert.Decay.τ).loc Cert.Decay.main_arg1) = m ((c.tc : Thread Cert.Decay.nD Cert.Decay.τ).loc Cert.Decay.main_arg1))
      ∧ r.2.sem = fun _ => 0)

def quiescent_DecayIdeal [hDecayIdeal : Cert.DecayIdeal.Facts] : Prop :=
  ∀ (m : (ℓ : Loc Cert.DecayIdeal.nD Cert.DecayIdeal.τ Cert.DecayIdeal.sig) → Buf (Elt Ideal) ℓ) (g : Dev Cert.DecayIdeal.nD → PrngReg), Pre_DecayIdeal m →
    θ_run (Cert.DecayIdeal.defs (F := Ideal)) (onTc (τ := Cert.DecayIdeal.τ) (Cert.DecayIdeal.main (F := Ideal))) ⟨m, fun _ => 0, g⟩ (fun r => (∀ c : Dev Cert.DecayIdeal.nD,
      r.2.mem ((c.tc : Thread Cert.DecayIdeal.nD Cert.DecayIdeal.τ).loc Cert.DecayIdeal.main_arg0) = m ((c.tc : Thread Cert.DecayIdeal.nD Cert.DecayIdeal.τ).loc Cert.DecayIdeal.main_arg0)
      ∧ r.2.mem ((c.tc : Thread Cert.DecayIdeal.nD Cert.DecayIdeal.τ).loc Cert.DecayIdeal.main_arg1) = m ((c.tc : Thread Cert.DecayIdeal.nD Cert.DecayIdeal.τ).loc Cert.DecayIdeal.main_arg1))
      ∧ r.2.sem = fun _ => 0)

def quiescent_DecayRefIdeal [hDecayRefIdeal : Cert.DecayRefIdeal.Facts] : Prop :=
  ∀ (m : (ℓ : Loc Cert.DecayRefIdeal.nD Cert.DecayRefIdeal.τ Cert.DecayRefIdeal.sig) → Buf (Elt Ideal) ℓ) (g : Dev Cert.DecayRefIdeal.nD → PrngReg), Pre_DecayRefIdeal m →
    θ_run (Cert.DecayRefIdeal.defs (F := Ideal)) (onTc (τ := Cert.DecayRefIdeal.τ) (Cert.DecayRefIdeal.main (F := Ideal))) ⟨m, fun _ => 0, g⟩ (fun r => (∀ c : Dev Cert.DecayRefIdeal.nD,
      r.2.mem ((c.tc : Thread Cert.DecayRefIdeal.nD Cert.DecayRefIdeal.τ).loc Cert.DecayRefIdeal.main_arg0) = m ((c.tc : Thread Cert.DecayRefIdeal.nD Cert.DecayRefIdeal.τ).loc Cert.DecayRefIdeal.main_arg0)
      ∧ r.2.mem ((c.tc : Thread Cert.DecayRefIdeal.nD Cert.DecayRefIdeal.τ).loc Cert.DecayRefIdeal.main_arg1) = m ((c.tc : Thread Cert.DecayRefIdeal.nD Cert.DecayRefIdeal.τ).loc Cert.DecayRefIdeal.main_arg1))
      ∧ r.2.sem = fun _ => 0)

def quiescent_Short [hShort : Cert.Short.Facts] : Prop :=
  ∀ (m : (ℓ : Loc Cert.Short.nD Cert.Short.τ Cert.Short.sig) → Buf (Elt Bits) ℓ) (g : Dev Cert.Short.nD → PrngReg), Pre_Short m →
    θ_run (Cert.Short.defs (F := Bits)) (onTc (τ := Cert.Short.τ) (Cert.Short.main (F := Bits))) ⟨m, fun _ => 0, g⟩ (fun r => (∀ c : Dev Cert.Short.nD,
      r.2.mem ((c.tc : Thread Cert.Short.nD Cert.Short.τ).loc Cert.Short.main_arg0) = m ((c.tc : Thread Cert.Short.nD Cert.Short.τ).loc Cert.Short.main_arg0)
      ∧ r.2.mem ((c.tc : Thread Cert.Short.nD Cert.Short.τ).loc Cert.Short.main_arg1) = m ((c.tc : Thread Cert.Short.nD Cert.Short.τ).loc Cert.Short.main_arg1))
      ∧ r.2.sem = fun _ => 0)

def quiescent_ShortIdeal [hShortIdeal : Cert.ShortIdeal.Facts] : Prop :=
  ∀ (m : (ℓ : Loc Cert.ShortIdeal.nD Cert.ShortIdeal.τ Cert.ShortIdeal.sig) → Buf (Elt Ideal) ℓ) (g : Dev Cert.ShortIdeal.nD → PrngReg), Pre_ShortIdeal m →
    θ_run (Cert.ShortIdeal.defs (F := Ideal)) (onTc (τ := Cert.ShortIdeal.τ) (Cert.ShortIdeal.main (F := Ideal))) ⟨m, fun _ => 0, g⟩ (fun r => (∀ c : Dev Cert.ShortIdeal.nD,
      r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
      ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1))
      ∧ r.2.sem = fun _ => 0)

def quiescent_ShortRefIdeal [hShortRefIdeal : Cert.ShortRefIdeal.Facts] : Prop :=
  ∀ (m : (ℓ : Loc Cert.ShortRefIdeal.nD Cert.ShortRefIdeal.τ Cert.ShortRefIdeal.sig) → Buf (Elt Ideal) ℓ) (g : Dev Cert.ShortRefIdeal.nD → PrngReg), Pre_ShortRefIdeal m →
    θ_run (Cert.ShortRefIdeal.defs (F := Ideal)) (onTc (τ := Cert.ShortRefIdeal.τ) (Cert.ShortRefIdeal.main (F := Ideal))) ⟨m, fun _ => 0, g⟩ (fun r => (∀ c : Dev Cert.ShortRefIdeal.nD,
      r.2.mem ((c.tc : Thread Cert.ShortRefIdeal.nD Cert.ShortRefIdeal.τ).loc Cert.ShortRefIdeal.main_arg0) = m ((c.tc : Thread Cert.ShortRefIdeal.nD Cert.ShortRefIdeal.τ).loc Cert.ShortRefIdeal.main_arg0)
      ∧ r.2.mem ((c.tc : Thread Cert.ShortRefIdeal.nD Cert.ShortRefIdeal.τ).loc Cert.ShortRefIdeal.main_arg1) = m ((c.tc : Thread Cert.ShortRefIdeal.nD Cert.ShortRefIdeal.τ).loc Cert.ShortRefIdeal.main_arg1))
      ∧ r.2.sem = fun _ => 0)

def quiescent_GlaOut [hGlaOut : Cert.GlaOut.Facts] : Prop :=
  ∀ (m : (ℓ : Loc Cert.GlaOut.nD Cert.GlaOut.τ Cert.GlaOut.sig) → Buf (Elt Bits) ℓ) (g : Dev Cert.GlaOut.nD → PrngReg), Pre_GlaOut m →
    θ_run (Cert.GlaOut.defs (F := Bits)) (onTc (τ := Cert.GlaOut.τ) (Cert.GlaOut.main (F := Bits))) ⟨m, fun _ => 0, g⟩ (fun r => (∀ c : Dev Cert.GlaOut.nD,
      r.2.mem ((c.tc : Thread Cert.GlaOut.nD Cert.GlaOut.τ).loc Cert.GlaOut.main_arg0) = m ((c.tc : Thread Cert.GlaOut.nD Cert.GlaOut.τ).loc Cert.GlaOut.main_arg0)
      ∧ r.2.mem ((c.tc : Thread Cert.GlaOut.nD Cert.GlaOut.τ).loc Cert.GlaOut.main_arg1) = m ((c.tc : Thread Cert.GlaOut.nD Cert.GlaOut.τ).loc Cert.GlaOut.main_arg1)
      ∧ r.2.mem ((c.tc : Thread Cert.GlaOut.nD Cert.GlaOut.τ).loc Cert.GlaOut.main_arg2) = m ((c.tc : Thread Cert.GlaOut.nD Cert.GlaOut.τ).loc Cert.GlaOut.main_arg2)
      ∧ r.2.mem ((c.tc : Thread Cert.GlaOut.nD Cert.GlaOut.τ).loc Cert.GlaOut.main_arg3) = m ((c.tc : Thread Cert.GlaOut.nD Cert.GlaOut.τ).loc Cert.GlaOut.main_arg3))
      ∧ r.2.sem = fun _ => 0)

def quiescent_GlaOutIdeal [hGlaOutIdeal : Cert.GlaOutIdeal.Facts] : Prop :=
  ∀ (m : (ℓ : Loc Cert.GlaOutIdeal.nD Cert.GlaOutIdeal.τ Cert.GlaOutIdeal.sig) → Buf (Elt Ideal) ℓ) (g : Dev Cert.GlaOutIdeal.nD → PrngReg), Pre_GlaOutIdeal m →
    θ_run (Cert.GlaOutIdeal.defs (F := Ideal)) (onTc (τ := Cert.GlaOutIdeal.τ) (Cert.GlaOutIdeal.main (F := Ideal))) ⟨m, fun _ => 0, g⟩ (fun r => (∀ c : Dev Cert.GlaOutIdeal.nD,
      r.2.mem ((c.tc : Thread Cert.GlaOutIdeal.nD Cert.GlaOutIdeal.τ).loc Cert.GlaOutIdeal.main_arg0) = m ((c.tc : Thread Cert.GlaOutIdeal.nD Cert.GlaOutIdeal.τ).loc Cert.GlaOutIdeal.main_arg0)
      ∧ r.2.mem ((c.tc : Thread Cert.GlaOutIdeal.nD Cert.GlaOutIdeal.τ).loc Cert.GlaOutIdeal.main_arg1) = m ((c.tc : Thread Cert.GlaOutIdeal.nD Cert.GlaOutIdeal.τ).loc Cert.GlaOutIdeal.main_arg1)
      ∧ r.2.mem ((c.tc : Thread Cert.GlaOutIdeal.nD Cert.GlaOutIdeal.τ).loc Cert.GlaOutIdeal.main_arg2) = m ((c.tc : Thread Cert.GlaOutIdeal.nD Cert.GlaOutIdeal.τ).loc Cert.GlaOutIdeal.main_arg2)
      ∧ r.2.mem ((c.tc : Thread Cert.GlaOutIdeal.nD Cert.GlaOutIdeal.τ).loc Cert.GlaOutIdeal.main_arg3) = m ((c.tc : Thread Cert.GlaOutIdeal.nD Cert.GlaOutIdeal.τ).loc Cert.GlaOutIdeal.main_arg3))
      ∧ r.2.sem = fun _ => 0)

def quiescent_GlaOutRefIdeal [hGlaOutRefIdeal : Cert.GlaOutRefIdeal.Facts] : Prop :=
  ∀ (m : (ℓ : Loc Cert.GlaOutRefIdeal.nD Cert.GlaOutRefIdeal.τ Cert.GlaOutRefIdeal.sig) → Buf (Elt Ideal) ℓ) (g : Dev Cert.GlaOutRefIdeal.nD → PrngReg), Pre_GlaOutRefIdeal m →
    θ_run (Cert.GlaOutRefIdeal.defs (F := Ideal)) (onTc (τ := Cert.GlaOutRefIdeal.τ) (Cert.GlaOutRefIdeal.main (F := Ideal))) ⟨m, fun _ => 0, g⟩ (fun r => (∀ c : Dev Cert.GlaOutRefIdeal.nD,
      r.2.mem ((c.tc : Thread Cert.GlaOutRefIdeal.nD Cert.GlaOutRefIdeal.τ).loc Cert.GlaOutRefIdeal.main_arg0) = m ((c.tc : Thread Cert.GlaOutRefIdeal.nD Cert.GlaOutRefIdeal.τ).loc Cert.GlaOutRefIdeal.main_arg0)
      ∧ r.2.mem ((c.tc : Thread Cert.GlaOutRefIdeal.nD Cert.GlaOutRefIdeal.τ).loc Cert.GlaOutRefIdeal.main_arg1) = m ((c.tc : Thread Cert.GlaOutRefIdeal.nD Cert.GlaOutRefIdeal.τ).loc Cert.GlaOutRefIdeal.main_arg1)
      ∧ r.2.mem ((c.tc : Thread Cert.GlaOutRefIdeal.nD Cert.GlaOutRefIdeal.τ).loc Cert.GlaOutRefIdeal.main_arg2) = m ((c.tc : Thread Cert.GlaOutRefIdeal.nD Cert.GlaOutRefIdeal.τ).loc Cert.GlaOutRefIdeal.main_arg2)
      ∧ r.2.mem ((c.tc : Thread Cert.GlaOutRefIdeal.nD Cert.GlaOutRefIdeal.τ).loc Cert.GlaOutRefIdeal.main_arg3) = m ((c.tc : Thread Cert.GlaOutRefIdeal.nD Cert.GlaOutRefIdeal.τ).loc Cert.GlaOutRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Lna [hLna : Cert.Lna.Facts] : Prop :=
  ∀ (m : (ℓ : Loc Cert.Lna.nD Cert.Lna.τ Cert.Lna.sig) → Buf (Elt Bits) ℓ) (g : Dev Cert.Lna.nD → PrngReg), Pre_Lna m →
    θ_run (Cert.Lna.defs (F := Bits)) (onTc (τ := Cert.Lna.τ) (Cert.Lna.main (F := Bits))) ⟨m, fun _ => 0, g⟩ (fun r => (∀ c : Dev Cert.Lna.nD,
      r.2.mem ((c.tc : Thread Cert.Lna.nD Cert.Lna.τ).loc Cert.Lna.main_arg0) = m ((c.tc : Thread Cert.Lna.nD Cert.Lna.τ).loc Cert.Lna.main_arg0)
      ∧ r.2.mem ((c.tc : Thread Cert.Lna.nD Cert.Lna.τ).loc Cert.Lna.main_arg1) = m ((c.tc : Thread Cert.Lna.nD Cert.Lna.τ).loc Cert.Lna.main_arg1)
      ∧ r.2.mem ((c.tc : Thread Cert.Lna.nD Cert.Lna.τ).loc Cert.Lna.main_arg2) = m ((c.tc : Thread Cert.Lna.nD Cert.Lna.τ).loc Cert.Lna.main_arg2))
      ∧ r.2.sem = fun _ => 0)

def quiescent_LnaIdeal [hLnaIdeal : Cert.LnaIdeal.Facts] : Prop :=
  ∀ (m : (ℓ : Loc Cert.LnaIdeal.nD Cert.LnaIdeal.τ Cert.LnaIdeal.sig) → Buf (Elt Ideal) ℓ) (g : Dev Cert.LnaIdeal.nD → PrngReg), Pre_LnaIdeal m →
    θ_run (Cert.LnaIdeal.defs (F := Ideal)) (onTc (τ := Cert.LnaIdeal.τ) (Cert.LnaIdeal.main (F := Ideal))) ⟨m, fun _ => 0, g⟩ (fun r => (∀ c : Dev Cert.LnaIdeal.nD,
      r.2.mem ((c.tc : Thread Cert.LnaIdeal.nD Cert.LnaIdeal.τ).loc Cert.LnaIdeal.main_arg0) = m ((c.tc : Thread Cert.LnaIdeal.nD Cert.LnaIdeal.τ).loc Cert.LnaIdeal.main_arg0)
      ∧ r.2.mem ((c.tc : Thread Cert.LnaIdeal.nD Cert.LnaIdeal.τ).loc Cert.LnaIdeal.main_arg1) = m ((c.tc : Thread Cert.LnaIdeal.nD Cert.LnaIdeal.τ).loc Cert.LnaIdeal.main_arg1)
      ∧ r.2.mem ((c.tc : Thread Cert.LnaIdeal.nD Cert.LnaIdeal.τ).loc Cert.LnaIdeal.main_arg2) = m ((c.tc : Thread Cert.LnaIdeal.nD Cert.LnaIdeal.τ).loc Cert.LnaIdeal.main_arg2))
      ∧ r.2.sem = fun _ => 0)

def quiescent_LnaRefIdeal [hLnaRefIdeal : Cert.LnaRefIdeal.Facts] : Prop :=
  ∀ (m : (ℓ : Loc Cert.LnaRefIdeal.nD Cert.LnaRefIdeal.τ Cert.LnaRefIdeal.sig) → Buf (Elt Ideal) ℓ) (g : Dev Cert.LnaRefIdeal.nD → PrngReg), Pre_LnaRefIdeal m →
    θ_run (Cert.LnaRefIdeal.defs (F := Ideal)) (onTc (τ := Cert.LnaRefIdeal.τ) (Cert.LnaRefIdeal.main (F := Ideal))) ⟨m, fun _ => 0, g⟩ (fun r => (∀ c : Dev Cert.LnaRefIdeal.nD,
      r.2.mem ((c.tc : Thread Cert.LnaRefIdeal.nD Cert.LnaRefIdeal.τ).loc Cert.LnaRefIdeal.main_arg0) = m ((c.tc : Thread Cert.LnaRefIdeal.nD Cert.LnaRefIdeal.τ).loc Cert.LnaRefIdeal.main_arg0)
      ∧ r.2.mem ((c.tc : Thread Cert.LnaRefIdeal.nD Cert.LnaRefIdeal.τ).loc Cert.LnaRefIdeal.main_arg1) = m ((c.tc : Thread Cert.LnaRefIdeal.nD Cert.LnaRefIdeal.τ).loc Cert.LnaRefIdeal.main_arg1)
      ∧ r.2.mem ((c.tc : Thread Cert.LnaRefIdeal.nD Cert.LnaRefIdeal.τ).loc Cert.LnaRefIdeal.main_arg2) = m ((c.tc : Thread Cert.LnaRefIdeal.nD Cert.LnaRefIdeal.τ).loc Cert.LnaRefIdeal.main_arg2))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1))
      ∧ r.2.sem = fun _ => 0)

def quiescent_Lnb [hLnb : Cert.Lnb.Facts] : Prop :=
  ∀ (m : (ℓ : Loc Cert.Lnb.nD Cert.Lnb.τ Cert.Lnb.sig) → Buf (Elt Bits) ℓ) (g : Dev Cert.Lnb.nD → PrngReg), Pre_Lnb m →
    θ_run (Cert.Lnb.defs (F := Bits)) (onTc (τ := Cert.Lnb.τ) (Cert.Lnb.main (F := Bits))) ⟨m, fun _ => 0, g⟩ (fun r => (∀ c : Dev Cert.Lnb.nD,
      r.2.mem ((c.tc : Thread Cert.Lnb.nD Cert.Lnb.τ).loc Cert.Lnb.main_arg0) = m ((c.tc : Thread Cert.Lnb.nD Cert.Lnb.τ).loc Cert.Lnb.main_arg0)
      ∧ r.2.mem ((c.tc : Thread Cert.Lnb.nD Cert.Lnb.τ).loc Cert.Lnb.main_arg1) = m ((c.tc : Thread Cert.Lnb.nD Cert.Lnb.τ).loc Cert.Lnb.main_arg1)
      ∧ r.2.mem ((c.tc : Thread Cert.Lnb.nD Cert.Lnb.τ).loc Cert.Lnb.main_arg2) = m ((c.tc : Thread Cert.Lnb.nD Cert.Lnb.τ).loc Cert.Lnb.main_arg2)
      ∧ r.2.mem ((c.tc : Thread Cert.Lnb.nD Cert.Lnb.τ).loc Cert.Lnb.main_arg3) = m ((c.tc : Thread Cert.Lnb.nD Cert.Lnb.τ).loc Cert.Lnb.main_arg3)
      ∧ r.2.mem ((c.tc : Thread Cert.Lnb.nD Cert.Lnb.τ).loc Cert.Lnb.main_arg4) = m ((c.tc : Thread Cert.Lnb.nD Cert.Lnb.τ).loc Cert.Lnb.main_arg4)
      ∧ r.2.mem ((c.tc : Thread Cert.Lnb.nD Cert.Lnb.τ).loc Cert.Lnb.main_arg5) = m ((c.tc : Thread Cert.Lnb.nD Cert.Lnb.τ).loc Cert.Lnb.main_arg5))
      ∧ r.2.sem = fun _ => 0)

def quiescent_LnbIdeal [hLnbIdeal : Cert.LnbIdeal.Facts] : Prop :=
  ∀ (m : (ℓ : Loc Cert.LnbIdeal.nD Cert.LnbIdeal.τ Cert.LnbIdeal.sig) → Buf (Elt Ideal) ℓ) (g : Dev Cert.LnbIdeal.nD → PrngReg), Pre_LnbIdeal m →
    θ_run (Cert.LnbIdeal.defs (F := Ideal)) (onTc (τ := Cert.LnbIdeal.τ) (Cert.LnbIdeal.main (F := Ideal))) ⟨m, fun _ => 0, g⟩ (fun r => (∀ c : Dev Cert.LnbIdeal.nD,
      r.2.mem ((c.tc : Thread Cert.LnbIdeal.nD Cert.LnbIdeal.τ).loc Cert.LnbIdeal.main_arg0) = m ((c.tc : Thread Cert.LnbIdeal.nD Cert.LnbIdeal.τ).loc Cert.LnbIdeal.main_arg0)
      ∧ r.2.mem ((c.tc : Thread Cert.LnbIdeal.nD Cert.LnbIdeal.τ).loc Cert.LnbIdeal.main_arg1) = m ((c.tc : Thread Cert.LnbIdeal.nD Cert.LnbIdeal.τ).loc Cert.LnbIdeal.main_arg1)
      ∧ r.2.mem ((c.tc : Thread Cert.LnbIdeal.nD Cert.LnbIdeal.τ).loc Cert.LnbIdeal.main_arg2) = m ((c.tc : Thread Cert.LnbIdeal.nD Cert.LnbIdeal.τ).loc Cert.LnbIdeal.main_arg2)
      ∧ r.2.mem ((c.tc : Thread Cert.LnbIdeal.nD Cert.LnbIdeal.τ).loc Cert.LnbIdeal.main_arg3) = m ((c.tc : Thread Cert.LnbIdeal.nD Cert.LnbIdeal.τ).loc Cert.LnbIdeal.main_arg3)
      ∧ r.2.mem ((c.tc : Thread Cert.LnbIdeal.nD Cert.LnbIdeal.τ).loc Cert.LnbIdeal.main_arg4) = m ((c.tc : Thread Cert.LnbIdeal.nD Cert.LnbIdeal.τ).loc Cert.LnbIdeal.main_arg4)
      ∧ r.2.mem ((c.tc : Thread Cert.LnbIdeal.nD Cert.LnbIdeal.τ).loc Cert.LnbIdeal.main_arg5) = m ((c.tc : Thread Cert.LnbIdeal.nD Cert.LnbIdeal.τ).loc Cert.LnbIdeal.main_arg5))
      ∧ r.2.sem = fun _ => 0)

def quiescent_LnbRefIdeal [hLnbRefIdeal : Cert.LnbRefIdeal.Facts] : Prop :=
  ∀ (m : (ℓ : Loc Cert.LnbRefIdeal.nD Cert.LnbRefIdeal.τ Cert.LnbRefIdeal.sig) → Buf (Elt Ideal) ℓ) (g : Dev Cert.LnbRefIdeal.nD → PrngReg), Pre_LnbRefIdeal m →
    θ_run (Cert.LnbRefIdeal.defs (F := Ideal)) (onTc (τ := Cert.LnbRefIdeal.τ) (Cert.LnbRefIdeal.main (F := Ideal))) ⟨m, fun _ => 0, g⟩ (fun r => (∀ c : Dev Cert.LnbRefIdeal.nD,
      r.2.mem ((c.tc : Thread Cert.LnbRefIdeal.nD Cert.LnbRefIdeal.τ).loc Cert.LnbRefIdeal.main_arg0) = m ((c.tc : Thread Cert.LnbRefIdeal.nD Cert.LnbRefIdeal.τ).loc Cert.LnbRefIdeal.main_arg0)
      ∧ r.2.mem ((c.tc : Thread Cert.LnbRefIdeal.nD Cert.LnbRefIdeal.τ).loc Cert.LnbRefIdeal.main_arg1) = m ((c.tc : Thread Cert.LnbRefIdeal.nD Cert.LnbRefIdeal.τ).loc Cert.LnbRefIdeal.main_arg1)
      ∧ r.2.mem ((c.tc : Thread Cert.LnbRefIdeal.nD Cert.LnbRefIdeal.τ).loc Cert.LnbRefIdeal.main_arg2) = m ((c.tc : Thread Cert.LnbRefIdeal.nD Cert.LnbRefIdeal.τ).loc Cert.LnbRefIdeal.main_arg2)
      ∧ r.2.mem ((c.tc : Thread Cert.LnbRefIdeal.nD Cert.LnbRefIdeal.τ).loc Cert.LnbRefIdeal.main_arg3) = m ((c.tc : Thread Cert.LnbRefIdeal.nD Cert.LnbRefIdeal.τ).loc Cert.LnbRefIdeal.main_arg3)
      ∧ r.2.mem ((c.tc : Thread Cert.LnbRefIdeal.nD Cert.LnbRefIdeal.τ).loc Cert.LnbRefIdeal.main_arg4) = m ((c.tc : Thread Cert.LnbRefIdeal.nD Cert.LnbRefIdeal.τ).loc Cert.LnbRefIdeal.main_arg4)
      ∧ r.2.mem ((c.tc : Thread Cert.LnbRefIdeal.nD Cert.LnbRefIdeal.τ).loc Cert.LnbRefIdeal.main_arg5) = m ((c.tc : Thread Cert.LnbRefIdeal.nD Cert.LnbRefIdeal.τ).loc Cert.LnbRefIdeal.main_arg5))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3))
      ∧ r.2.sem = fun _ => 0)

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)) →
    ∃ (v0 : (c : Dev Cert.GatesIdeal.nD) → Buf (Elt Ideal) ((c.tc : Thread Cert.GatesIdeal.nD Cert.GatesIdeal.τ).loc Cert.GatesIdeal.main_v6_0)) (v1 : (c : Dev Cert.GatesIdeal.nD) → Buf (Elt Ideal) ((c.tc : Thread Cert.GatesIdeal.nD Cert.GatesIdeal.τ).loc Cert.GatesIdeal.main_v6_1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v6_0) = v0 c
          ∧ r.2.mem ((c.tc : Thread Cert.GatesIdeal.nD Cert.GatesIdeal.τ).loc Cert.GatesIdeal.main_v6_1) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v17) = v0 c
          ∧ r.2.mem ((c.tc : Thread Cert.GatesRefIdeal.nD Cert.GatesRefIdeal.τ).loc Cert.GatesRefIdeal.main_v19) = v1 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3))

def preserves_Mixers_MixersIdeal : Prop :=
  True

def algebraic_MixersIdeal_MixersRefIdeal [hMixersIdeal : Cert.MixersIdeal.Facts] [hMixersRefIdeal : Cert.MixersRefIdeal.Facts] : Prop :=
  ∀ (m : (ℓ : Loc Cert.MixersIdeal.nD Cert.MixersIdeal.τ Cert.MixersIdeal.sig) → Buf (Elt Ideal) ℓ) (g : Dev Cert.MixersIdeal.nD → PrngReg)
    (m' : (ℓ : Loc Cert.MixersRefIdeal.nD Cert.MixersRefIdeal.τ Cert.MixersRefIdeal.sig) → Buf (Elt Ideal) ℓ) (g' : Dev Cert.MixersRefIdeal.nD → PrngReg), Pre_MixersIdeal m →
    (∀ c : Dev Cert.MixersIdeal.nD,
      m' ((c.tc : Thread Cert.MixersRefIdeal.nD Cert.MixersRefIdeal.τ).loc Cert.MixersRefIdeal.main_arg0) = m ((c.tc : Thread Cert.MixersIdeal.nD Cert.MixersIdeal.τ).loc Cert.MixersIdeal.main_arg0)
      ∧ m' ((c.tc : Thread Cert.MixersRefIdeal.nD Cert.MixersRefIdeal.τ).loc Cert.MixersRefIdeal.main_arg1) = m ((c.tc : Thread Cert.MixersIdeal.nD Cert.MixersIdeal.τ).loc Cert.MixersIdeal.main_arg1)
      ∧ m' ((c.tc : Thread Cert.MixersRefIdeal.nD Cert.MixersRefIdeal.τ).loc Cert.MixersRefIdeal.main_arg2) = m ((c.tc : Thread Cert.MixersIdeal.nD Cert.MixersIdeal.τ).loc Cert.MixersIdeal.main_arg2)) →
    ∃ (v0 : (c : Dev Cert.MixersIdeal.nD) → Buf (Elt Ideal) ((c.tc : Thread Cert.MixersIdeal.nD Cert.MixersIdeal.τ).loc Cert.MixersIdeal.main_v3_0)) (v1 : (c : Dev Cert.MixersIdeal.nD) → Buf (Elt Ideal) ((c.tc : Thread Cert.MixersIdeal.nD Cert.MixersIdeal.τ).loc Cert.MixersIdeal.main_v3_1)),
      θ_run (Cert.MixersIdeal.defs (F := Ideal)) (onTc (τ := Cert.MixersIdeal.τ) (Cert.MixersIdeal.main (F := Ideal))) ⟨m, fun _ => 0, g⟩ (fun r => ∀ c : Dev Cert.MixersIdeal.nD,
          r.2.mem ((c.tc : Thread Cert.MixersIdeal.nD Cert.MixersIdeal.τ).loc Cert.MixersIdeal.main_v3_0) = v0 c
          ∧ r.2.mem ((c.tc : Thread Cert.MixersIdeal.nD Cert.MixersIdeal.τ).loc Cert.MixersIdeal.main_v3_1) = v1 c
          ∧ r.2.mem ((c.tc : Thread Cert.MixersIdeal.nD Cert.MixersIdeal.τ).loc Cert.MixersIdeal.main_arg0) = m ((c.tc : Thread Cert.MixersIdeal.nD Cert.MixersIdeal.τ).loc Cert.MixersIdeal.main_arg0)
          ∧ r.2.mem ((c.tc : Thread Cert.MixersIdeal.nD Cert.MixersIdeal.τ).loc Cert.MixersIdeal.main_arg1) = m ((c.tc : Thread Cert.MixersIdeal.nD Cert.MixersIdeal.τ).loc Cert.MixersIdeal.main_arg1)
          ∧ r.2.mem ((c.tc : Thread Cert.MixersIdeal.nD Cert.MixersIdeal.τ).loc Cert.MixersIdeal.main_arg2) = m ((c.tc : Thread Cert.MixersIdeal.nD Cert.MixersIdeal.τ).loc Cert.MixersIdeal.main_arg2))
      ∧ θ_run (Cert.MixersRefIdeal.defs (F := Ideal)) (onTc (τ := Cert.MixersRefIdeal.τ) (Cert.MixersRefIdeal.main (F := Ideal))) ⟨m', fun _ => 0, g'⟩ (fun r => ∀ c : Dev Cert.MixersRefIdeal.nD,
          r.2.mem ((c.tc : Thread Cert.MixersRefIdeal.nD Cert.MixersRefIdeal.τ).loc Cert.MixersRefIdeal.main_v9) = v0 c
          ∧ r.2.mem ((c.tc : Thread Cert.MixersRefIdeal.nD Cert.MixersRefIdeal.τ).loc Cert.MixersRefIdeal.main_v11) = v1 c
          ∧ r.2.mem ((c.tc : Thread Cert.MixersRefIdeal.nD Cert.MixersRefIdeal.τ).loc Cert.MixersRefIdeal.main_arg0) = m' ((c.tc : Thread Cert.MixersRefIdeal.nD Cert.MixersRefIdeal.τ).loc Cert.MixersRefIdeal.main_arg0)
          ∧ r.2.mem ((c.tc : Thread Cert.MixersRefIdeal.nD Cert.MixersRefIdeal.τ).loc Cert.MixersRefIdeal.main_arg1) = m' ((c.tc : Thread Cert.MixersRefIdeal.nD Cert.MixersRefIdeal.τ).loc Cert.MixersRefIdeal.main_arg1)
          ∧ r.2.mem ((c.tc : Thread Cert.MixersRefIdeal.nD Cert.MixersRefIdeal.τ).loc Cert.MixersRefIdeal.main_arg2) = m' ((c.tc : Thread Cert.MixersRefIdeal.nD Cert.MixersRefIdeal.τ).loc Cert.MixersRefIdeal.main_arg2))

def preserves_Decay_DecayIdeal : Prop :=
  True

def algebraic_DecayIdeal_DecayRefIdeal [hDecayIdeal : Cert.DecayIdeal.Facts] [hDecayRefIdeal : Cert.DecayRefIdeal.Facts] : Prop :=
  ∀ (m : (ℓ : Loc Cert.DecayIdeal.nD Cert.DecayIdeal.τ Cert.DecayIdeal.sig) → Buf (Elt Ideal) ℓ) (g : Dev Cert.DecayIdeal.nD → PrngReg)
    (m' : (ℓ : Loc Cert.DecayRefIdeal.nD Cert.DecayRefIdeal.τ Cert.DecayRefIdeal.sig) → Buf (Elt Ideal) ℓ) (g' : Dev Cert.DecayRefIdeal.nD → PrngReg), Pre_DecayIdeal m →
    (∀ c : Dev Cert.DecayIdeal.nD,
      m' ((c.tc : Thread Cert.DecayRefIdeal.nD Cert.DecayRefIdeal.τ).loc Cert.DecayRefIdeal.main_arg0) = m ((c.tc : Thread Cert.DecayIdeal.nD Cert.DecayIdeal.τ).loc Cert.DecayIdeal.main_arg0)
      ∧ m' ((c.tc : Thread Cert.DecayRefIdeal.nD Cert.DecayRefIdeal.τ).loc Cert.DecayRefIdeal.main_arg1) = m ((c.tc : Thread Cert.DecayIdeal.nD Cert.DecayIdeal.τ).loc Cert.DecayIdeal.main_arg1)) →
    ∃ (v0 : (c : Dev Cert.DecayIdeal.nD) → Buf (Elt Ideal) ((c.tc : Thread Cert.DecayIdeal.nD Cert.DecayIdeal.τ).loc Cert.DecayIdeal.main_v3)),
      θ_run (Cert.DecayIdeal.defs (F := Ideal)) (onTc (τ := Cert.DecayIdeal.τ) (Cert.DecayIdeal.main (F := Ideal))) ⟨m, fun _ => 0, g⟩ (fun r => ∀ c : Dev Cert.DecayIdeal.nD,
          r.2.mem ((c.tc : Thread Cert.DecayIdeal.nD Cert.DecayIdeal.τ).loc Cert.DecayIdeal.main_v3) = v0 c
          ∧ r.2.mem ((c.tc : Thread Cert.DecayIdeal.nD Cert.DecayIdeal.τ).loc Cert.DecayIdeal.main_arg0) = m ((c.tc : Thread Cert.DecayIdeal.nD Cert.DecayIdeal.τ).loc Cert.DecayIdeal.main_arg0)
          ∧ r.2.mem ((c.tc : Thread Cert.DecayIdeal.nD Cert.DecayIdeal.τ).loc Cert.DecayIdeal.main_arg1) = m ((c.tc : Thread Cert.DecayIdeal.nD Cert.DecayIdeal.τ).loc Cert.DecayIdeal.main_arg1))
      ∧ θ_run (Cert.DecayRefIdeal.defs (F := Ideal)) (onTc (τ := Cert.DecayRefIdeal.τ) (Cert.DecayRefIdeal.main (F := Ideal))) ⟨m', fun _ => 0, g'⟩ (fun r => ∀ c : Dev Cert.DecayRefIdeal.nD,
          r.2.mem ((c.tc : Thread Cert.DecayRefIdeal.nD Cert.DecayRefIdeal.τ).loc Cert.DecayRefIdeal.main_v4) = v0 c
          ∧ r.2.mem ((c.tc : Thread Cert.DecayRefIdeal.nD Cert.DecayRefIdeal.τ).loc Cert.DecayRefIdeal.main_arg0) = m' ((c.tc : Thread Cert.DecayRefIdeal.nD Cert.DecayRefIdeal.τ).loc Cert.DecayRefIdeal.main_arg0)
          ∧ r.2.mem ((c.tc : Thread Cert.DecayRefIdeal.nD Cert.DecayRefIdeal.τ).loc Cert.DecayRefIdeal.main_arg1) = m' ((c.tc : Thread Cert.DecayRefIdeal.nD Cert.DecayRefIdeal.τ).loc Cert.DecayRefIdeal.main_arg1))

def preserves_Short_ShortIdeal : Prop :=
  True

def algebraic_ShortIdeal_ShortRefIdeal [hShortIdeal : Cert.ShortIdeal.Facts] [hShortRefIdeal : Cert.ShortRefIdeal.Facts] : Prop :=
  ∀ (m : (ℓ : Loc Cert.ShortIdeal.nD Cert.ShortIdeal.τ Cert.ShortIdeal.sig) → Buf (Elt Ideal) ℓ) (g : Dev Cert.ShortIdeal.nD → PrngReg)
    (m' : (ℓ : Loc Cert.ShortRefIdeal.nD Cert.ShortRefIdeal.τ Cert.ShortRefIdeal.sig) → Buf (Elt Ideal) ℓ) (g' : Dev Cert.ShortRefIdeal.nD → PrngReg), Pre_ShortIdeal m →
    (∀ c : Dev Cert.ShortIdeal.nD,
      m' ((c.tc : Thread Cert.ShortRefIdeal.nD Cert.ShortRefIdeal.τ).loc Cert.ShortRefIdeal.main_arg0) = m ((c.tc : Thread Cert.ShortIdeal.nD Cert.ShortIdeal.τ).loc Cert.ShortIdeal.main_arg0)
      ∧ m' ((c.tc : Thread Cert.ShortRefIdeal.nD Cert.ShortRefIdeal.τ).loc Cert.ShortRefIdeal.main_arg1) = m ((c.tc : Thread Cert.ShortIdeal.nD Cert.ShortIdeal.τ).loc Cert.ShortIdeal.main_arg1)) →
    ∃ (v0 : (c : Dev Cert.ShortIdeal.nD) → Buf (Elt Ideal) ((c.tc : Thread Cert.ShortIdeal.nD Cert.ShortIdeal.τ).loc Cert.ShortIdeal.main_v2)),
      θ_run (Cert.ShortIdeal.defs (F := Ideal)) (onTc (τ := Cert.ShortIdeal.τ) (Cert.ShortIdeal.main (F := Ideal))) ⟨m, fun _ => 0, g⟩ (fun r => ∀ c : Dev Cert.ShortIdeal.nD,
          r.2.mem ((c.tc : Thread Cert.ShortIdeal.nD Cert.ShortIdeal.τ).loc Cert.ShortIdeal.main_v2) = v0 c
          ∧ r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
          ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1))
      ∧ θ_run (Cert.ShortRefIdeal.defs (F := Ideal)) (onTc (τ := Cert.ShortRefIdeal.τ) (Cert.ShortRefIdeal.main (F := Ideal))) ⟨m', fun _ => 0, g'⟩ (fun r => ∀ c : Dev Cert.ShortRefIdeal.nD,
          r.2.mem ((c.tc : Thread Cert.ShortRefIdeal.nD Cert.ShortRefIdeal.τ).loc Cert.ShortRefIdeal.main_v33) = v0 c
          ∧ r.2.mem ((c.tc : Thread Cert.ShortRefIdeal.nD Cert.ShortRefIdeal.τ).loc Cert.ShortRefIdeal.main_arg0) = m' ((c.tc : Thread Cert.ShortRefIdeal.nD Cert.ShortRefIdeal.τ).loc Cert.ShortRefIdeal.main_arg0)
          ∧ r.2.mem ((c.tc : Thread Cert.ShortRefIdeal.nD Cert.ShortRefIdeal.τ).loc Cert.ShortRefIdeal.main_arg1) = m' ((c.tc : Thread Cert.ShortRefIdeal.nD Cert.ShortRefIdeal.τ).loc Cert.ShortRefIdeal.main_arg1))

def preserves_GlaOut_GlaOutIdeal : Prop :=
  True

def algebraic_GlaOutIdeal_GlaOutRefIdeal [hGlaOutIdeal : Cert.GlaOutIdeal.Facts] [hGlaOutRefIdeal : Cert.GlaOutRefIdeal.Facts] : Prop :=
  ∀ (m : (ℓ : Loc Cert.GlaOutIdeal.nD Cert.GlaOutIdeal.τ Cert.GlaOutIdeal.sig) → Buf (Elt Ideal) ℓ) (g : Dev Cert.GlaOutIdeal.nD → PrngReg)
    (m' : (ℓ : Loc Cert.GlaOutRefIdeal.nD Cert.GlaOutRefIdeal.τ Cert.GlaOutRefIdeal.sig) → Buf (Elt Ideal) ℓ) (g' : Dev Cert.GlaOutRefIdeal.nD → PrngReg), Pre_GlaOutIdeal m →
    (∀ c : Dev Cert.GlaOutIdeal.nD,
      m' ((c.tc : Thread Cert.GlaOutRefIdeal.nD Cert.GlaOutRefIdeal.τ).loc Cert.GlaOutRefIdeal.main_arg0) = m ((c.tc : Thread Cert.GlaOutIdeal.nD Cert.GlaOutIdeal.τ).loc Cert.GlaOutIdeal.main_arg0)
      ∧ m' ((c.tc : Thread Cert.GlaOutRefIdeal.nD Cert.GlaOutRefIdeal.τ).loc Cert.GlaOutRefIdeal.main_arg1) = m ((c.tc : Thread Cert.GlaOutIdeal.nD Cert.GlaOutIdeal.τ).loc Cert.GlaOutIdeal.main_arg1)
      ∧ m' ((c.tc : Thread Cert.GlaOutRefIdeal.nD Cert.GlaOutRefIdeal.τ).loc Cert.GlaOutRefIdeal.main_arg2) = m ((c.tc : Thread Cert.GlaOutIdeal.nD Cert.GlaOutIdeal.τ).loc Cert.GlaOutIdeal.main_arg2)
      ∧ m' ((c.tc : Thread Cert.GlaOutRefIdeal.nD Cert.GlaOutRefIdeal.τ).loc Cert.GlaOutRefIdeal.main_arg3) = m ((c.tc : Thread Cert.GlaOutIdeal.nD Cert.GlaOutIdeal.τ).loc Cert.GlaOutIdeal.main_arg3)) →
    ∃ (v0 : (c : Dev Cert.GlaOutIdeal.nD) → Buf (Elt Ideal) ((c.tc : Thread Cert.GlaOutIdeal.nD Cert.GlaOutIdeal.τ).loc Cert.GlaOutIdeal.main_v3)),
      θ_run (Cert.GlaOutIdeal.defs (F := Ideal)) (onTc (τ := Cert.GlaOutIdeal.τ) (Cert.GlaOutIdeal.main (F := Ideal))) ⟨m, fun _ => 0, g⟩ (fun r => ∀ c : Dev Cert.GlaOutIdeal.nD,
          r.2.mem ((c.tc : Thread Cert.GlaOutIdeal.nD Cert.GlaOutIdeal.τ).loc Cert.GlaOutIdeal.main_v3) = v0 c
          ∧ r.2.mem ((c.tc : Thread Cert.GlaOutIdeal.nD Cert.GlaOutIdeal.τ).loc Cert.GlaOutIdeal.main_arg0) = m ((c.tc : Thread Cert.GlaOutIdeal.nD Cert.GlaOutIdeal.τ).loc Cert.GlaOutIdeal.main_arg0)
          ∧ r.2.mem ((c.tc : Thread Cert.GlaOutIdeal.nD Cert.GlaOutIdeal.τ).loc Cert.GlaOutIdeal.main_arg1) = m ((c.tc : Thread Cert.GlaOutIdeal.nD Cert.GlaOutIdeal.τ).loc Cert.GlaOutIdeal.main_arg1)
          ∧ r.2.mem ((c.tc : Thread Cert.GlaOutIdeal.nD Cert.GlaOutIdeal.τ).loc Cert.GlaOutIdeal.main_arg2) = m ((c.tc : Thread Cert.GlaOutIdeal.nD Cert.GlaOutIdeal.τ).loc Cert.GlaOutIdeal.main_arg2)
          ∧ r.2.mem ((c.tc : Thread Cert.GlaOutIdeal.nD Cert.GlaOutIdeal.τ).loc Cert.GlaOutIdeal.main_arg3) = m ((c.tc : Thread Cert.GlaOutIdeal.nD Cert.GlaOutIdeal.τ).loc Cert.GlaOutIdeal.main_arg3))
      ∧ θ_run (Cert.GlaOutRefIdeal.defs (F := Ideal)) (onTc (τ := Cert.GlaOutRefIdeal.τ) (Cert.GlaOutRefIdeal.main (F := Ideal))) ⟨m', fun _ => 0, g'⟩ (fun r => ∀ c : Dev Cert.GlaOutRefIdeal.nD,
          r.2.mem ((c.tc : Thread Cert.GlaOutRefIdeal.nD Cert.GlaOutRefIdeal.τ).loc Cert.GlaOutRefIdeal.main_v22) = v0 c
          ∧ r.2.mem ((c.tc : Thread Cert.GlaOutRefIdeal.nD Cert.GlaOutRefIdeal.τ).loc Cert.GlaOutRefIdeal.main_arg0) = m' ((c.tc : Thread Cert.GlaOutRefIdeal.nD Cert.GlaOutRefIdeal.τ).loc Cert.GlaOutRefIdeal.main_arg0)
          ∧ r.2.mem ((c.tc : Thread Cert.GlaOutRefIdeal.nD Cert.GlaOutRefIdeal.τ).loc Cert.GlaOutRefIdeal.main_arg1) = m' ((c.tc : Thread Cert.GlaOutRefIdeal.nD Cert.GlaOutRefIdeal.τ).loc Cert.GlaOutRefIdeal.main_arg1)
          ∧ r.2.mem ((c.tc : Thread Cert.GlaOutRefIdeal.nD Cert.GlaOutRefIdeal.τ).loc Cert.GlaOutRefIdeal.main_arg2) = m' ((c.tc : Thread Cert.GlaOutRefIdeal.nD Cert.GlaOutRefIdeal.τ).loc Cert.GlaOutRefIdeal.main_arg2)
          ∧ r.2.mem ((c.tc : Thread Cert.GlaOutRefIdeal.nD Cert.GlaOutRefIdeal.τ).loc Cert.GlaOutRefIdeal.main_arg3) = m' ((c.tc : Thread Cert.GlaOutRefIdeal.nD Cert.GlaOutRefIdeal.τ).loc Cert.GlaOutRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v1) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v25) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v7) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Lna_LnaIdeal : Prop :=
  True

def algebraic_LnaIdeal_LnaRefIdeal [hLnaIdeal : Cert.LnaIdeal.Facts] [hLnaRefIdeal : Cert.LnaRefIdeal.Facts] : Prop :=
  ∀ (m : (ℓ : Loc Cert.LnaIdeal.nD Cert.LnaIdeal.τ Cert.LnaIdeal.sig) → Buf (Elt Ideal) ℓ) (g : Dev Cert.LnaIdeal.nD → PrngReg)
    (m' : (ℓ : Loc Cert.LnaRefIdeal.nD Cert.LnaRefIdeal.τ Cert.LnaRefIdeal.sig) → Buf (Elt Ideal) ℓ) (g' : Dev Cert.LnaRefIdeal.nD → PrngReg), Pre_LnaIdeal m →
    (∀ c : Dev Cert.LnaIdeal.nD,
      m' ((c.tc : Thread Cert.LnaRefIdeal.nD Cert.LnaRefIdeal.τ).loc Cert.LnaRefIdeal.main_arg0) = m ((c.tc : Thread Cert.LnaIdeal.nD Cert.LnaIdeal.τ).loc Cert.LnaIdeal.main_arg0)
      ∧ m' ((c.tc : Thread Cert.LnaRefIdeal.nD Cert.LnaRefIdeal.τ).loc Cert.LnaRefIdeal.main_arg1) = m ((c.tc : Thread Cert.LnaIdeal.nD Cert.LnaIdeal.τ).loc Cert.LnaIdeal.main_arg1)
      ∧ m' ((c.tc : Thread Cert.LnaRefIdeal.nD Cert.LnaRefIdeal.τ).loc Cert.LnaRefIdeal.main_arg2) = m ((c.tc : Thread Cert.LnaIdeal.nD Cert.LnaIdeal.τ).loc Cert.LnaIdeal.main_arg2)) →
    ∃ (v0 : (c : Dev Cert.LnaIdeal.nD) → Buf (Elt Ideal) ((c.tc : Thread Cert.LnaIdeal.nD Cert.LnaIdeal.τ).loc Cert.LnaIdeal.main_v6)),
      θ_run (Cert.LnaIdeal.defs (F := Ideal)) (onTc (τ := Cert.LnaIdeal.τ) (Cert.LnaIdeal.main (F := Ideal))) ⟨m, fun _ => 0, g⟩ (fun r => ∀ c : Dev Cert.LnaIdeal.nD,
          r.2.mem ((c.tc : Thread Cert.LnaIdeal.nD Cert.LnaIdeal.τ).loc Cert.LnaIdeal.main_v6) = v0 c
          ∧ r.2.mem ((c.tc : Thread Cert.LnaIdeal.nD Cert.LnaIdeal.τ).loc Cert.LnaIdeal.main_arg0) = m ((c.tc : Thread Cert.LnaIdeal.nD Cert.LnaIdeal.τ).loc Cert.LnaIdeal.main_arg0)
          ∧ r.2.mem ((c.tc : Thread Cert.LnaIdeal.nD Cert.LnaIdeal.τ).loc Cert.LnaIdeal.main_arg1) = m ((c.tc : Thread Cert.LnaIdeal.nD Cert.LnaIdeal.τ).loc Cert.LnaIdeal.main_arg1)
          ∧ r.2.mem ((c.tc : Thread Cert.LnaIdeal.nD Cert.LnaIdeal.τ).loc Cert.LnaIdeal.main_arg2) = m ((c.tc : Thread Cert.LnaIdeal.nD Cert.LnaIdeal.τ).loc Cert.LnaIdeal.main_arg2))
      ∧ θ_run (Cert.LnaRefIdeal.defs (F := Ideal)) (onTc (τ := Cert.LnaRefIdeal.τ) (Cert.LnaRefIdeal.main (F := Ideal))) ⟨m', fun _ => 0, g'⟩ (fun r => ∀ c : Dev Cert.LnaRefIdeal.nD,
          r.2.mem ((c.tc : Thread Cert.LnaRefIdeal.nD Cert.LnaRefIdeal.τ).loc Cert.LnaRefIdeal.main_v26) = v0 c
          ∧ r.2.mem ((c.tc : Thread Cert.LnaRefIdeal.nD Cert.LnaRefIdeal.τ).loc Cert.LnaRefIdeal.main_arg0) = m' ((c.tc : Thread Cert.LnaRefIdeal.nD Cert.LnaRefIdeal.τ).loc Cert.LnaRefIdeal.main_arg0)
          ∧ r.2.mem ((c.tc : Thread Cert.LnaRefIdeal.nD Cert.LnaRefIdeal.τ).loc Cert.LnaRefIdeal.main_arg1) = m' ((c.tc : Thread Cert.LnaRefIdeal.nD Cert.LnaRefIdeal.τ).loc Cert.LnaRefIdeal.main_arg1)
          ∧ r.2.mem ((c.tc : Thread Cert.LnaRefIdeal.nD Cert.LnaRefIdeal.τ).loc Cert.LnaRefIdeal.main_arg2) = m' ((c.tc : Thread Cert.LnaRefIdeal.nD Cert.LnaRefIdeal.τ).loc Cert.LnaRefIdeal.main_arg2))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)) →
    ∃ (v0 : (c : Dev Cert.FfnInIdeal.nD) → Buf (Elt Ideal) ((c.tc : Thread Cert.FfnInIdeal.nD Cert.FfnInIdeal.τ).loc Cert.FfnInIdeal.main_v7)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v7) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v50) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v5) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1))

def preserves_Lnb_LnbIdeal : Prop :=
  True

def algebraic_LnbIdeal_LnbRefIdeal [hLnbIdeal : Cert.LnbIdeal.Facts] [hLnbRefIdeal : Cert.LnbRefIdeal.Facts] : Prop :=
  ∀ (m : (ℓ : Loc Cert.LnbIdeal.nD Cert.LnbIdeal.τ Cert.LnbIdeal.sig) → Buf (Elt Ideal) ℓ) (g : Dev Cert.LnbIdeal.nD → PrngReg)
    (m' : (ℓ : Loc Cert.LnbRefIdeal.nD Cert.LnbRefIdeal.τ Cert.LnbRefIdeal.sig) → Buf (Elt Ideal) ℓ) (g' : Dev Cert.LnbRefIdeal.nD → PrngReg), Pre_LnbIdeal m →
    (∀ c : Dev Cert.LnbIdeal.nD,
      m' ((c.tc : Thread Cert.LnbRefIdeal.nD Cert.LnbRefIdeal.τ).loc Cert.LnbRefIdeal.main_arg0) = m ((c.tc : Thread Cert.LnbIdeal.nD Cert.LnbIdeal.τ).loc Cert.LnbIdeal.main_arg0)
      ∧ m' ((c.tc : Thread Cert.LnbRefIdeal.nD Cert.LnbRefIdeal.τ).loc Cert.LnbRefIdeal.main_arg1) = m ((c.tc : Thread Cert.LnbIdeal.nD Cert.LnbIdeal.τ).loc Cert.LnbIdeal.main_arg1)
      ∧ m' ((c.tc : Thread Cert.LnbRefIdeal.nD Cert.LnbRefIdeal.τ).loc Cert.LnbRefIdeal.main_arg2) = m ((c.tc : Thread Cert.LnbIdeal.nD Cert.LnbIdeal.τ).loc Cert.LnbIdeal.main_arg2)
      ∧ m' ((c.tc : Thread Cert.LnbRefIdeal.nD Cert.LnbRefIdeal.τ).loc Cert.LnbRefIdeal.main_arg3) = m ((c.tc : Thread Cert.LnbIdeal.nD Cert.LnbIdeal.τ).loc Cert.LnbIdeal.main_arg3)
      ∧ m' ((c.tc : Thread Cert.LnbRefIdeal.nD Cert.LnbRefIdeal.τ).loc Cert.LnbRefIdeal.main_arg4) = m ((c.tc : Thread Cert.LnbIdeal.nD Cert.LnbIdeal.τ).loc Cert.LnbIdeal.main_arg4)
      ∧ m' ((c.tc : Thread Cert.LnbRefIdeal.nD Cert.LnbRefIdeal.τ).loc Cert.LnbRefIdeal.main_arg5) = m ((c.tc : Thread Cert.LnbIdeal.nD Cert.LnbIdeal.τ).loc Cert.LnbIdeal.main_arg5)) →
    ∃ (v0 : (c : Dev Cert.LnbIdeal.nD) → Buf (Elt Ideal) ((c.tc : Thread Cert.LnbIdeal.nD Cert.LnbIdeal.τ).loc Cert.LnbIdeal.main_v12)),
      θ_run (Cert.LnbIdeal.defs (F := Ideal)) (onTc (τ := Cert.LnbIdeal.τ) (Cert.LnbIdeal.main (F := Ideal))) ⟨m, fun _ => 0, g⟩ (fun r => ∀ c : Dev Cert.LnbIdeal.nD,
          r.2.mem ((c.tc : Thread Cert.LnbIdeal.nD Cert.LnbIdeal.τ).loc Cert.LnbIdeal.main_v12) = v0 c
          ∧ r.2.mem ((c.tc : Thread Cert.LnbIdeal.nD Cert.LnbIdeal.τ).loc Cert.LnbIdeal.main_arg0) = m ((c.tc : Thread Cert.LnbIdeal.nD Cert.LnbIdeal.τ).loc Cert.LnbIdeal.main_arg0)
          ∧ r.2.mem ((c.tc : Thread Cert.LnbIdeal.nD Cert.LnbIdeal.τ).loc Cert.LnbIdeal.main_arg1) = m ((c.tc : Thread Cert.LnbIdeal.nD Cert.LnbIdeal.τ).loc Cert.LnbIdeal.main_arg1)
          ∧ r.2.mem ((c.tc : Thread Cert.LnbIdeal.nD Cert.LnbIdeal.τ).loc Cert.LnbIdeal.main_arg2) = m ((c.tc : Thread Cert.LnbIdeal.nD Cert.LnbIdeal.τ).loc Cert.LnbIdeal.main_arg2)
          ∧ r.2.mem ((c.tc : Thread Cert.LnbIdeal.nD Cert.LnbIdeal.τ).loc Cert.LnbIdeal.main_arg3) = m ((c.tc : Thread Cert.LnbIdeal.nD Cert.LnbIdeal.τ).loc Cert.LnbIdeal.main_arg3)
          ∧ r.2.mem ((c.tc : Thread Cert.LnbIdeal.nD Cert.LnbIdeal.τ).loc Cert.LnbIdeal.main_arg4) = m ((c.tc : Thread Cert.LnbIdeal.nD Cert.LnbIdeal.τ).loc Cert.LnbIdeal.main_arg4)
          ∧ r.2.mem ((c.tc : Thread Cert.LnbIdeal.nD Cert.LnbIdeal.τ).loc Cert.LnbIdeal.main_arg5) = m ((c.tc : Thread Cert.LnbIdeal.nD Cert.LnbIdeal.τ).loc Cert.LnbIdeal.main_arg5))
      ∧ θ_run (Cert.LnbRefIdeal.defs (F := Ideal)) (onTc (τ := Cert.LnbRefIdeal.τ) (Cert.LnbRefIdeal.main (F := Ideal))) ⟨m', fun _ => 0, g'⟩ (fun r => ∀ c : Dev Cert.LnbRefIdeal.nD,
          r.2.mem ((c.tc : Thread Cert.LnbRefIdeal.nD Cert.LnbRefIdeal.τ).loc Cert.LnbRefIdeal.main_v54) = v0 c
          ∧ r.2.mem ((c.tc : Thread Cert.LnbRefIdeal.nD Cert.LnbRefIdeal.τ).loc Cert.LnbRefIdeal.main_arg0) = m' ((c.tc : Thread Cert.LnbRefIdeal.nD Cert.LnbRefIdeal.τ).loc Cert.LnbRefIdeal.main_arg0)
          ∧ r.2.mem ((c.tc : Thread Cert.LnbRefIdeal.nD Cert.LnbRefIdeal.τ).loc Cert.LnbRefIdeal.main_arg1) = m' ((c.tc : Thread Cert.LnbRefIdeal.nD Cert.LnbRefIdeal.τ).loc Cert.LnbRefIdeal.main_arg1)
          ∧ r.2.mem ((c.tc : Thread Cert.LnbRefIdeal.nD Cert.LnbRefIdeal.τ).loc Cert.LnbRefIdeal.main_arg2) = m' ((c.tc : Thread Cert.LnbRefIdeal.nD Cert.LnbRefIdeal.τ).loc Cert.LnbRefIdeal.main_arg2)
          ∧ r.2.mem ((c.tc : Thread Cert.LnbRefIdeal.nD Cert.LnbRefIdeal.τ).loc Cert.LnbRefIdeal.main_arg3) = m' ((c.tc : Thread Cert.LnbRefIdeal.nD Cert.LnbRefIdeal.τ).loc Cert.LnbRefIdeal.main_arg3)
          ∧ r.2.mem ((c.tc : Thread Cert.LnbRefIdeal.nD Cert.LnbRefIdeal.τ).loc Cert.LnbRefIdeal.main_arg4) = m' ((c.tc : Thread Cert.LnbRefIdeal.nD Cert.LnbRefIdeal.τ).loc Cert.LnbRefIdeal.main_arg4)
          ∧ r.2.mem ((c.tc : Thread Cert.LnbRefIdeal.nD Cert.LnbRefIdeal.τ).loc Cert.LnbRefIdeal.main_arg5) = m' ((c.tc : Thread Cert.LnbRefIdeal.nD Cert.LnbRefIdeal.τ).loc Cert.LnbRefIdeal.main_arg5))

def preserves_Gla_GlaIdeal : Prop :=
  True

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)) →
    ∃ (v0 : (c : Dev Cert.GlaIdeal.nD) → Buf (Elt Ideal) ((c.tc : Thread Cert.GlaIdeal.nD Cert.GlaIdeal.τ).loc Cert.GlaIdeal.main_v16_0)) (v1 : (c : Dev Cert.GlaIdeal.nD) → Buf (Elt Ideal) ((c.tc : Thread Cert.GlaIdeal.nD Cert.GlaIdeal.τ).loc Cert.GlaIdeal.main_v16_1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v16_0) = v0 c
          ∧ r.2.mem ((c.tc : Thread Cert.GlaIdeal.nD Cert.GlaIdeal.τ).loc Cert.GlaIdeal.main_v16_1) = v1 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v71) = v0 c
          ∧ r.2.mem ((c.tc : Thread Cert.GlaRefIdeal.nD Cert.GlaRefIdeal.τ).loc Cert.GlaRefIdeal.main_v74) = v1 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3))

def Claim : Prop :=
  ∃ (hGates : Cert.Gates.Facts) (hGatesIdeal : Cert.GatesIdeal.Facts) (hGatesRefIdeal : Cert.GatesRefIdeal.Facts) (hMixers : Cert.Mixers.Facts) (hMixersIdeal : Cert.MixersIdeal.Facts) (hMixersRefIdeal : Cert.MixersRefIdeal.Facts) (hDecay : Cert.Decay.Facts) (hDecayIdeal : Cert.DecayIdeal.Facts) (hDecayRefIdeal : Cert.DecayRefIdeal.Facts) (hShort : Cert.Short.Facts) (hShortIdeal : Cert.ShortIdeal.Facts) (hShortRefIdeal : Cert.ShortRefIdeal.Facts) (hGlaOut : Cert.GlaOut.Facts) (hGlaOutIdeal : Cert.GlaOutIdeal.Facts) (hGlaOutRefIdeal : Cert.GlaOutRefIdeal.Facts) (hMix : Cert.Mix.Facts) (hMixIdeal : Cert.MixIdeal.Facts) (hMixRefIdeal : Cert.MixRefIdeal.Facts) (hOut : Cert.Out.Facts) (hOutIdeal : Cert.OutIdeal.Facts) (hOutRefIdeal : Cert.OutRefIdeal.Facts) (hLna : Cert.Lna.Facts) (hLnaIdeal : Cert.LnaIdeal.Facts) (hLnaRefIdeal : Cert.LnaRefIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hLnb : Cert.Lnb.Facts) (hLnbIdeal : Cert.LnbIdeal.Facts) (hLnbRefIdeal : Cert.LnbRefIdeal.Facts) (hGla : Cert.Gla.Facts) (hGlaIdeal : Cert.GlaIdeal.Facts) (hGlaRefIdeal : Cert.GlaRefIdeal.Facts),
    quiescent_Gates (hGates := hGates)
    ∧ quiescent_GatesIdeal (hGatesIdeal := hGatesIdeal)
    ∧ quiescent_GatesRefIdeal (hGatesRefIdeal := hGatesRefIdeal)
    ∧ quiescent_Mixers (hMixers := hMixers)
    ∧ quiescent_MixersIdeal (hMixersIdeal := hMixersIdeal)
    ∧ quiescent_MixersRefIdeal (hMixersRefIdeal := hMixersRefIdeal)
    ∧ quiescent_Decay (hDecay := hDecay)
    ∧ quiescent_DecayIdeal (hDecayIdeal := hDecayIdeal)
    ∧ quiescent_DecayRefIdeal (hDecayRefIdeal := hDecayRefIdeal)
    ∧ quiescent_Short (hShort := hShort)
    ∧ quiescent_ShortIdeal (hShortIdeal := hShortIdeal)
    ∧ quiescent_ShortRefIdeal (hShortRefIdeal := hShortRefIdeal)
    ∧ quiescent_GlaOut (hGlaOut := hGlaOut)
    ∧ quiescent_GlaOutIdeal (hGlaOutIdeal := hGlaOutIdeal)
    ∧ quiescent_GlaOutRefIdeal (hGlaOutRefIdeal := hGlaOutRefIdeal)
    ∧ quiescent_Mix (hMix := hMix)
    ∧ quiescent_MixIdeal (hMixIdeal := hMixIdeal)
    ∧ quiescent_MixRefIdeal (hMixRefIdeal := hMixRefIdeal)
    ∧ quiescent_Out (hOut := hOut)
    ∧ quiescent_OutIdeal (hOutIdeal := hOutIdeal)
    ∧ quiescent_OutRefIdeal (hOutRefIdeal := hOutRefIdeal)
    ∧ quiescent_Lna (hLna := hLna)
    ∧ quiescent_LnaIdeal (hLnaIdeal := hLnaIdeal)
    ∧ quiescent_LnaRefIdeal (hLnaRefIdeal := hLnaRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_Lnb (hLnb := hLnb)
    ∧ quiescent_LnbIdeal (hLnbIdeal := hLnbIdeal)
    ∧ quiescent_LnbRefIdeal (hLnbRefIdeal := hLnbRefIdeal)
    ∧ quiescent_Gla (hGla := hGla)
    ∧ quiescent_GlaIdeal (hGlaIdeal := hGlaIdeal)
    ∧ quiescent_GlaRefIdeal (hGlaRefIdeal := hGlaRefIdeal)
    ∧ preserves_Gates_GatesIdeal
    ∧ algebraic_GatesIdeal_GatesRefIdeal (hGatesIdeal := hGatesIdeal) (hGatesRefIdeal := hGatesRefIdeal)
    ∧ preserves_Mixers_MixersIdeal
    ∧ algebraic_MixersIdeal_MixersRefIdeal (hMixersIdeal := hMixersIdeal) (hMixersRefIdeal := hMixersRefIdeal)
    ∧ preserves_Decay_DecayIdeal
    ∧ algebraic_DecayIdeal_DecayRefIdeal (hDecayIdeal := hDecayIdeal) (hDecayRefIdeal := hDecayRefIdeal)
    ∧ preserves_Short_ShortIdeal
    ∧ algebraic_ShortIdeal_ShortRefIdeal (hShortIdeal := hShortIdeal) (hShortRefIdeal := hShortRefIdeal)
    ∧ preserves_GlaOut_GlaOutIdeal
    ∧ algebraic_GlaOutIdeal_GlaOutRefIdeal (hGlaOutIdeal := hGlaOutIdeal) (hGlaOutRefIdeal := hGlaOutRefIdeal)
    ∧ preserves_Mix_MixIdeal
    ∧ algebraic_MixIdeal_MixRefIdeal (hMixIdeal := hMixIdeal) (hMixRefIdeal := hMixRefIdeal)
    ∧ preserves_Out_OutIdeal
    ∧ algebraic_OutIdeal_OutRefIdeal (hOutIdeal := hOutIdeal) (hOutRefIdeal := hOutRefIdeal)
    ∧ preserves_Lna_LnaIdeal
    ∧ algebraic_LnaIdeal_LnaRefIdeal (hLnaIdeal := hLnaIdeal) (hLnaRefIdeal := hLnaRefIdeal)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_Lnb_LnbIdeal
    ∧ algebraic_LnbIdeal_LnbRefIdeal (hLnbIdeal := hLnbIdeal) (hLnbRefIdeal := hLnbRefIdeal)
    ∧ preserves_Gla_GlaIdeal
    ∧ algebraic_GlaIdeal_GlaRefIdeal (hGlaIdeal := hGlaIdeal) (hGlaRefIdeal := hGlaRefIdeal)
-- ==== Gates.lean ====
abbrev S4x4096x4096 : Shape := ⟨3, ![4, 4096, 4096]⟩
abbrev S2x4096x30752 : Shape := ⟨3, ![2, 4096, 30752]⟩
abbrev S2x12288 : Shape := ⟨2, ![2, 12288]⟩
abbrev S2x11008x4096 : Shape := ⟨3, ![2, 11008, 4096]⟩
abbrev S2x30752x4096 : Shape := ⟨3, ![2, 30752, 4096]⟩
abbrev S16384x4096 : Shape := ⟨2, ![16384, 4096]⟩
abbrev S1x12288 : Shape := ⟨2, ![1, 12288]⟩
abbrev S12288 : Shape := ⟨1, ![12288]⟩
abbrev S16384x12288 : Shape := ⟨2, ![16384, 12288]⟩
abbrev S2x11264x4096 : Shape := ⟨3, ![2, 11264, 4096]⟩
abbrev S1024x4096 : Shape := ⟨2, ![1024, 4096]⟩
abbrev S1x768x4096 : Shape := ⟨3, ![1, 768, 4096]⟩
abbrev S1x768 : Shape := ⟨2, ![1, 768]⟩
abbrev S1x128x4096 : Shape := ⟨3, ![1, 128, 4096]⟩
abbrev S1024x768 : Shape := ⟨2, ![1024, 768]⟩
abbrev S768x4096 : Shape := ⟨2, ![768, 4096]⟩
abbrev S128x4096 : Shape := ⟨2, ![128, 4096]⟩

abbrev nBuf : Space → Nat
  | .hbm => 12
  | .vmem => 12
  | .smem => 0
  | _ => 0

abbrev bufTy : (tb : Table) → Fin (tcTables nBuf tb) → BufTy
  | .hbm, ⟨0, _⟩ => ⟨S4x4096x4096, .f32⟩
  | .hbm, ⟨1, _⟩ => ⟨S2x4096x30752, .f32⟩
  | .hbm, ⟨2, _⟩ => ⟨S2x12288, .f32⟩
  | .hbm, ⟨3, _⟩ => ⟨S2x11008x4096, .f32⟩
  | .hbm, ⟨4, _⟩ => ⟨S2x30752x4096, .f32⟩
  | .hbm, ⟨5, _⟩ => ⟨S16384x4096, .f32⟩
  | .hbm, ⟨6, _⟩ => ⟨S16384x4096, .bf16⟩
  | .hbm, ⟨7, _⟩ => ⟨S1x12288, .f32⟩
  | .hbm, ⟨8, _⟩ => ⟨S12288, .f32⟩
  | .hbm, ⟨9, _⟩ => ⟨S1x12288, .f32⟩
  | .hbm, ⟨10, _⟩ => ⟨S16384x12288, .bf16⟩
  | .hbm, ⟨11, _⟩ => ⟨S2x11264x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x768x4096, .f32⟩
  | .local _ .vmem, ⟨3, _⟩ => ⟨S1x768x4096, .f32⟩
  | .local _ .vmem, ⟨4, _⟩ => ⟨S1x768, .f32⟩
  | .local _ .vmem, ⟨5, _⟩ => ⟨S1x768, .f32⟩
  | .local _ .vmem, ⟨6, _⟩ => ⟨S1x128x4096, .f32⟩
  | .local _ .vmem, ⟨7, _⟩ => ⟨S1x128x4096, .f32⟩
  | .local _ .vmem, ⟨8, _⟩ => ⟨S1024x768, .bf16⟩
  | .local _ .vmem, ⟨9, _⟩ => ⟨S1024x768, .bf16⟩
  | .local _ .vmem, ⟨10, _⟩ => ⟨S1x128x4096, .bf16⟩
  | .local _ .vmem, ⟨11, _⟩ => ⟨S1x128x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let c18464_i32 : BitVec 32 := 18464#32
  let arg0 : BitVec 32 := BitVec.ofNat 32 (i 0).val
  let c768_i32 : BitVec 32 := 768#32
  let v0 : BitVec 32 := Scalar.muli arg0 c768_i32
  let v1 : BitVec 32 := Scalar.addi c18464_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c768_i32 : BitVec 32 := 768#32
  let v0 : BitVec 32 := Scalar.muli arg0 c768_i32
  let c18464_i32 : BitVec 32 := 18464#32
  let v1 : BitVec 32 := Scalar.addi c18464_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c175_i32 : BitVec 32 := 175#32
  let v2 : BitVec 32 := Scalar.minsi v1 c175_i32
  let c88_i32 : BitVec 32 := 88#32
  let v3 : BitVec 32 := Scalar.divsi v2 c88_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c88_i32 c0_i32_1
  let v10 : BitVec 32 := Scalar.extui v9
  let c0_i32_2 : BitVec 32 := 0#32
  let v11 : BitVec 1 := Scalar.cmpi .slt c88_i32 c0_i32_2
  let v12 : BitVec 32 := Scalar.extui v11
  let v13 : BitVec 32 := Scalar.subi v10 v12
  let v14 : BitVec 1 := Scalar.cmpi .ne v8 v13
  let v15 : BitVec 32 := Scalar.remsi v2 c88_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c88_i32_4 : BitVec 32 := 88#32
  let c0_i32_5 : BitVec 32 := 0#32
  let v20 : BitVec 1 := Scalar.cmpi .eq c88_i32_4 c0_i32_5
  let c1_i32_6 : BitVec 32 := 1#32
  let v21 : BitVec 32 := Scalar.select v20 c1_i32_6 c88_i32_4
  let v22 : BitVec 32 := Scalar.remsi v2 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c85_i32 : BitVec 32 := 85#32
  let v30 : BitVec 32 := Scalar.minsi v29 c85_i32
  let c0_i32_10 : BitVec 32 := 0#32
  let c0_i32_11 : BitVec 32 := 0#32
  ![v19.toNat, v30.toNat, c0_i32_10.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c175_i32 : BitVec 32 := 175#32
  let v2 : BitVec 32 := Scalar.minsi v1 c175_i32
  let c88_i32 : BitVec 32 := 88#32
  let v3 : BitVec 32 := Scalar.divsi v2 c88_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c88_i32 c0_i32_1
  let v10 : BitVec 32 := Scalar.extui v9
  let c0_i32_2 : BitVec 32 := 0#32
  let v11 : BitVec 1 := Scalar.cmpi .slt c88_i32 c0_i32_2
  let v12 : BitVec 32 := Scalar.extui v11
  let v13 : BitVec 32 := Scalar.subi v10 v12
  let v14 : BitVec 1 := Scalar.cmpi .ne v8 v13
  let v15 : BitVec 32 := Scalar.remsi v2 c88_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c88_i32_4 : BitVec 32 := 88#32
  let c0_i32_5 : BitVec 32 := 0#32
  let v20 : BitVec 1 := Scalar.cmpi .eq c88_i32_4 c0_i32_5
  let c1_i32_6 : BitVec 32 := 1#32
  let v21 : BitVec 32 := Scalar.select v20 c1_i32_6 c88_i32_4
  let v22 : BitVec 32 := Scalar.remsi v2 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c85_i32 : BitVec 32 := 85#32
  let v30 : BitVec 32 := Scalar.minsi v29 c85_i32
  let c0_i32_10 : BitVec 32 := 0#32
  let c0_i32_11 : BitVec 32 := 0#32
  ![v19.toNat, v29.toNat, c0_i32_10.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x768x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GatesRefIdeal.lean ====
abbrev S4x4096x4096 : Shape := ⟨3, ![4, 4096, 4096]⟩
abbrev S2x4096x30752 : Shape := ⟨3, ![2, 4096, 30752]⟩
abbrev S2x12288 : Shape := ⟨2, ![2, 12288]⟩
abbrev S2x11008x4096 : Shape := ⟨3, ![2, 11008, 4096]⟩
abbrev S1x4096x30752 : Shape := ⟨3, ![1, 4096, 30752]⟩
abbrev S4096x30752 : Shape := ⟨2, ![4096, 30752]⟩
abbrev S4x4096x30752 : Shape := ⟨3, ![4, 4096, 30752]⟩
abbrev S4x4096x12288 : Shape := ⟨3, ![4, 4096, 12288]⟩
abbrev S1x12288 : Shape := ⟨2, ![1, 12288]⟩
abbrev S12288 : Shape := ⟨1, ![12288]⟩
abbrev S1x1x12288 : Shape := ⟨3, ![1, 1, 12288]⟩
abbrev S_ : Shape := ⟨0, ![]⟩
abbrev S2x128x4096 : Shape := ⟨3, ![2, 128, 4096]⟩
abbrev S16384x12288 : Shape := ⟨2, ![16384, 12288]⟩
abbrev S2x11264x4096 : Shape := ⟨3, ![2, 11264, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S2x4096x30752, .f32⟩
  | .hbm, ⟨2, _⟩ => ⟨S2x12288, .f32⟩
  | .hbm, ⟨3, _⟩ => ⟨S2x11008x4096, .f32⟩
  | .hbm, ⟨4, _⟩ => ⟨S1x4096x30752, .f32⟩
  | .hbm, ⟨5, _⟩ => ⟨S4096x30752, .f32⟩
  | .hbm, ⟨6, _⟩ => ⟨S4x4096x30752, .f32⟩
  | .hbm, ⟨7, _⟩ => ⟨S4x4096x12288, .f32⟩
  | .hbm, ⟨8, _⟩ => ⟨S1x12288, .f32⟩
  | .hbm, ⟨9, _⟩ => ⟨S12288, .f32⟩
  | .hbm, ⟨10, _⟩ => ⟨S1x1x12288, .f32⟩
  | .hbm, ⟨11, _⟩ => ⟨S4x4096x12288, .f32⟩
  | .hbm, ⟨12, _⟩ => ⟨S4x4096x12288, .f32⟩
  | .hbm, ⟨13, _⟩ => ⟨S4x4096x12288, .f32⟩
  | .hbm, ⟨14, _⟩ => ⟨S4x4096x12288, .f32⟩
  | .hbm, ⟨15, _⟩ => ⟨S_, .f32⟩
  | .hbm, ⟨16, _⟩ => ⟨S4x4096x12288, .f32⟩
  | .hbm, ⟨17, _⟩ => ⟨S4x4096x12288, .f32⟩
  | .hbm, ⟨18, _⟩ => ⟨S_, .f32⟩
  | .hbm, ⟨19, _⟩ => ⟨S4x4096x12288, .f32⟩
  | .hbm, ⟨20, _⟩ => ⟨S4x4096x12288, .f32⟩
  | .hbm, ⟨21, _⟩ => ⟨S2x128x4096, .f32⟩
  | .hbm, ⟨22, _⟩ => ⟨S16384x12288, .f32⟩
  | .hbm, ⟨23, _⟩ => ⟨S16384x12288, .bf16⟩
  | .hbm, ⟨24, _⟩ => ⟨S2x11264x4096, .f32⟩
  | .hbm, ⟨25, _⟩ => ⟨S2x11264x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Mixers.lean ====
abbrev S4x4096x4096 : Shape := ⟨3, ![4, 4096, 4096]⟩
abbrev S2x4096x30752 : Shape := ⟨3, ![2, 4096, 30752]⟩
abbrev S2x4096x22016 : Shape := ⟨3, ![2, 4096, 22016]⟩
abbrev S2x30752x4096 : Shape := ⟨3, ![2, 30752, 4096]⟩
abbrev S16384x4096 : Shape := ⟨2, ![16384, 4096]⟩
abbrev S16384x18432 : Shape := ⟨2, ![16384, 18432]⟩
abbrev S2x4096x22528 : Shape := ⟨3, ![2, 4096, 22528]⟩
abbrev S1024x4096 : Shape := ⟨2, ![1024, 4096]⟩
abbrev S1x768x4096 : Shape := ⟨3, ![1, 768, 4096]⟩
abbrev S1x4096x128 : Shape := ⟨3, ![1, 4096, 128]⟩
abbrev S1024x768 : Shape := ⟨2, ![1024, 768]⟩
abbrev S768x4096 : Shape := ⟨2, ![768, 4096]⟩
abbrev S4096x128 : Shape := ⟨2, ![4096, 128]⟩

abbrev nBuf : Space → Nat
  | .hbm => 8
  | .vmem => 10
  | .smem => 0
  | _ => 0

abbrev bufTy : (tb : Table) → Fin (tcTables nBuf tb) → BufTy
  | .hbm, ⟨0, _⟩ => ⟨S4x4096x4096, .f32⟩
  | .hbm, ⟨1, _⟩ => ⟨S2x4096x30752, .f32⟩
  | .hbm, ⟨2, _⟩ => ⟨S2x4096x22016, .f32⟩
  | .hbm, ⟨3, _⟩ => ⟨S2x30752x4096, .f32⟩
  | .hbm, ⟨4, _⟩ => ⟨S16384x4096, .f32⟩
  | .hbm, ⟨5, _⟩ => ⟨S16384x4096, .bf16⟩
  | .hbm, ⟨6, _⟩ => ⟨S16384x18432, .bf16⟩
  | .hbm, ⟨7, _⟩ => ⟨S2x4096x22528, .bf16⟩
  | .local _ .vmem, ⟨0, _⟩ => ⟨S1024x4096, .bf16⟩
  | .local _ .vmem, ⟨1, _⟩ => ⟨S1024x4096, .bf16⟩
  | .local _ .vmem, ⟨2, _⟩ => ⟨S1x768x4096, .f32⟩
  | .local _ .vmem, ⟨3, _⟩ => ⟨S1x768x4096, .f32⟩
  | .local _ .vmem, ⟨4, _⟩ => ⟨S1x4096x128, .f32⟩
  | .local _ .vmem, ⟨5, _⟩ => ⟨S1x4096x128, .f32⟩
  | .local _ .vmem, ⟨6, _⟩ => ⟨S1024x768, .bf16⟩
  | .local _ .vmem, ⟨7, _⟩ => ⟨S1024x768, .bf16⟩
  | .local _ .vmem, ⟨8, _⟩ => ⟨S1x4096x128, .bf16⟩
  | .local _ .vmem, ⟨9, _⟩ => ⟨S1x4096x128, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![24, 16], ![false, false]⟩

def k0_mult1 (i : grid0.Coords) : BitVec 32 :=
  let c0_i32 : BitVec 32 := 0#32
  let arg0 : BitVec 32 := BitVec.ofNat 32 (i 0).val
  let c768_i32 : BitVec 32 := 768#32
  let v0 : BitVec 32 := Scalar.muli arg0 c768_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c768_i32 : BitVec 32 := 768#32
  let v0 : BitVec 32 := Scalar.muli arg0 c768_i32
  let c0_i32 : BitVec 32 := 0#32
  let v1 : BitVec 32 := Scalar.addi c0_i32 v0
  let v2 : BitVec 32 := v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c351_i32 : BitVec 32 := 351#32
  let v2 : BitVec 32 := Scalar.minsi v1 c351_i32
  let c176_i32 : BitVec 32 := 176#32
  let v3 : BitVec 32 := Scalar.divsi v2 c176_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c176_i32 c0_i32_1
  let v10 : BitVec 32 := Scalar.extui v9
  let c0_i32_2 : BitVec 32 := 0#32
  let v11 : BitVec 1 := Scalar.cmpi .slt c176_i32 c0_i32_2
  let v12 : BitVec 32 := Scalar.extui v11
  let v13 : BitVec 32 := Scalar.subi v10 v12
  let v14 : BitVec 1 := Scalar.cmpi .ne v8 v13
  let v15 : BitVec 32 := Scalar.remsi v2 c176_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c176_i32_4 : BitVec 32 := 176#32
  let c0_i32_5 : BitVec 32 := 0#32
  let v20 : BitVec 1 := Scalar.cmpi .eq c176_i32_4 c0_i32_5
  let c1_i32_6 : BitVec 32 := 1#32
  let v21 : BitVec 32 := Scalar.select v20 c1_i32_6 c176_i32_4
  let v22 : BitVec 32 := Scalar.remsi v2 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c88_i32 : BitVec 32 := 88#32
  let v30 : BitVec 32 := Scalar.divsi v29 c88_i32
  let c0_i32_10 : BitVec 32 := 0#32
  let v31 : BitVec 1 := Scalar.cmpi .sgt v29 c0_i32_10
  let v32 : BitVec 32 := Scalar.extui v31
  let c0_i32_11 : BitVec 32 := 0#32
  let v33 : BitVec 1 := Scalar.cmpi .slt v29 c0_i32_11
  let v34 : BitVec 32 := Scalar.extui v33
  let v35 : BitVec 32 := Scalar.subi v32 v34
  let c0_i32_12 : BitVec 32 := 0#32
  let v36 : BitVec 1 := Scalar.cmpi .sgt c88_i32 c0_i32_12
  let v37 : BitVec 32 := Scalar.extui v36
  let c0_i32_13 : BitVec 32 := 0#32
  let v38 : BitVec 1 := Scalar.cmpi .slt c88_i32 c0_i32_13
  let v39 : BitVec 32 := Scalar.extui v38
  let v40 : BitVec 32 := Scalar.subi v37 v39
  let v41 : BitVec 1 := Scalar.cmpi .ne v35 v40
  let v42 : BitVec 32 := Scalar.remsi v29 c88_i32
  let c0_i32_14 : BitVec 32 := 0#32
  let v43 : BitVec 1 := Scalar.cmpi .ne v42 c0_i32_14
  let v44 : BitVec 1 := Scalar.andi v41 v43
  let c1_i32_15 : BitVec 32 := 1#32
  let v45 : BitVec 32 := Scalar.subi v30 c1_i32_15
  let v46 : BitVec 32 := Scalar.select v44 v45 v30
  let c88_i32_16 : BitVec 32 := 88#32
  let c0_i32_17 : BitVec 32 := 0#32
  let v47 : BitVec 1 := Scalar.cmpi .eq c88_i32_16 c0_i32_17
  let c1_i32_18 : BitVec 32 := 1#32
  let v48 : BitVec 32 := Scalar.select v47 c1_i32_18 c88_i32_16
  let v49 : BitVec 32 := Scalar.remsi v29 v48
  let c0_i32_19 : BitVec 32 := 0#32
  let v50 : BitVec 1 := Scalar.cmpi .ne v49 c0_i32_19
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let v54 : BitVec 1 := Scalar.andi v53 v50
  let v55 : BitVec 32 := Scalar.addi v49 v48
  let v56 : BitVec 32 := Scalar.select v54 v55 v49
  let c86_i32 : BitVec 32 := 86#32
  let v57 : BitVec 32 := Scalar.muli v46 c86_i32
  let c85_i32 : BitVec 32 := 85#32
  let v58 : BitVec 32 := Scalar.minsi v56 c85_i32
  let v59 : BitVec 32 := Scalar.addi v57 v58
  let c0_i32_22 : BitVec 32 := 0#32
  let c0_i32_23 : BitVec 32 := 0#32
  ![v19.toNat, c0_i32_22.toNat, v59.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c351_i32 : BitVec 32 := 351#32
  let v2 : BitVec 32 := Scalar.minsi v1 c351_i32
  let c176_i32 : BitVec 32 := 176#32
  let v3 : BitVec 32 := Scalar.divsi v2 c176_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c176_i32 c0_i32_1
  let v10 : BitVec 32 := Scalar.extui v9
  let c0_i32_2 : BitVec 32 := 0#32
  let v11 : BitVec 1 := Scalar.cmpi .slt c176_i32 c0_i32_2
  let v12 : BitVec 32 := Scalar.extui v11
  let v13 : BitVec 32 := Scalar.subi v10 v12
  let v14 : BitVec 1 := Scalar.cmpi .ne v8 v13
  let v15 : BitVec 32 := Scalar.remsi v2 c176_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c176_i32_4 : BitVec 32 := 176#32
  let c0_i32_5 : BitVec 32 := 0#32
  let v20 : BitVec 1 := Scalar.cmpi .eq c176_i32_4 c0_i32_5
  let c1_i32_6 : BitVec 32 := 1#32
  let v21 : BitVec 32 := Scalar.select v20 c1_i32_6 c176_i32_4
  let v22 : BitVec 32 := Scalar.remsi v2 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c88_i32 : BitVec 32 := 88#32
  let v30 : BitVec 32 := Scalar.divsi v29 c88_i32
  let c0_i32_10 : BitVec 32 := 0#32
  let v31 : BitVec 1 := Scalar.cmpi .sgt v29 c0_i32_10
  let v32 : BitVec 32 := Scalar.extui v31
  let c0_i32_11 : BitVec 32 := 0#32
  let v33 : BitVec 1 := Scalar.cmpi .slt v29 c0_i32_11
  let v34 : BitVec 32 := Scalar.extui v33
  let v35 : BitVec 32 := Scalar.subi v32 v34
  let c0_i32_12 : BitVec 32 := 0#32
  let v36 : BitVec 1 := Scalar.cmpi .sgt c88_i32 c0_i32_12
  let v37 : BitVec 32 := Scalar.extui v36
  let c0_i32_13 : BitVec 32 := 0#32
  let v38 : BitVec 1 := Scalar.cmpi .slt c88_i32 c0_i32_13
  let v39 : BitVec 32 := Scalar.extui v38
  let v40 : BitVec 32 := Scalar.subi v37 v39
  let v41 : BitVec 1 := Scalar.cmpi .ne v35 v40
  let v42 : BitVec 32 := Scalar.remsi v29 c88_i32
  let c0_i32_14 : BitVec 32 := 0#32
  let v43 : BitVec 1 := Scalar.cmpi .ne v42 c0_i32_14
  let v44 : BitVec 1 := Scalar.andi v41 v43
  let c1_i32_15 : BitVec 32 := 1#32
  let v45 : BitVec 32 := Scalar.subi v30 c1_i32_15
  let v46 : BitVec 32 := Scalar.select v44 v45 v30
  let c88_i32_16 : BitVec 32 := 88#32
  let c0_i32_17 : BitVec 32 := 0#32
  let v47 : BitVec 1 := Scalar.cmpi .eq c88_i32_16 c0_i32_17
  let c1_i32_18 : BitVec 32 := 1#32
  let v48 : BitVec 32 := Scalar.select v47 c1_i32_18 c88_i32_16
  let v49 : BitVec 32 := Scalar.remsi v29 v48
  let c0_i32_19 : BitVec 32 := 0#32
  let v50 : BitVec 1 := Scalar.cmpi .ne v49 c0_i32_19
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let v54 : BitVec 1 := Scalar.andi v53 v50
  let v55 : BitVec 32 := Scalar.addi v49 v48
  let v56 : BitVec 32 := Scalar.select v54 v55 v49
  let c86_i32 : BitVec 32 := 86#32
  let v57 : BitVec 32 := Scalar.muli v46 c86_i32
  let c85_i32 : BitVec 32 := 85#32
  let v58 : BitVec 32 := Scalar.minsi v56 c85_i32
  let v59 : BitVec 32 := Scalar.addi v57 v58
  let c0_i32_22 : BitVec 32 := 0#32
  let c0_i32_23 : BitVec 32 := 0#32
  ![v19.toNat, c0_i32_22.toNat, v29.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x768x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MixersRefIdeal.lean ====
abbrev S4x4096x4096 : Shape := ⟨3, ![4, 4096, 4096]⟩
abbrev S2x4096x30752 : Shape := ⟨3, ![2, 4096, 30752]⟩
abbrev S2x4096x22016 : Shape := ⟨3, ![2, 4096, 22016]⟩
abbrev S1x4096x30752 : Shape := ⟨3, ![1, 4096, 30752]⟩
abbrev S4096x30752 : Shape := ⟨2, ![4096, 30752]⟩
abbrev S4x4096x30752 : Shape := ⟨3, ![4, 4096, 30752]⟩
abbrev S2x4096x11008 : Shape := ⟨3, ![2, 4096, 11008]⟩
abbrev S2x4096x128 : Shape := ⟨3, ![2, 4096, 128]⟩
abbrev S4x4096x18432 : Shape := ⟨3, ![4, 4096, 18432]⟩
abbrev S16384x18432 : Shape := ⟨2, ![16384, 18432]⟩
abbrev S2x4096x22528 : Shape := ⟨3, ![2, 4096, 22528]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S2x4096x30752, .f32⟩
  | .hbm, ⟨2, _⟩ => ⟨S2x4096x22016, .f32⟩
  | .hbm, ⟨3, _⟩ => ⟨S1x4096x30752, .f32⟩
  | .hbm, ⟨4, _⟩ => ⟨S4096x30752, .f32⟩
  | .hbm, ⟨5, _⟩ => ⟨S4x4096x30752, .f32⟩
  | .hbm, ⟨6, _⟩ => ⟨S2x4096x11008, .f32⟩
  | .hbm, ⟨7, _⟩ => ⟨S2x4096x11008, .f32⟩
  | .hbm, ⟨8, _⟩ => ⟨S2x4096x128, .f32⟩
  | .hbm, ⟨9, _⟩ => ⟨S2x4096x128, .f32⟩
  | .hbm, ⟨10, _⟩ => ⟨S4x4096x18432, .f32⟩
  | .hbm, ⟨11, _⟩ => ⟨S16384x18432, .f32⟩
  | .hbm, ⟨12, _⟩ => ⟨S16384x18432, .bf16⟩
  | .hbm, ⟨13, _⟩ => ⟨S2x4096x22528, .f32⟩
  | .hbm, ⟨14, _⟩ => ⟨S2x4096x22528, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Decay.lean ====
abbrev S4x4096x4096 : Shape := ⟨3, ![4, 4096, 4096]⟩
abbrev S2x4096x30752 : Shape := ⟨3, ![2, 4096, 30752]⟩
abbrev S2x30752x4096 : Shape := ⟨3, ![2, 30752, 4096]⟩
abbrev S16384x4096 : Shape := ⟨2, ![16384, 4096]⟩
abbrev S16384x128 : Shape := ⟨2, ![16384, 128]⟩
abbrev S1024x4096 : Shape := ⟨2, ![1024, 4096]⟩
abbrev S1x128x4096 : Shape := ⟨3, ![1, 128, 4096]⟩
abbrev S1024x128 : Shape := ⟨2, ![1024, 128]⟩
abbrev S128x4096 : Shape := ⟨2, ![128, 4096]⟩

abbrev nBuf : Space → Nat
  | .hbm => 6
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S2x4096x30752, .f32⟩
  | .hbm, ⟨2, _⟩ => ⟨S2x30752x4096, .f32⟩
  | .hbm, ⟨3, _⟩ => ⟨S16384x4096, .f32⟩
  | .hbm, ⟨4, _⟩ => ⟨S16384x4096, .bf16⟩
  | .hbm, ⟨5, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S1x128x4096, .f32⟩
  | .local _ .vmem, ⟨3, _⟩ => ⟨S1024x128, .f32⟩
  | .local _ .vmem, ⟨4, _⟩ => ⟨S1024x128, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def k0_mult1 (i : grid0.Coords) : BitVec 32 :=
  let c18432_i32 : BitVec 32 := 18432#32
  let arg0 : BitVec 32 := BitVec.ofNat 32 (i 0).val
  let c128_i32 : BitVec 32 := 128#32
  let v0 : BitVec 32 := Scalar.muli arg0 c128_i32
  let v1 : BitVec 32 := Scalar.addi c18432_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c18432_i32 : BitVec 32 := 18432#32
  let v1 : BitVec 32 := Scalar.addi c18432_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DecayRefIdeal.lean ====
abbrev S4x4096x4096 : Shape := ⟨3, ![4, 4096, 4096]⟩
abbrev S2x4096x30752 : Shape := ⟨3, ![2, 4096, 30752]⟩
abbrev S1x4096x30752 : Shape := ⟨3, ![1, 4096, 30752]⟩
abbrev S4096x30752 : Shape := ⟨2, ![4096, 30752]⟩
abbrev S4x4096x30752 : Shape := ⟨3, ![4, 4096, 30752]⟩
abbrev S4x4096x128 : Shape := ⟨3, ![4, 4096, 128]⟩
abbrev S16384x128 : Shape := ⟨2, ![16384, 128]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S2x4096x30752, .f32⟩
  | .hbm, ⟨2, _⟩ => ⟨S1x4096x30752, .f32⟩
  | .hbm, ⟨3, _⟩ => ⟨S4096x30752, .f32⟩
  | .hbm, ⟨4, _⟩ => ⟨S4x4096x30752, .f32⟩
  | .hbm, ⟨5, _⟩ => ⟨S4x4096x128, .f32⟩
  | .hbm, ⟨6, _⟩ => ⟨S16384x128, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Short.lean ====
abbrev S16384x18432 : Shape := ⟨2, ![16384, 18432]⟩
abbrev S2x3x2048 : Shape := ⟨3, ![2, 3, 2048]⟩
abbrev S1x3x2048 : Shape := ⟨3, ![1, 3, 2048]⟩
abbrev S3x2048 : Shape := ⟨2, ![3, 2048]⟩
abbrev S16384x2048 : Shape := ⟨2, ![16384, 2048]⟩
abbrev S4096x256 : Shape := ⟨2, ![4096, 256]⟩
abbrev S3x256 : Shape := ⟨2, ![3, 256]⟩
abbrev S1x256 : Shape := ⟨2, ![1, 256]⟩

abbrev nBuf : Space → Nat
  | .hbm => 5
  | .vmem => 10
  | .smem => 0
  | _ => 0

abbrev bufTy : (tb : Table) → Fin (tcTables nBuf tb) → BufTy
  | .hbm, ⟨0, _⟩ => ⟨S16384x18432, .bf16⟩
  | .hbm, ⟨1, _⟩ => ⟨S2x3x2048, .f32⟩
  | .hbm, ⟨2, _⟩ => ⟨S1x3x2048, .f32⟩
  | .hbm, ⟨3, _⟩ => ⟨S3x2048, .f32⟩
  | .hbm, ⟨4, _⟩ => ⟨S16384x2048, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S3x256, .f32⟩
  | .local _ .vmem, ⟨7, _⟩ => ⟨S3x256, .f32⟩
  | .local _ .vmem, ⟨8, _⟩ => ⟨S4096x256, .bf16⟩
  | .local _ .vmem, ⟨9, _⟩ => ⟨S4096x256, .bf16⟩
  | _, _ => ⟨S16384x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ShortRefIdeal.lean ====
abbrev S16384x18432 : Shape := ⟨2, ![16384, 18432]⟩
abbrev S2x3x2048 : Shape := ⟨3, ![2, 3, 2048]⟩
abbrev S4x4096x18432 : Shape := ⟨3, ![4, 4096, 18432]⟩
abbrev S4x4096x2048 : Shape := ⟨3, ![4, 4096, 2048]⟩
abbrev S1x3x2048 : Shape := ⟨3, ![1, 3, 2048]⟩
abbrev S3x2048 : Shape := ⟨2, ![3, 2048]⟩
abbrev S_ : Shape := ⟨0, ![]⟩
abbrev S4x4098x2048 : Shape := ⟨3, ![4, 4098, 2048]⟩
abbrev S1x2048 : Shape := ⟨2, ![1, 2048]⟩
abbrev S2048 : Shape := ⟨1, ![2048]⟩
abbrev S1x1x2048 : Shape := ⟨3, ![1, 1, 2048]⟩
abbrev S16384x2048 : Shape := ⟨2, ![16384, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16384x18432, .bf16⟩
  | .hbm, ⟨1, _⟩ => ⟨S2x3x2048, .f32⟩
  | .hbm, ⟨2, _⟩ => ⟨S16384x18432, .f32⟩
  | .hbm, ⟨3, _⟩ => ⟨S4x4096x18432, .f32⟩
  | .hbm, ⟨4, _⟩ => ⟨S4x4096x2048, .f32⟩
  | .hbm, ⟨5, _⟩ => ⟨S4x4096x2048, .f32⟩
  | .hbm, ⟨6, _⟩ => ⟨S4x4096x2048, .f32⟩
  | .hbm, ⟨7, _⟩ => ⟨S4x4096x2048, .f32⟩
  | .hbm, ⟨8, _⟩ => ⟨S1x3x2048, .f32⟩
  | .hbm, ⟨9, _⟩ => ⟨S3x2048, .f32⟩
  | .hbm, ⟨10, _⟩ => ⟨S_, .i32⟩
  | .hbm, ⟨11, _⟩ => ⟨S_, .f32⟩
  | .hbm, ⟨12, _⟩ => ⟨S4x4098x2048, .f32⟩
  | .hbm, ⟨13, _⟩ => ⟨S4x4096x2048, .f32⟩
  | .hbm, ⟨14, _⟩ => ⟨S1x2048, .f32⟩
  | .hbm, ⟨15, _⟩ => ⟨S2048, .f32⟩
  | .hbm, ⟨16, _⟩ => ⟨S1x1x2048, .f32⟩
  | .hbm, ⟨17, _⟩ => ⟨S4x4096x2048, .f32⟩
  | .hbm, ⟨18, _⟩ => ⟨S4x4096x2048, .f32⟩
  | .hbm, ⟨19, _⟩ => ⟨S_, .f32⟩
  | .hbm, ⟨20, _⟩ => ⟨S4x4096x2048, .f32⟩
  | .hbm, ⟨21, _⟩ => ⟨S4x4096x2048, .f32⟩
  | .hbm, ⟨22, _⟩ => ⟨S4x4096x2048, .f32⟩
  | .hbm, ⟨23, _⟩ => ⟨S1x2048, .f32⟩
  | .hbm, ⟨24, _⟩ => ⟨S2048, .f32⟩
  | .hbm, ⟨25, _⟩ => ⟨S1x1x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S1x2048, .f32⟩
  | .hbm, ⟨31, _⟩ => ⟨S2048, .f32⟩
  | .hbm, ⟨32, _⟩ => ⟨S1x1x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S16384x2048, .f32⟩
  | .hbm, ⟨38, _⟩ => ⟨S16384x2048, .bf16⟩
  | _, _ => ⟨S16384x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩

abbrev nD : Nat := 1
abbrev τ : Topo := Topo.v7x

variable {F : FTy → Type} [FloatOps F]
-- ==== GlaOut.lean ====
abbrev S16384x2048 : Shape := ⟨2, ![16384, 2048]⟩
abbrev S16384x18432 : Shape := ⟨2, ![16384, 18432]⟩
abbrev S2x2048 : Shape := ⟨2, ![2, 2048]⟩
abbrev S1x2048 : Shape := ⟨2, ![1, 2048]⟩
abbrev S2048 : Shape := ⟨1, ![2048]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 8
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x18432, .bf16⟩
  | .hbm, ⟨3, _⟩ => ⟨S2x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S512x2048, .bf16⟩
  | .local _ .vmem, ⟨8, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GlaOutRefIdeal.lean ====
abbrev S16384x2048 : Shape := ⟨2, ![16384, 2048]⟩
abbrev S16384x18432 : Shape := ⟨2, ![16384, 18432]⟩
abbrev S2x2048 : Shape := ⟨2, ![2, 2048]⟩
abbrev S16384x4x512 : Shape := ⟨3, ![16384, 4, 512]⟩
abbrev S_ : Shape := ⟨0, ![]⟩
abbrev S16384x4 : Shape := ⟨2, ![16384, 4]⟩
abbrev S16384x4x1 : Shape := ⟨3, ![16384, 4, 1]⟩
abbrev S1x2048 : Shape := ⟨2, ![1, 2048]⟩
abbrev S2048 : Shape := ⟨1, ![2048]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x18432, .bf16⟩
  | .hbm, ⟨3, _⟩ => ⟨S2x2048, .f32⟩
  | .hbm, ⟨4, _⟩ => ⟨S16384x18432, .f32⟩
  | .hbm, ⟨5, _⟩ => ⟨S16384x2048, .f32⟩
  | .hbm, ⟨6, _⟩ => ⟨S16384x2048, .f32⟩
  | .hbm, ⟨7, _⟩ => ⟨S16384x4x512, .f32⟩
  | .hbm, ⟨8, _⟩ => ⟨S16384x4x512, .f32⟩
  | .hbm, ⟨9, _⟩ => ⟨S_, .f32⟩
  | .hbm, ⟨10, _⟩ => ⟨S16384x4, .f32⟩
  | .hbm, ⟨11, _⟩ => ⟨S16384x4x1, .f32⟩
  | .hbm, ⟨12, _⟩ => ⟨S_, .f32⟩
  | .hbm, ⟨13, _⟩ => ⟨S16384x4x1, .f32⟩
  | .hbm, ⟨14, _⟩ => ⟨S16384x4x1, .f32⟩
  | .hbm, ⟨15, _⟩ => ⟨S_, .f32⟩
  | .hbm, ⟨16, _⟩ => ⟨S16384x4x1, .f32⟩
  | .hbm, ⟨17, _⟩ => ⟨S16384x4x1, .f32⟩
  | .hbm, ⟨18, _⟩ => ⟨S16384x4x1, .f32⟩
  | .hbm, ⟨19, _⟩ => ⟨S16384x4x512, .f32⟩
  | .hbm, ⟨20, _⟩ => ⟨S16384x4x512, .f32⟩
  | .hbm, ⟨21, _⟩ => ⟨S16384x2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]
-- ==== Mix.lean ====
abbrev S16384x2048 : Shape := ⟨2, ![16384, 2048]⟩
abbrev S2x3x2048x4096 : Shape := ⟨4, ![2, 3, 2048, 4096]⟩
abbrev S16384x12288 : Shape := ⟨2, ![16384, 12288]⟩
abbrev S16384x4096 : Shape := ⟨2, ![16384, 4096]⟩
abbrev S1024x2048 : Shape := ⟨2, ![1024, 2048]⟩
abbrev S1x3x2048x512 : Shape := ⟨4, ![1, 3, 2048, 512]⟩
abbrev S1024x512 : Shape := ⟨2, ![1024, 512]⟩
abbrev S1x1x2048x512 : Shape := ⟨4, ![1, 1, 2048, 512]⟩
abbrev S2048x512 : Shape := ⟨2, ![2048, 512]⟩

abbrev nBuf : Space → Nat
  | .hbm => 7
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S2x3x2048x4096, .f32⟩
  | .hbm, ⟨4, _⟩ => ⟨S16384x12288, .bf16⟩
  | .hbm, ⟨5, _⟩ => ⟨S2x3x2048x4096, .bf16⟩
  | .hbm, ⟨6, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1x3x2048x512, .bf16⟩
  | .local _ .vmem, ⟨7, _⟩ => ⟨S1x3x2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MixRefIdeal.lean ====
abbrev S16384x2048 : Shape := ⟨2, ![16384, 2048]⟩
abbrev S2x3x2048x4096 : Shape := ⟨4, ![2, 3, 2048, 4096]⟩
abbrev S16384x12288 : Shape := ⟨2, ![16384, 12288]⟩
abbrev S16384x3x4096 : Shape := ⟨3, ![16384, 3, 4096]⟩
abbrev S16384x1x4096 : Shape := ⟨3, ![16384, 1, 4096]⟩
abbrev S16384x4096 : Shape := ⟨2, ![16384, 4096]⟩
abbrev S1x1x2048x4096 : Shape := ⟨4, ![1, 1, 2048, 4096]⟩
abbrev S2048x4096 : Shape := ⟨2, ![2048, 4096]⟩

abbrev nBuf : Space → Nat
  | .hbm => 31
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S2x3x2048x4096, .f32⟩
  | .hbm, ⟨4, _⟩ => ⟨S16384x12288, .bf16⟩
  | .hbm, ⟨5, _⟩ => ⟨S16384x12288, .f32⟩
  | .hbm, ⟨6, _⟩ => ⟨S16384x3x4096, .f32⟩
  | .hbm, ⟨7, _⟩ => ⟨S16384x1x4096, .f32⟩
  | .hbm, ⟨8, _⟩ => ⟨S16384x4096, .f32⟩
  | .hbm, ⟨9, _⟩ => ⟨S16384x2048, .f32⟩
  | .hbm, ⟨10, _⟩ => ⟨S1x1x2048x4096, .f32⟩
  | .hbm, ⟨11, _⟩ => ⟨S2048x4096, .f32⟩
  | .hbm, ⟨12, _⟩ => ⟨S16384x4096, .f32⟩
  | .hbm, ⟨13, _⟩ => ⟨S16384x4096, .f32⟩
  | .hbm, ⟨14, _⟩ => ⟨S16384x1x4096, .f32⟩
  | .hbm, ⟨15, _⟩ => ⟨S16384x4096, .f32⟩
  | .hbm, ⟨16, _⟩ => ⟨S16384x2048, .f32⟩
  | .hbm, ⟨17, _⟩ => ⟨S1x1x2048x4096, .f32⟩
  | .hbm, ⟨18, _⟩ => ⟨S2048x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x1x4096, .f32⟩
  | .hbm, ⟨23, _⟩ => ⟨S16384x4096, .f32⟩
  | .hbm, ⟨24, _⟩ => ⟨S16384x2048, .f32⟩
  | .hbm, ⟨25, _⟩ => ⟨S1x1x2048x4096, .f32⟩
  | .hbm, ⟨26, _⟩ => ⟨S2048x4096, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== Out.lean ====
abbrev S16384x4096 : Shape := ⟨2, ![16384, 4096]⟩
abbrev S2x4096x4096 : Shape := ⟨3, ![2, 4096, 4096]⟩
abbrev S4x4096x4096 : Shape := ⟨3, ![4, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 6
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .f32⟩
  | .hbm, ⟨2, _⟩ => ⟨S4x4096x4096, .f32⟩
  | .hbm, ⟨3, _⟩ => ⟨S2x4096x4096, .bf16⟩
  | .hbm, ⟨4, _⟩ => ⟨S16384x4096, .f32⟩
  | .hbm, ⟨5, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S16384x4096 : Shape := ⟨2, ![16384, 4096]⟩
abbrev S2x4096x4096 : Shape := ⟨3, ![2, 4096, 4096]⟩
abbrev S4x4096x4096 : Shape := ⟨3, ![4, 4096, 4096]⟩
abbrev S_ : Shape := ⟨0, ![]⟩
abbrev S1x4096x4096 : Shape := ⟨3, ![1, 4096, 4096]⟩
abbrev S4096x4096 : Shape := ⟨2, ![4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .f32⟩
  | .hbm, ⟨2, _⟩ => ⟨S4x4096x4096, .f32⟩
  | .hbm, ⟨3, _⟩ => ⟨S_, .f32⟩
  | .hbm, ⟨4, _⟩ => ⟨S4x4096x4096, .f32⟩
  | .hbm, ⟨5, _⟩ => ⟨S4x4096x4096, .f32⟩
  | .hbm, ⟨6, _⟩ => ⟨S16384x4096, .f32⟩
  | .hbm, ⟨7, _⟩ => ⟨S16384x4096, .f32⟩
  | .hbm, ⟨8, _⟩ => ⟨S1x4096x4096, .f32⟩
  | .hbm, ⟨9, _⟩ => ⟨S4096x4096, .f32⟩
  | .hbm, ⟨10, _⟩ => ⟨S16384x4096, .f32⟩
  | .hbm, ⟨11, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Lna.lean ====
abbrev S16384x4096 : Shape := ⟨2, ![16384, 4096]⟩
abbrev S2x4096 : Shape := ⟨2, ![2, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 10
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S2x4096, .f32⟩
  | .hbm, ⟨2, _⟩ => ⟨S2x4096, .f32⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S4096, .f32⟩
  | .hbm, ⟨7, _⟩ => ⟨S1x4096, .f32⟩
  | .hbm, ⟨8, _⟩ => ⟨S1x4096, .f32⟩
  | .hbm, ⟨9, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .bf16⟩
  | .local _ .vmem, ⟨5, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LnaRefIdeal.lean ====
abbrev S16384x4096 : Shape := ⟨2, ![16384, 4096]⟩
abbrev S2x4096 : Shape := ⟨2, ![2, 4096]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩

abbrev nBuf : Space → Nat
  | .hbm => 35
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2x4096, .f32⟩
  | .hbm, ⟨2, _⟩ => ⟨S2x4096, .f32⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S4096, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x4096, .f32⟩
  | .hbm, ⟨27, _⟩ => ⟨S16384x4096, .f32⟩
  | .hbm, ⟨28, _⟩ => ⟨S1x4096, .f32⟩
  | .hbm, ⟨29, _⟩ => ⟨S16384x4096, .f32⟩
  | .hbm, ⟨30, _⟩ => ⟨S16384x4096, .f32⟩
  | .hbm, ⟨31, _⟩ => ⟨S1x4096, .f32⟩
  | .hbm, ⟨32, _⟩ => ⟨S16384x4096, .f32⟩
  | .hbm, ⟨33, _⟩ => ⟨S16384x4096, .f32⟩
  | .hbm, ⟨34, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== FfnIn.lean ====
abbrev S16384x4096 : Shape := ⟨2, ![16384, 4096]⟩
abbrev S2x4096x22528 : Shape := ⟨3, ![2, 4096, 22528]⟩
abbrev S2x3x11008 : Shape := ⟨3, ![2, 3, 11008]⟩
abbrev S2x11008 : Shape := ⟨2, ![2, 11008]⟩
abbrev S_ : Shape := ⟨0, ![]⟩
abbrev S2x3x11264 : Shape := ⟨3, ![2, 3, 11264]⟩
abbrev S2x11264 : Shape := ⟨2, ![2, 11264]⟩
abbrev S1x3x11264 : Shape := ⟨3, ![1, 3, 11264]⟩
abbrev S3x11264 : Shape := ⟨2, ![3, 11264]⟩
abbrev S1x11264 : Shape := ⟨2, ![1, 11264]⟩
abbrev S11264 : Shape := ⟨1, ![11264]⟩
abbrev S16384x11264 : Shape := ⟨2, ![16384, 11264]⟩
abbrev S16x4096 : Shape := ⟨2, ![16, 4096]⟩
abbrev S1024x4096 : Shape := ⟨2, ![1024, 4096]⟩
abbrev S1x4096x512 : Shape := ⟨3, ![1, 4096, 512]⟩
abbrev S3x512 : Shape := ⟨2, ![3, 512]⟩
abbrev S1x512 : Shape := ⟨2, ![1, 512]⟩
abbrev S1024x512 : Shape := ⟨2, ![1024, 512]⟩
abbrev S1056x4096 : Shape := ⟨2, ![1056, 4096]⟩
abbrev S4096x512 : Shape := ⟨2, ![4096, 512]⟩
abbrev S1056x512 : Shape := ⟨2, ![1056, 512]⟩
abbrev S1x4096x256 : Shape := ⟨3, ![1, 4096, 256]⟩
abbrev S4096x256 : Shape := ⟨2, ![4096, 256]⟩
abbrev S1056x256 : Shape := ⟨2, ![1056, 256]⟩
abbrev S1024x256 : Shape := ⟨2, ![1024, 256]⟩
abbrev S1x256 : Shape := ⟨2, ![1, 256]⟩

abbrev nBuf : Space → Nat
  | .hbm => 16
  | .vmem => 17
  | .smem => 0
  | _ => 0

abbrev bufTy : (tb : Table) → Fin (tcTables nBuf tb) → BufTy
  | .hbm, ⟨0, _⟩ => ⟨S16384x4096, .bf16⟩
  | .hbm, ⟨1, _⟩ => ⟨S2x4096x22528, .bf16⟩
  | .hbm, ⟨2, _⟩ => ⟨S2x3x11008, .f32⟩
  | .hbm, ⟨3, _⟩ => ⟨S2x11008, .f32⟩
  | .hbm, ⟨4, _⟩ => ⟨S_, .i32⟩
  | .hbm, ⟨5, _⟩ => ⟨S_, .f32⟩
  | .hbm, ⟨6, _⟩ => ⟨S2x3x11264, .f32⟩
  | .hbm, ⟨7, _⟩ => ⟨S_, .i32⟩
  | .hbm, ⟨8, _⟩ => ⟨S_, .f32⟩
  | .hbm, ⟨9, _⟩ => ⟨S2x11264, .f32⟩
  | .hbm, ⟨10, _⟩ => ⟨S1x3x11264, .f32⟩
  | .hbm, ⟨11, _⟩ => ⟨S3x11264, .f32⟩
  | .hbm, ⟨12, _⟩ => ⟨S1x11264, .f32⟩
  | .hbm, ⟨13, _⟩ => ⟨S11264, .f32⟩
  | .hbm, ⟨14, _⟩ => ⟨S1x11264, .f32⟩
  | .hbm, ⟨15, _⟩ => ⟨S16384x11264, .bf16⟩
  | .local _ .vmem, ⟨0, _⟩ => ⟨S16x4096, .bf16⟩
  | .local _ .vmem, ⟨1, _⟩ => ⟨S16x4096, .bf16⟩
  | .local _ .vmem, ⟨2, _⟩ => ⟨S1024x4096, .bf16⟩
  | .local _ .vmem, ⟨3, _⟩ => ⟨S1024x4096, .bf16⟩
  | .local _ .vmem, ⟨4, _⟩ => ⟨S16x4096, .bf16⟩
  | .local _ .vmem, ⟨5, _⟩ => ⟨S16x4096, .bf16⟩
  | .local _ .vmem, ⟨6, _⟩ => ⟨S1x4096x512, .bf16⟩
  | .local _ .vmem, ⟨7, _⟩ => ⟨S1x4096x512, .bf16⟩
  | .local _ .vmem, ⟨8, _⟩ => ⟨S1x4096x512, .bf16⟩
  | .local _ .vmem, ⟨9, _⟩ => ⟨S1x4096x512, .bf16⟩
  | .local _ .vmem, ⟨10, _⟩ => ⟨S3x512, .f32⟩
  | .local _ .vmem, ⟨11, _⟩ => ⟨S3x512, .f32⟩
  | .local _ .vmem, ⟨12, _⟩ => ⟨S1x512, .f32⟩
  | .local _ .vmem, ⟨13, _⟩ => ⟨S1x512, .f32⟩
  | .local _ .vmem, ⟨14, _⟩ => ⟨S1024x512, .bf16⟩
  | .local _ .vmem, ⟨15, _⟩ => ⟨S1024x512, .bf16⟩
  | .local _ .vmem, ⟨16, _⟩ => ⟨S1056x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 22], ![false, false]⟩

def k0_cond2 (i : grid0.Coords) : BitVec 1 :=
  let arg1 : BitVec 32 := BitVec.ofNat 32 (i 1).val
  let c21_i32 : BitVec 32 := 21#32
  let v3 : BitVec 1 := Scalar.cmpi .slt arg1 c21_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c21_i32_2 : BitVec 32 := 21#32
  let v6 : BitVec 1 := Scalar.cmpi .eq arg1 c21_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnInRefIdeal.lean ====
abbrev S16384x4096 : Shape := ⟨2, ![16384, 4096]⟩
abbrev S2x4096x22528 : Shape := ⟨3, ![2, 4096, 22528]⟩
abbrev S2x3x11008 : Shape := ⟨3, ![2, 3, 11008]⟩
abbrev S2x11008 : Shape := ⟨2, ![2, 11008]⟩
abbrev S4x4096x4096 : Shape := ⟨3, ![4, 4096, 4096]⟩
abbrev S1x4096x22528 : Shape := ⟨3, ![1, 4096, 22528]⟩
abbrev S4096x22528 : Shape := ⟨2, ![4096, 22528]⟩
abbrev S4096x11008 : Shape := ⟨2, ![4096, 11008]⟩
abbrev S4x4096x11008 : Shape := ⟨3, ![4, 4096, 11008]⟩
abbrev S1x3x11008 : Shape := ⟨3, ![1, 3, 11008]⟩
abbrev S3x11008 : Shape := ⟨2, ![3, 11008]⟩
abbrev S_ : Shape := ⟨0, ![]⟩
abbrev S4x4098x11008 : Shape := ⟨3, ![4, 4098, 11008]⟩
abbrev S1x11008 : Shape := ⟨2, ![1, 11008]⟩
abbrev S11008 : Shape := ⟨1, ![11008]⟩
abbrev S1x1x11008 : Shape := ⟨3, ![1, 1, 11008]⟩
abbrev S16384x11008 : Shape := ⟨2, ![16384, 11008]⟩
abbrev S16384x11264 : Shape := ⟨2, ![16384, 11264]⟩

abbrev nBuf : Space → Nat
  | .hbm => 63
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x22528, .bf16⟩
  | .hbm, ⟨2, _⟩ => ⟨S2x3x11008, .f32⟩
  | .hbm, ⟨3, _⟩ => ⟨S2x11008, .f32⟩
  | .hbm, ⟨4, _⟩ => ⟨S16384x4096, .f32⟩
  | .hbm, ⟨5, _⟩ => ⟨S4x4096x4096, .f32⟩
  | .hbm, ⟨6, _⟩ => ⟨S1x4096x22528, .bf16⟩
  | .hbm, ⟨7, _⟩ => ⟨S4096x22528, .bf16⟩
  | .hbm, ⟨8, _⟩ => ⟨S4096x22528, .f32⟩
  | .hbm, ⟨9, _⟩ => ⟨S4096x11008, .f32⟩
  | .hbm, ⟨10, _⟩ => ⟨S4x4096x11008, .f32⟩
  | .hbm, ⟨11, _⟩ => ⟨S4096x11008, .f32⟩
  | .hbm, ⟨12, _⟩ => ⟨S4x4096x11008, .f32⟩
  | .hbm, ⟨13, _⟩ => ⟨S1x3x11008, .f32⟩
  | .hbm, ⟨14, _⟩ => ⟨S3x11008, .f32⟩
  | .hbm, ⟨15, _⟩ => ⟨S_, .i32⟩
  | .hbm, ⟨16, _⟩ => ⟨S_, .f32⟩
  | .hbm, ⟨17, _⟩ => ⟨S4x4098x11008, .f32⟩
  | .hbm, ⟨18, _⟩ => ⟨S4x4096x11008, .f32⟩
  | .hbm, ⟨19, _⟩ => ⟨S1x11008, .f32⟩
  | .hbm, ⟨20, _⟩ => ⟨S11008, .f32⟩
  | .hbm, ⟨21, _⟩ => ⟨S1x1x11008, .f32⟩
  | .hbm, ⟨22, _⟩ => ⟨S4x4096x11008, .f32⟩
  | .hbm, ⟨23, _⟩ => ⟨S4x4096x11008, .f32⟩
  | .hbm, ⟨24, _⟩ => ⟨S_, .f32⟩
  | .hbm, ⟨25, _⟩ => ⟨S4x4096x11008, .f32⟩
  | .hbm, ⟨26, _⟩ => ⟨S4x4096x11008, .f32⟩
  | .hbm, ⟨27, _⟩ => ⟨S4x4096x11008, .f32⟩
  | .hbm, ⟨28, _⟩ => ⟨S1x11008, .f32⟩
  | .hbm, ⟨29, _⟩ => ⟨S11008, .f32⟩
  | .hbm, ⟨30, _⟩ => ⟨S1x1x11008, .f32⟩
  | .hbm, ⟨31, _⟩ => ⟨S4x4096x11008, .f32⟩
  | .hbm, ⟨32, _⟩ => ⟨S4x4096x11008, .f32⟩
  | .hbm, ⟨33, _⟩ => ⟨S4x4096x11008, .f32⟩
  | .hbm, ⟨34, _⟩ => ⟨S4x4096x11008, .f32⟩
  | .hbm, ⟨35, _⟩ => ⟨S1x11008, .f32⟩
  | .hbm, ⟨36, _⟩ => ⟨S11008, .f32⟩
  | .hbm, ⟨37, _⟩ => ⟨S1x1x11008, .f32⟩
  | .hbm, ⟨38, _⟩ => ⟨S4x4096x11008, .f32⟩
  | .hbm, ⟨39, _⟩ => ⟨S4x4096x11008, .f32⟩
  | .hbm, ⟨40, _⟩ => ⟨S4x4096x11008, .f32⟩
  | .hbm, ⟨41, _⟩ => ⟨S1x11008, .f32⟩
  | .hbm, ⟨42, _⟩ => ⟨S11008, .f32⟩
  | .hbm, ⟨43, _⟩ => ⟨S1x1x11008, .f32⟩
  | .hbm, ⟨44, _⟩ => ⟨S4x4096x11008, .f32⟩
  | .hbm, ⟨45, _⟩ => ⟨S4x4096x11008, .f32⟩
  | .hbm, ⟨46, _⟩ => ⟨S_, .f32⟩
  | .hbm, ⟨47, _⟩ => ⟨S4x4096x11008, .f32⟩
  | .hbm, ⟨48, _⟩ => ⟨S4x4096x11008, .f32⟩
  | .hbm, ⟨49, _⟩ => ⟨S_, .f32⟩
  | .hbm, ⟨50, _⟩ => ⟨S4x4096x11008, .f32⟩
  | .hbm, ⟨51, _⟩ => ⟨S4x4096x11008, .f32⟩
  | .hbm, ⟨52, _⟩ => ⟨S4x4096x11008, .f32⟩
  | .hbm, ⟨53, _⟩ => ⟨S_, .f32⟩
  | .hbm, ⟨54, _⟩ => ⟨S4x4096x11008, .f32⟩
  | .hbm, ⟨55, _⟩ => ⟨S4x4096x11008, .f32⟩
  | .hbm, ⟨56, _⟩ => ⟨S4x4096x11008, .f32⟩
  | .hbm, ⟨57, _⟩ => ⟨S4x4096x11008, .f32⟩
  | .hbm, ⟨58, _⟩ => ⟨S16384x11008, .f32⟩
  | .hbm, ⟨59, _⟩ => ⟨S_, .i32⟩
  | .hbm, ⟨60, _⟩ => ⟨S_, .f32⟩
  | .hbm, ⟨61, _⟩ => ⟨S16384x11264, .f32⟩
  | .hbm, ⟨62, _⟩ => ⟨S16384x11264, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_0 : Ref sig .tc := ⟨.hbm, 46, rfl⟩
abbrev main_v39 : Ref sig .tc := ⟨.hbm, 47, rfl⟩
abbrev main_v40 : Ref sig .tc := ⟨.hbm, 48, rfl⟩
abbrev main_cst_1 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_2 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_c_3 : Ref sig .tc := ⟨.hbm, 59, rfl⟩
abbrev main_call1_v0 : Ref sig .tc := ⟨.hbm, 60, rfl⟩
abbrev main_v49 : Ref sig .tc := ⟨.hbm, 61, rfl⟩
abbrev main_v50 : Ref sig .tc := ⟨.hbm, 62, rfl⟩

abbrev nD : Nat := 1
abbrev τ : Topo := Topo.v7x

variable {F : FTy → Type} [FloatOps F]
-- ==== FfnOut.lean ====
abbrev S16384x11264 : Shape := ⟨2, ![16384, 11264]⟩
abbrev S2x11264x4096 : Shape := ⟨3, ![2, 11264, 4096]⟩
abbrev S16384x4096 : Shape := ⟨2, ![16384, 4096]⟩
abbrev S1024x1024 : Shape := ⟨2, ![1024, 1024]⟩
abbrev S1x1024x4096 : Shape := ⟨3, ![1, 1024, 4096]⟩
abbrev S1024x4096 : Shape := ⟨2, ![1024, 4096]⟩
abbrev S1024x768 : Shape := ⟨2, ![1024, 768]⟩
abbrev S1x768x4096 : Shape := ⟨3, ![1, 768, 4096]⟩
abbrev S768x4096 : Shape := ⟨2, ![768, 4096]⟩

abbrev nBuf : Space → Nat
  | .hbm => 3
  | .vmem => 6
  | .smem => 0
  | _ => 0

abbrev bufTy : (tb : Table) → Fin (tcTables nBuf tb) → BufTy
  | .hbm, ⟨0, _⟩ => ⟨S16384x11264, .bf16⟩
  | .hbm, ⟨1, _⟩ => ⟨S2x11264x4096, .bf16⟩
  | .hbm, ⟨2, _⟩ => ⟨S16384x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x4096, .f32⟩
  | .local _ .vmem, ⟨5, _⟩ => ⟨S1024x4096, .f32⟩
  | _, _ => ⟨S16384x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c10_i32 : BitVec 32 := 10#32
  let v3 : BitVec 1 := Scalar.cmpi .slt arg1 c10_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c10_i32_2 : BitVec 32 := 10#32
  let v6 : BitVec 1 := Scalar.cmpi .eq arg1 c10_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnOutRefIdeal.lean ====
abbrev S16384x11264 : Shape := ⟨2, ![16384, 11264]⟩
abbrev S2x11264x4096 : Shape := ⟨3, ![2, 11264, 4096]⟩
abbrev S16384x11008 : Shape := ⟨2, ![16384, 11008]⟩
abbrev S1x11008x4096 : Shape := ⟨3, ![1, 11008, 4096]⟩
abbrev S11008x4096 : Shape := ⟨2, ![11008, 4096]⟩
abbrev S16384x4096 : Shape := ⟨2, ![16384, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x11264, .bf16⟩
  | .hbm, ⟨1, _⟩ => ⟨S2x11264x4096, .bf16⟩
  | .hbm, ⟨2, _⟩ => ⟨S16384x11008, .bf16⟩
  | .hbm, ⟨3, _⟩ => ⟨S16384x11008, .f32⟩
  | .hbm, ⟨4, _⟩ => ⟨S1x11008x4096, .bf16⟩
  | .hbm, ⟨5, _⟩ => ⟨S11008x4096, .bf16⟩
  | .hbm, ⟨6, _⟩ => ⟨S11008x4096, .f32⟩
  | .hbm, ⟨7, _⟩ => ⟨S16384x4096, .f32⟩
  | _, _ => ⟨S16384x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Lnb.lean ====
abbrev S16384x4096 : Shape := ⟨2, ![16384, 4096]⟩
abbrev S2x4096 : Shape := ⟨2, ![2, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 19
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S2x4096, .f32⟩
  | .hbm, ⟨3, _⟩ => ⟨S2x4096, .f32⟩
  | .hbm, ⟨4, _⟩ => ⟨S2x4096, .f32⟩
  | .hbm, ⟨5, _⟩ => ⟨S2x4096, .f32⟩
  | .hbm, ⟨6, _⟩ => ⟨S1x4096, .f32⟩
  | .hbm, ⟨7, _⟩ => ⟨S4096, .f32⟩
  | .hbm, ⟨8, _⟩ => ⟨S1x4096, .f32⟩
  | .hbm, ⟨9, _⟩ => ⟨S4096, .f32⟩
  | .hbm, ⟨10, _⟩ => ⟨S1x4096, .f32⟩
  | .hbm, ⟨11, _⟩ => ⟨S4096, .f32⟩
  | .hbm, ⟨12, _⟩ => ⟨S1x4096, .f32⟩
  | .hbm, ⟨13, _⟩ => ⟨S4096, .f32⟩
  | .hbm, ⟨14, _⟩ => ⟨S1x4096, .f32⟩
  | .hbm, ⟨15, _⟩ => ⟨S1x4096, .f32⟩
  | .hbm, ⟨16, _⟩ => ⟨S1x4096, .f32⟩
  | .hbm, ⟨17, _⟩ => ⟨S1x4096, .f32⟩
  | .hbm, ⟨18, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .vmem, ⟨8, _⟩ => ⟨S256x4096, .f32⟩
  | .local _ .vmem, ⟨9, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LnbRefIdeal.lean ====
abbrev S16384x4096 : Shape := ⟨2, ![16384, 4096]⟩
abbrev S2x4096 : Shape := ⟨2, ![2, 4096]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩

abbrev nBuf : Space → Nat
  | .hbm => 72
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S2x4096, .f32⟩
  | .hbm, ⟨3, _⟩ => ⟨S2x4096, .f32⟩
  | .hbm, ⟨4, _⟩ => ⟨S2x4096, .f32⟩
  | .hbm, ⟨5, _⟩ => ⟨S2x4096, .f32⟩
  | .hbm, ⟨6, _⟩ => ⟨S1x4096, .f32⟩
  | .hbm, ⟨7, _⟩ => ⟨S4096, .f32⟩
  | .hbm, ⟨8, _⟩ => ⟨S1x4096, .f32⟩
  | .hbm, ⟨9, _⟩ => ⟨S4096, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x4096, .f32⟩
  | .hbm, ⟨30, _⟩ => ⟨S16384x4096, .f32⟩
  | .hbm, ⟨31, _⟩ => ⟨S1x4096, .f32⟩
  | .hbm, ⟨32, _⟩ => ⟨S16384x4096, .f32⟩
  | .hbm, ⟨33, _⟩ => ⟨S16384x4096, .f32⟩
  | .hbm, ⟨34, _⟩ => ⟨S1x4096, .f32⟩
  | .hbm, ⟨35, _⟩ => ⟨S16384x4096, .f32⟩
  | .hbm, ⟨36, _⟩ => ⟨S16384x4096, .f32⟩
  | .hbm, ⟨37, _⟩ => ⟨S_, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S1x4096, .f32⟩
  | .hbm, ⟨42, _⟩ => ⟨S4096, .f32⟩
  | .hbm, ⟨43, _⟩ => ⟨S1x4096, .f32⟩
  | .hbm, ⟨44, _⟩ => ⟨S4096, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x4096, .f32⟩
  | .hbm, ⟨52, _⟩ => ⟨S16384x4096, .f32⟩
  | .hbm, ⟨53, _⟩ => ⟨S16384x4096, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1, .f32⟩
  | .hbm, ⟨64, _⟩ => ⟨S16384x4096, .f32⟩
  | .hbm, ⟨65, _⟩ => ⟨S16384x4096, .f32⟩
  | .hbm, ⟨66, _⟩ => ⟨S1x4096, .f32⟩
  | .hbm, ⟨67, _⟩ => ⟨S16384x4096, .f32⟩
  | .hbm, ⟨68, _⟩ => ⟨S16384x4096, .f32⟩
  | .hbm, ⟨69, _⟩ => ⟨S1x4096, .f32⟩
  | .hbm, ⟨70, _⟩ => ⟨S16384x4096, .f32⟩
  | .hbm, ⟨71, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== Gla.lean ====
abbrev S16384x18432 : Shape := ⟨2, ![16384, 18432]⟩
abbrev S16384x128 : Shape := ⟨2, ![16384, 128]⟩
abbrev S2x2x16x1024 : Shape := ⟨4, ![2, 2, 16, 1024]⟩
abbrev S2x2x1024 : Shape := ⟨3, ![2, 2, 1024]⟩
abbrev S_ : Shape := ⟨0, ![]⟩
abbrev S2x128x1024 : Shape := ⟨3, ![2, 128, 1024]⟩
abbrev S1x1x16x1024 : Shape := ⟨4, ![1, 1, 16, 1024]⟩
abbrev S16x1024 : Shape := ⟨2, ![16, 1024]⟩
abbrev S1 : Shape := ⟨1, ![1]⟩
abbrev S2 : Shape := ⟨1, ![2]⟩
abbrev S1x2x1024 : Shape := ⟨3, ![1, 2, 1024]⟩
abbrev S2x1024 : Shape := ⟨2, ![2, 1024]⟩
abbrev S16384x2048 : Shape := ⟨2, ![16384, 2048]⟩
abbrev S64x1024 : Shape := ⟨2, ![64, 1024]⟩
abbrev S64x2048 : Shape := ⟨2, ![64, 2048]⟩
abbrev S64x128 : Shape := ⟨2, ![64, 128]⟩
abbrev S2x4x512x256 : Shape := ⟨4, ![2, 4, 512, 256]⟩
abbrev S64x64 : Shape := ⟨2, ![64, 64]⟩
abbrev S1x128x1024 : Shape := ⟨3, ![1, 128, 1024]⟩
abbrev S128x1024 : Shape := ⟨2, ![128, 1024]⟩
abbrev S1x1024 : Shape := ⟨2, ![1, 1024]⟩
abbrev S64x256 : Shape := ⟨2, ![64, 256]⟩
abbrev S64x512 : Shape := ⟨2, ![64, 512]⟩
abbrev S1x1x512x256 : Shape := ⟨4, ![1, 1, 512, 256]⟩
abbrev S512x256 : Shape := ⟨2, ![512, 256]⟩
abbrev S1x256 : Shape := ⟨2, ![1, 256]⟩

abbrev nBuf : Space → Nat
  | .hbm => 27
  | .vmem => 23
  | .smem => 0
  | _ => 0

abbrev bufTy : (tb : Table) → Fin (tcTables nBuf tb) → BufTy
  | .hbm, ⟨0, _⟩ => ⟨S16384x18432, .bf16⟩
  | .hbm, ⟨1, _⟩ => ⟨S16384x128, .f32⟩
  | .hbm, ⟨2, _⟩ => ⟨S2x2x16x1024, .f32⟩
  | .hbm, ⟨3, _⟩ => ⟨S2x2x1024, .f32⟩
  | .hbm, ⟨4, _⟩ => ⟨S_, .f32⟩
  | .hbm, ⟨5, _⟩ => ⟨S2x128x1024, .f32⟩
  | .hbm, ⟨6, _⟩ => ⟨S1x1x16x1024, .f32⟩
  | .hbm, ⟨7, _⟩ => ⟨S16x1024, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S2x128x1024, .f32⟩
  | .hbm, ⟨14, _⟩ => ⟨S1x1x16x1024, .f32⟩
  | .hbm, ⟨15, _⟩ => ⟨S16x1024, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S2x128x1024, .f32⟩
  | .hbm, ⟨22, _⟩ => ⟨S2x128x1024, .bf16⟩
  | .hbm, ⟨23, _⟩ => ⟨S1x2x1024, .f32⟩
  | .hbm, ⟨24, _⟩ => ⟨S2x1024, .f32⟩
  | .hbm, ⟨25, _⟩ => ⟨S16384x2048, .f32⟩
  | .hbm, ⟨26, _⟩ => ⟨S16384x2048, .f32⟩
  | .local _ .vmem, ⟨0, _⟩ => ⟨S64x1024, .bf16⟩
  | .local _ .vmem, ⟨1, _⟩ => ⟨S64x1024, .bf16⟩
  | .local _ .vmem, ⟨2, _⟩ => ⟨S64x1024, .bf16⟩
  | .local _ .vmem, ⟨3, _⟩ => ⟨S64x1024, .bf16⟩
  | .local _ .vmem, ⟨4, _⟩ => ⟨S64x2048, .bf16⟩
  | .local _ .vmem, ⟨5, _⟩ => ⟨S64x2048, .bf16⟩
  | .local _ .vmem, ⟨6, _⟩ => ⟨S64x128, .f32⟩
  | .local _ .vmem, ⟨7, _⟩ => ⟨S64x128, .f32⟩
  | .local _ .vmem, ⟨8, _⟩ => ⟨S64x1024, .bf16⟩
  | .local _ .vmem, ⟨9, _⟩ => ⟨S64x1024, .bf16⟩
  | .local _ .vmem, ⟨10, _⟩ => ⟨S64x1024, .bf16⟩
  | .local _ .vmem, ⟨11, _⟩ => ⟨S64x1024, .bf16⟩
  | .local _ .vmem, ⟨12, _⟩ => ⟨S64x2048, .bf16⟩
  | .local _ .vmem, ⟨13, _⟩ => ⟨S64x2048, .bf16⟩
  | .local _ .vmem, ⟨14, _⟩ => ⟨S64x128, .f32⟩
  | .local _ .vmem, ⟨15, _⟩ => ⟨S64x128, .f32⟩
  | .local _ .vmem, ⟨16, _⟩ => ⟨S2x128x1024, .bf16⟩
  | .local _ .vmem, ⟨17, _⟩ => ⟨S2x1024, .f32⟩
  | .local _ .vmem, ⟨18, _⟩ => ⟨S64x2048, .f32⟩
  | .local _ .vmem, ⟨19, _⟩ => ⟨S64x2048, .f32⟩
  | .local _ .vmem, ⟨20, _⟩ => ⟨S64x2048, .f32⟩
  | .local _ .vmem, ⟨21, _⟩ => ⟨S64x2048, .f32⟩
  | .local _ .vmem, ⟨22, _⟩ => ⟨S2x4x512x256, .f32⟩
  | _, _ => ⟨S16384x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c12_i32 : BitVec 32 := 12#32
  let c0_i32 : BitVec 32 := 0#32
  ![v1.toNat, c12_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c13_i32 : BitVec 32 := 13#32
  let c0_i32 : BitVec 32 := 0#32
  ![v1.toNat, c13_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c7_i32 : BitVec 32 := 7#32
  let c0_i32 : BitVec 32 := 0#32
  ![v1.toNat, c7_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c64_i32_0 : BitVec 32 := 64#32
  let v1 : BitVec 32 := Scalar.addi v0 c64_i32_0
  let c1_i32 : BitVec 32 := 1#32
  let v2 : BitVec 32 := Scalar.subi v1 c1_i32
  let v3 : BitVec 32 := Scalar.subi v2 arg1
  let c12_i32 : BitVec 32 := 12#32
  let c0_i32 : BitVec 32 := 0#32
  ![v3.toNat, c12_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c64_i32_0 : BitVec 32 := 64#32
  let v1 : BitVec 32 := Scalar.addi v0 c64_i32_0
  let c1_i32 : BitVec 32 := 1#32
  let v2 : BitVec 32 := Scalar.subi v1 c1_i32
  let v3 : BitVec 32 := Scalar.subi v2 arg1
  let c13_i32 : BitVec 32 := 13#32
  let c0_i32 : BitVec 32 := 0#32
  ![v3.toNat, c13_i32.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c64_i32_0 : BitVec 32 := 64#32
  let v1 : BitVec 32 := Scalar.addi v0 c64_i32_0
  let c1_i32 : BitVec 32 := 1#32
  let v2 : BitVec 32 := Scalar.subi v1 c1_i32
  let v3 : BitVec 32 := Scalar.subi v2 arg1
  let c7_i32 : BitVec 32 := 7#32
  let c0_i32 : BitVec 32 := 0#32
  ![v3.toNat, c7_i32.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c64_i32_0 : BitVec 32 := 64#32
  let v1 : BitVec 32 := Scalar.addi v0 c64_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c64_i32_0 : BitVec 32 := 64#32
  let v1 : BitVec 32 := Scalar.addi v0 c64_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S2x128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== GlaRefIdeal.lean ====
abbrev S16384x18432 : Shape := ⟨2, ![16384, 18432]⟩
abbrev S16384x128 : Shape := ⟨2, ![16384, 128]⟩
abbrev S2x2x16x1024 : Shape := ⟨4, ![2, 2, 16, 1024]⟩
abbrev S2x2x1024 : Shape := ⟨3, ![2, 2, 1024]⟩
abbrev S4x4096x18432 : Shape := ⟨3, ![4, 4096, 18432]⟩
abbrev S4x4096x1024 : Shape := ⟨3, ![4, 4096, 1024]⟩
abbrev S4x4096x2048 : Shape := ⟨3, ![4, 4096, 2048]⟩
abbrev S4x4096x4x256 : Shape := ⟨4, ![4, 4096, 4, 256]⟩
abbrev S_ : Shape := ⟨0, ![]⟩
abbrev S4x4096x4x512 : Shape := ⟨4, ![4, 4096, 4, 512]⟩
abbrev S16384x32 : Shape := ⟨2, ![16384, 32]⟩
abbrev S4x4096x2x16 : Shape := ⟨4, ![4, 4096, 2, 16]⟩
abbrev S1x2x16x1024 : Shape := ⟨4, ![1, 2, 16, 1024]⟩
abbrev S2x16x1024 : Shape := ⟨3, ![2, 16, 1024]⟩
abbrev S2x1024x4x4096 : Shape := ⟨4, ![2, 1024, 4, 4096]⟩
abbrev S4x4096x2x1024 : Shape := ⟨4, ![4, 4096, 2, 1024]⟩
abbrev S1x2x1024 : Shape := ⟨3, ![1, 2, 1024]⟩
abbrev S2x1024 : Shape := ⟨2, ![2, 1024]⟩
abbrev S1x1x2x1024 : Shape := ⟨4, ![1, 1, 2, 1024]⟩
abbrev S4x4096x2x4x256 : Shape := ⟨5, ![4, 4096, 2, 4, 256]⟩
abbrev S8x4096x4x256 : Shape := ⟨4, ![8, 4096, 4, 256]⟩
abbrev S8x4096x4x512 : Shape := ⟨4, ![8, 4096, 4, 512]⟩
abbrev S4x4096x1x4x256 : Shape := ⟨5, ![4, 4096, 1, 4, 256]⟩
abbrev S8x64x64x4x256 : Shape := ⟨5, ![8, 64, 64, 4, 256]⟩
abbrev S8x64x64x4x512 : Shape := ⟨5, ![8, 64, 64, 4, 512]⟩
abbrev S8x64x1x4x256 : Shape := ⟨5, ![8, 64, 1, 4, 256]⟩
abbrev S64x64 : Shape := ⟨2, ![64, 64]⟩
abbrev S8x64x4x64x64 : Shape := ⟨5, ![8, 64, 4, 64, 64]⟩
abbrev S8x64x4x512x64 : Shape := ⟨5, ![8, 64, 4, 512, 64]⟩
abbrev S64x8x64x4x256 : Shape := ⟨5, ![64, 8, 64, 4, 256]⟩
abbrev S64x8x64x4x512 : Shape := ⟨5, ![64, 8, 64, 4, 512]⟩
abbrev S8x64x4x256 : Shape := ⟨4, ![8, 64, 4, 256]⟩
abbrev S64x8x4x256 : Shape := ⟨4, ![64, 8, 4, 256]⟩
abbrev S8x4x256x512 : Shape := ⟨4, ![8, 4, 256, 512]⟩
abbrev S1x8x64x4x256 : Shape := ⟨5, ![1, 8, 64, 4, 256]⟩
abbrev S1x8x64x4x512 : Shape := ⟨5, ![1, 8, 64, 4, 512]⟩
abbrev S8x64x4x512 : Shape := ⟨4, ![8, 64, 4, 512]⟩
abbrev S1x8x4x256 : Shape := ⟨4, ![1, 8, 4, 256]⟩
abbrev S8x4x256 : Shape := ⟨3, ![8, 4, 256]⟩
abbrev S8x4x512x64 : Shape := ⟨4, ![8, 4, 512, 64]⟩
abbrev S8x4x256x1 : Shape := ⟨4, ![8, 4, 256, 1]⟩
abbrev S16384x2048 : Shape := ⟨2, ![16384, 2048]⟩

abbrev nBuf : Space → Nat
  | .hbm => 160
  | .vmem => 0
  | .smem => 0
  | _ => 0

abbrev hbmTy0_0 (i : Nat) : BufTy := match i % 128 with
  | 0 => ⟨S16384x18432, .bf16⟩
  | 1 => ⟨S16384x128, .f32⟩
  | 2 => ⟨S2x2x16x1024, .f32⟩
  | 3 => ⟨S2x2x1024, .f32⟩
  | 4 => ⟨S16384x18432, .f32⟩
  | 5 => ⟨S4x4096x18432, .f32⟩
  | 6 => ⟨S4x4096x1024, .f32⟩
  | 7 => ⟨S4x4096x1024, .f32⟩
  | 8 => ⟨S4x4096x2048, .f32⟩
  | 9 => ⟨S4x4096x4x256, .f32⟩
  | 10 => ⟨S_, .f32⟩
  | 11 => ⟨S4x4096x4x256, .f32⟩
  | 12 => ⟨S4x4096x4x256, .f32⟩
  | 13 => ⟨S4x4096x4x256, .f32⟩
  | 14 => ⟨S4x4096x4x512, .f32⟩
  | 15 => ⟨S16384x32, .f32⟩
  | 16 => ⟨S4x4096x2x16, .f32⟩
  | 17 => ⟨S1x2x16x1024, .f32⟩
  | 18 => ⟨S2x16x1024, .f32⟩
  | 19 => ⟨S2x1024x4x4096, .f32⟩
  | 20 => ⟨S4x4096x2x1024, .f32⟩
  | 21 => ⟨S1x2x1024, .f32⟩
  | 22 => ⟨S2x1024, .f32⟩
  | 23 => ⟨S1x1x2x1024, .f32⟩
  | 24 => ⟨S4x4096x2x1024, .f32⟩
  | 25 => ⟨S4x4096x2x1024, .f32⟩
  | 26 => ⟨S4x4096x2x1024, .f32⟩
  | 27 => ⟨S_, .f32⟩
  | 28 => ⟨S4x4096x2x1024, .f32⟩
  | 29 => ⟨S4x4096x2x1024, .f32⟩
  | 30 => ⟨S4x4096x2x1024, .f32⟩
  | 31 => ⟨S4x4096x2x1024, .f32⟩
  | 32 => ⟨S4x4096x2x1024, .i1⟩
  | 33 => ⟨S4x4096x2x1024, .f32⟩
  | 34 => ⟨S4x4096x2x1024, .f32⟩
  | 35 => ⟨S4x4096x2x1024, .f32⟩
  | 36 => ⟨S4x4096x2x1024, .f32⟩
  | 37 => ⟨S4x4096x2x1024, .f32⟩
  | 38 => ⟨S4x4096x2x1024, .f32⟩
  | 39 => ⟨S4x4096x2x1024, .f32⟩
  | 40 => ⟨S4x4096x2x1024, .f32⟩
  | 41 => ⟨S4x4096x2x1024, .f32⟩
  | 42 => ⟨S_, .f32⟩
  | 43 => ⟨S4x4096x2x1024, .f32⟩
  | 44 => ⟨S4x4096x2x1024, .f32⟩
  | 45 => ⟨S4x4096x2x4x256, .f32⟩
  | 46 => ⟨S4x4096x4x256, .f32⟩
  | 47 => ⟨S8x4096x4x256, .f32⟩
  | 48 => ⟨S4x4096x4x256, .f32⟩
  | 49 => ⟨S8x4096x4x256, .f32⟩
  | 50 => ⟨S4x4096x4x512, .f32⟩
  | 51 => ⟨S8x4096x4x512, .f32⟩
  | 52 => ⟨S4x4096x1x4x256, .f32⟩
  | 53 => ⟨S4x4096x4x256, .f32⟩
  | 54 => ⟨S4x4096x1x4x256, .f32⟩
  | 55 => ⟨S4x4096x4x256, .f32⟩
  | 56 => ⟨S4x4096x4x256, .f32⟩
  | 57 => ⟨S8x4096x4x256, .f32⟩
  | 58 => ⟨S8x64x64x4x256, .f32⟩
  | 59 => ⟨S8x64x64x4x256, .f32⟩
  | 60 => ⟨S8x64x64x4x256, .f32⟩
  | 61 => ⟨S8x64x64x4x512, .f32⟩
  | 62 => ⟨S_, .f32⟩
  | 63 => ⟨S_, .f32⟩
  | 64 => ⟨S8x64x64x4x256, .f32⟩
  | 65 => ⟨S8x64x1x4x256, .f32⟩
  | 66 => ⟨S8x64x64x4x256, .f32⟩
  | 67 => ⟨S8x64x64x4x256, .f32⟩
  | 68 => ⟨S8x64x64x4x256, .f32⟩
  | 69 => ⟨S8x64x64x4x256, .f32⟩
  | 70 => ⟨S8x64x64x4x256, .f32⟩
  | 71 => ⟨S8x64x64x4x256, .f32⟩
  | 72 => ⟨S8x64x64x4x256, .f32⟩
  | 73 => ⟨S8x64x64x4x256, .f32⟩
  | 74 => ⟨S8x64x64x4x256, .f32⟩
  | 75 => ⟨S_, .i1⟩
  | 76 => ⟨S64x64, .i1⟩
  | 77 => ⟨S64x64, .i32⟩
  | 78 => ⟨S_, .i32⟩
  | 79 => ⟨S64x64, .i32⟩
  | 80 => ⟨S64x64, .i32⟩
  | 81 => ⟨S64x64, .i32⟩
  | 82 => ⟨S64x64, .i1⟩
  | 83 => ⟨S_, .i1⟩
  | 84 => ⟨S64x64, .i1⟩
  | 85 => ⟨S64x64, .i1⟩
  | 86 => ⟨S8x64x4x64x64, .f32⟩
  | 87 => ⟨S_, .f32⟩
  | 88 => ⟨S_, .f32⟩
  | 89 => ⟨S8x64x4x64x64, .i1⟩
  | 90 => ⟨S8x64x4x64x64, .f32⟩
  | 91 => ⟨S8x64x4x64x64, .f32⟩
  | 92 => ⟨S8x64x4x512x64, .f32⟩
  | 93 => ⟨S8x64x64x4x512, .f32⟩
  | 94 => ⟨S64x8x64x4x256, .f32⟩
  | 95 => ⟨S64x8x64x4x256, .f32⟩
  | 96 => ⟨S64x8x64x4x512, .f32⟩
  | 97 => ⟨S8x64x4x256, .f32⟩
  | 98 => ⟨S8x64x4x256, .f32⟩
  | 99 => ⟨S64x8x4x256, .f32⟩
  | 100 => ⟨S_, .f32⟩
  | 101 => ⟨S8x4x256x512, .f32⟩
  | 102 => ⟨S_, .f32⟩
  | 103 => ⟨S64x8x64x4x512, .f32⟩
  | 104 => ⟨S_, .i32⟩
  | 105 => ⟨S64x8x64x4x256, .f32⟩
  | 106 => ⟨S64x8x64x4x256, .f32⟩
  | 107 => ⟨S64x8x64x4x512, .f32⟩
  | 108 => ⟨S64x8x4x256, .f32⟩
  | 109 => ⟨S_, .i32⟩
  | 110 => ⟨S8x4x256x512, .f32⟩
  | 111 => ⟨S64x8x64x4x512, .f32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S1x8x64x4x256, .f32⟩
  | 119 => ⟨S8x64x4x256, .f32⟩
  | 120 => ⟨S_, .i32⟩
  | 121 => ⟨S_, .i32⟩
  | 122 => ⟨S_, .i32⟩
  | 123 => ⟨S_, .i32⟩
  | 124 => ⟨S1x8x64x4x256, .f32⟩
  | 125 => ⟨S8x64x4x256, .f32⟩
  | 126 => ⟨S_, .i32⟩
  | 127 => ⟨S_, .i32⟩
  | _ => ⟨S16384x18432, .bf16⟩

abbrev hbmTy0_1 (i : Nat) : BufTy := match i % 128 with
  | 0 => ⟨S_, .i32⟩
  | 1 => ⟨S_, .i32⟩
  | 2 => ⟨S1x8x64x4x512, .f32⟩
  | 3 => ⟨S8x64x4x512, .f32⟩
  | 4 => ⟨S_, .i32⟩
  | 5 => ⟨S_, .i32⟩
  | 6 => ⟨S_, .i32⟩
  | 7 => ⟨S1x8x4x256, .f32⟩
  | 8 => ⟨S8x4x256, .f32⟩
  | 9 => ⟨S8x4x512x64, .f32⟩
  | 10 => ⟨S8x64x4x512, .f32⟩
  | 11 => ⟨S8x4x256x1, .f32⟩
  | 12 => ⟨S8x4x256x512, .f32⟩
  | 13 => ⟨S8x4x256x512, .f32⟩
  | 14 => ⟨S8x4x256x512, .f32⟩
  | 15 => ⟨S8x4x256x512, .f32⟩
  | 16 => ⟨S1x8x64x4x512, .f32⟩
  | 17 => ⟨S_, .i32⟩
  | 18 => ⟨S_, .i32⟩
  | 19 => ⟨S_, .i32⟩
  | 20 => ⟨S_, .i32⟩
  | 21 => ⟨S64x8x64x4x512, .f32⟩
  | 22 => ⟨S_, .i32⟩
  | 23 => ⟨S_, .i32⟩
  | 24 => ⟨S8x64x64x4x512, .f32⟩
  | 25 => ⟨S8x64x64x4x512, .f32⟩
  | 26 => ⟨S8x4096x4x512, .f32⟩
  | 27 => ⟨S4x4096x4x512, .f32⟩
  | 28 => ⟨S16384x2048, .f32⟩
  | 29 => ⟨S4x4096x4x512, .f32⟩
  | 30 => ⟨S4x4096x4x512, .f32⟩
  | 31 => ⟨S16384x2048, .f32⟩
  | _ => ⟨S16384x18432, .bf16⟩

abbrev hbmTy (i : Nat) : BufTy := match i / 128 with
  | 0 => hbmTy0_0 i
  | 1 => hbmTy0_1 i
  | _ => ⟨S16384x18432, .bf16⟩

abbrev bufTy : (tb : Table) → Fin (tcTables nBuf tb) → BufTy
  | .hbm, ⟨i, _⟩ => hbmTy i
  | _, _ => ⟨S16384x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v21 : Ref sig .tc := ⟨.hbm, 41, rfl⟩
abbrev main_cst_0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call5_call0_cst : Ref sig .tc := ⟨.hbm, 62, rfl⟩
abbrev main_call5_call0_v0 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c : Ref sig .tc := ⟨.hbm, 75, rfl⟩
abbrev main_v52 : Ref sig .tc := ⟨.hbm, 76, rfl⟩
abbrev main_call6_v0 : Ref sig .tc := ⟨.hbm, 77, rfl⟩
abbrev main_call6_c : Ref sig .tc := ⟨.hbm, 78, rfl⟩
abbrev main_call6_v1 : Ref sig .tc := ⟨.hbm, 79, rfl⟩
abbrev main_call6_v2 : Ref sig .tc := ⟨.hbm, 80, rfl⟩
abbrev main_call6_v3 : Ref sig .tc := ⟨.hbm, 81, rfl⟩
abbrev main_call6_v4 : Ref sig .tc := ⟨.hbm, 82, rfl⟩
abbrev main_call6_c_0 : Ref sig .tc := ⟨.hbm, 83, rfl⟩
abbrev main_call6_v5 : Ref sig .tc := ⟨.hbm, 84, rfl⟩
abbrev main_v53 : Ref sig .tc := ⟨.hbm, 85, rfl⟩
abbrev main_v54 : Ref sig .tc := ⟨.hbm, 86, rfl⟩
abbrev main_cst_1 : Ref sig .tc := ⟨.hbm, 87, rfl⟩
abbrev main_call7_v0 : Ref sig .tc := ⟨.hbm, 88, rfl⟩
abbrev main_call7_v1 : Ref sig .tc := ⟨.hbm, 89, rfl⟩
abbrev main_call7_v2 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_2 : Ref sig .tc := ⟨.hbm, 100, rfl⟩
abbrev main_v64 : Ref sig .tc := ⟨.hbm, 101, rfl⟩
abbrev main_cst_3 : Ref sig .tc := ⟨.hbm, 102, rfl⟩
abbrev main_v65 : Ref sig .tc := ⟨.hbm, 103, rfl⟩
abbrev main_c_4 : Ref sig .tc := ⟨.hbm, 104, rfl⟩
abbrev main_v66_0 : Ref sig .tc := ⟨.hbm, 105, rfl⟩
abbrev main_v66_1 : Ref sig .tc := ⟨.hbm, 106, rfl⟩
abbrev main_v66_2 : Ref sig .tc := ⟨.hbm, 107, rfl⟩
abbrev main_v66_3 : Ref sig .tc := ⟨.hbm, 108, rfl⟩
abbrev main_v66_4 : Ref sig .tc := ⟨.hbm, 109, rfl⟩
abbrev main_v66_5 : Ref sig .tc := ⟨.hbm, 110, rfl⟩
abbrev main_v66_6 : Ref sig .tc := ⟨.hbm, 111, rfl⟩
abbrev main_while0c_c_11 : Ref sig .tc := ⟨.hbm, 112, rfl⟩
abbrev main_while0c_v75 : Ref sig .tc := ⟨.hbm, 113, rfl⟩
abbrev main_while0b_call8_c : Ref sig .tc := ⟨.hbm, 114, rfl⟩
abbrev main_while0b_call8_c_0 : Ref sig .tc := ⟨.hbm, 115, rfl⟩
abbrev main_while0b_call8_c_1 : Ref sig .tc := ⟨.hbm, 116, rfl⟩
abbrev main_while0b_call8_c_2 : Ref sig .tc := ⟨.hbm, 117, rfl⟩
abbrev main_while0b_call8_v0 : Ref sig .tc := ⟨.hbm, 118, rfl⟩
abbrev main_while0b_v75 : Ref sig .tc := ⟨.hbm, 119, rfl⟩
abbrev main_while0b_call9_c : Ref sig .tc := ⟨.hbm, 120, rfl⟩
abbrev main_while0b_call9_c_0 : Ref sig .tc := ⟨.hbm, 121, rfl⟩
abbrev main_while0b_call9_c_1 : Ref sig .tc := ⟨.hbm, 122, rfl⟩
abbrev main_while0b_call9_c_2 : Ref sig .tc := ⟨.hbm, 123, rfl⟩
abbrev main_while0b_call9_v0 : Ref sig .tc := ⟨.hbm, 124, rfl⟩
abbrev main_while0b_v76 : Ref sig .tc := ⟨.hbm, 125, rfl⟩
abbrev main_while0b_call10_c : Ref sig .tc := ⟨.hbm, 126, rfl⟩
abbrev main_while0b_call10_c_0 : Ref sig .tc := ⟨.hbm, 127, rfl⟩
abbrev main_while0b_call10_c_1 : Ref sig .tc := ⟨.hbm, 128, rfl⟩
abbrev main_while0b_call10_c_2 : Ref sig .tc := ⟨.hbm, 129, rfl⟩
abbrev main_while0b_call10_v0 : Ref sig .tc := ⟨.hbm, 130, rfl⟩
abbrev main_while0b_v77 : Ref sig .tc := ⟨.hbm, 131, rfl⟩
abbrev main_while0b_call11_c : Ref sig .tc := ⟨.hbm, 132, rfl⟩
abbrev main_while0b_call11_c_0 : Ref sig .tc := ⟨.hbm, 133, rfl⟩
abbrev main_while0b_call11_c_1 : Ref sig .tc := ⟨.hbm, 134, rfl⟩
abbrev main_while0b_call11_v0 : Ref sig .tc := ⟨.hbm, 135, rfl⟩
abbrev main_while0b_v78 : Ref sig .tc := ⟨.hbm, 136, rfl⟩
abbrev main_while0b_v79 : Ref sig .tc := ⟨.hbm, 137, rfl⟩
abbrev main_while0b_v80 : Ref sig .tc := ⟨.hbm, 138, rfl⟩
abbrev main_while0b_v81 : Ref sig .tc := ⟨.hbm, 139, rfl⟩
abbrev main_while0b_v82 : Ref sig .tc := ⟨.hbm, 140, rfl⟩
abbrev main_while0b_v83 : Ref sig .tc := ⟨.hbm, 141, rfl⟩
abbrev main_while0b_v84 : Ref sig .tc := ⟨.hbm, 142, rfl⟩
abbrev main_while0b_v85 : Ref sig .tc := ⟨.hbm, 143, rfl⟩
abbrev main_while0b_call12_v0 : Ref sig .tc := ⟨.hbm, 144, rfl⟩
abbrev main_while0b_call12_c : Ref sig .tc := ⟨.hbm, 145, rfl⟩
abbrev main_while0b_call12_c_0 : Ref sig .tc := ⟨.hbm, 146, rfl⟩
abbrev main_while0b_call12_c_1 : Ref sig .tc := ⟨.hbm, 147, rfl⟩
abbrev main_while0b_call12_c_2 : Ref sig .tc := ⟨.hbm, 148, rfl⟩
abbrev main_while0b_v86 : Ref sig .tc := ⟨.hbm, 149, rfl⟩
abbrev main_while0b_c_11 : Ref sig .tc := ⟨.hbm, 150, rfl⟩
abbrev main_while0b_v87 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩

abbrev nD : Nat := 1
abbrev τ : Topo := Topo.v7x

variable {F : FTy → Type} [FloatOps F]

abbrev main_while0_count : Scf.Loop 32 := ⟨0#32, 64#32, 1#32⟩
-- ==== Proof.GatesValue.lean ====
module

public import proofs.«01_k».proof.Proof.Gen.GatesIdeal.Value
public import proofs.«01_k».proof.Proof.Gen.GatesRefIdeal.Run
public import proofs.«01_k».proof.Defs
public import Idealize.ShloMosaic.Lib.Pipeline.ValueKit
public import Idealize.ShloMosaic.Lib.Pipeline.Covers
public import Idealize.ShloMosaic.Lib.Claim

@[expose] public section

set_option maxRecDepth 16384
noncomputable section
open Idealize.ShloMosaic Idealize.ShloMosaic.TcCoe Idealize.SL.Sem
open Idealize.ShloMosaic.Pipeline (Dat)

namespace Cert.GatesRefIdeal.Result
open Cert.GatesRefIdeal Cert.GatesRefIdeal.Gen

/-- The reference's result 0, as one term over the argument arrays. -/
abbrev ref0 (x0 : FVec Ideal S4x4096x4096 .f32) (x1 : FVec Ideal S2x4096x30752 .f32) (x2 : FVec Ideal S2x12288 .f32) : FVec Ideal S16384x12288 .bf16 :=
  truncf .bf16 (shapeCast _ (Host.divf (broadcastInDim S4x4096x12288 ![] bcast_S_S4x4096x12288 (constant S_ .f32 0x3F800000#32)) (addf (broadcastInDim S4x4096x12288 ![] bcast_S_S4x4096x12288 (constant S_ .f32 0x3F800000#32)) (Host.exp (Host.negf (addf (extractStridedSlice S4x4096x12288 ![0, 0, 18464] (Host.dotGeneral dot_S4x4096x4096_S4096x30752_S4x4096x30752_2_0_01_1_n_n none x0 (shapeCast _ (extractStridedSlice S1x4096x30752 ![0, 0, 0] x1 slices_S2x4096x30752_S1x4096x30752_0_0_0) shapeCasts_S1x4096x30752_S4096x30752)) slices_S4x4096x30752_S4x4096x12288_0_0_18464) (broadcastInDim S4x4096x12288 ![0, 1, 2] bcast_S1x1x12288_S4x4096x12288_0_1_2 (broadcastInDim S1x1x12288 ![2] bcast_S12288_S1x1x12288_2 (shapeCast _ (extractStridedSlice S1x12288 ![0, 0] x2 slices_S2x12288_S1x12288_0_0) shapeCasts_S1x12288_S12288)))))))) shapeCasts_S4x4096x12288_S16384x12288) bitsLt_bf16_f32

/-- The reference's result 1, as one term over the argument arrays. -/
abbrev ref1 (x3 : FVec Ideal S2x11008x4096 .f32) : FVec Ideal S2x11264x4096 .bf16 :=
  truncf .bf16 ((concatenate S2x11264x4096 1 [⟨S2x11008x4096, (x3 : (⟨S2x11008x4096, .f32⟩ : BufTy).Contents (Elt Ideal))⟩, ⟨S2x128x4096, ((extractStridedSlice S2x128x4096 ![0, 10880, 0] x3 slices_S2x11008x4096_S2x128x4096_0_10880_0) : (⟨S2x128x4096, .f32⟩ : BufTy).Contents (Elt Ideal))⟩, ⟨S2x128x4096, ((extractStridedSlice S2x128x4096 ![0, 10880, 0] x3 slices_S2x11008x4096_S2x128x4096_0_10880_0) : (⟨S2x128x4096, .f32⟩ : BufTy).Contents (Elt Ideal))⟩] concatenates_S2x11008x4096_S2x128x4096_S2x128x4096_S2x11264x4096_d1 : (⟨S2x11264x4096, .f32⟩ : BufTy).Contents (Elt Ideal))) bitsLt_bf16_f32

end Cert.GatesRefIdeal.Result

namespace Cert.GatesIdeal.Proved
open Cert.GatesIdeal Cert.GatesIdeal.Gen Cert.GatesRefIdeal.Result
variable (m : (ℓ : Loc nD τ sig) → Buf (Elt Ideal) ℓ)

/-- Where each window's block begins: point `t` is column block `t / 16` and row block `t % 16`; the cast weight's row
    blocks follow the point's number, held at the last one. -/
theorem idx : ∀ t : Fin cfg0.N, win0_0.index t = ![t.val % 16, 0] ∧ win0_1.index t = ![0, 18464 + t.val / 16 * 768, 0]
    ∧ win0_2.index t = ![0, t.val / 16] ∧ win0_4.index t = ![t.val % 16, t.val / 16] :=
  (by decide +kernel : ∀ t : Fin grid0.N, _)

/-- The two windows of the weight that is cast: the two row blocks past the last read the last one. -/
theorem idxCast : ∀ t : Fin cfg0.N, win0_3.index t = ![min t.val 175 / 88, min (min t.val 175 % 88) 85, 0]
    ∧ win0_5.index t = ![min t.val 175 / 88, min t.val 175 % 88, 0] :=
  (by decide +kernel : ∀ t : Fin grid0.N, _)

/-- The weight window, whose index map gives elements: its block begins at row `18464 + 768 * (t / 16)` of the transposed
    weight, so its row `a` is that column of the weight as it is given. -/
theorem weight (c : Dev nD) (t : Fin cfg0.N) (a : Fin 768) (k : Fin 4096) (b : Fin 30752)
    (hb : b.val = 18464 + t.val / 16 * 768 + a.val) :
    iblk m c 1 t (ix3 0 a k) = m ((c : Thread nD τ).loc main_arg1) (ix3 0 k b) := by
  obtain ⟨j, hj, h0, h1, h2⟩ : ∃ j : S2x30752x4096.Idx, ((cfg0.win 1).blk t).view.emb (ix3 0 a k) = j
      ∧ (j 0).val = 0 ∧ (j 1).val = 18464 + t.val / 16 * 768 + a.val ∧ (j 2).val = k.val :=
    ⟨_, rfl, (win0_1.rect_emb_val_off t (ix3 0 a k) 0).trans (by rw [(idx t).2.1]; rfl),
      (win0_1.rect_emb_val_off t (ix3 0 a k) 1).trans (by rw [(idx t).2.1]; rfl),
      (win0_1.rect_emb_val_off t (ix3 0 a k) 2).trans (by rw [(idx t).2.1]; exact Nat.zero_add _)⟩
  show V m c main_v0 (((cfg0.win 1).blk t).view.emb (ix3 0 a k)) = _
  rw [hj]
  entry_read
  pointwise
  blk_ext

set_option maxHeartbeats 1600000 in
/-- What the body stores at an index of a point's gate block is the reference at the array index it sits at. -/
theorem point0 (c : Dev nD) (t : Fin cfg0.N) (y : S1024x768.Idx) : k0_pay2 (iblk m c 0 t) (iblk m c 1 t) (iblk m c 2 t) y
    = ref0 (m ((c : Thread nD τ).loc main_arg0)) (m ((c : Thread nD τ).loc main_arg1)) (m ((c : Thread nD τ).loc main_arg2))
        (((cfg0.win 4).blk t).view.emb y) := by
  pointwise [k0_pay2, ref0]
  refine congrArg Ideal.logistic (congrArg₂ (· + ·) (Finset.sum_congr rfl fun k _ => congrArg₂ (· * ·) ?_ ?_) ?_)
  · blk_simp [iblk]
    entry_read
    pointwise
    blk_ext [idx t]
  · exact weight m c t _ _ _ (by blk_simp [idx t]; show 18464 + (t.val / 16 * 768 + (y 1).val) = _; omega)
  · blk_simp [iblk]
    entry_read
    pointwise
    blk_ext [idx t]

set_option maxHeartbeats 1600000 in
/-- What the body stores at an index of a point's block of the cast weight is the reference there. -/
theorem point1 (c : Dev nD) (t : Fin cfg0.N) (y : S1x128x4096.Idx) : k0_pay1 (iblk m c 3 t) y
    = ref1 (m ((c : Thread nD τ).loc main_arg3)) (((cfg0.win 5).blk t).view.emb y) := by
  have ht := t.isLt
  have h1 : (y 1).val < 128 := (y 1).isLt
  pointwise [k0_pay1, ref1]
  blk_simp [iblk, idxCast t]
  rw [V_main_arg3]
  have hN : cfg0.N = 256 := by decide
  split_ifs
  all_goals first | (rename_i h; exact absurd rfl h) | blk_ext [idxCast t]

/-- The gates' array after the run. -/
theorem final0 (c : Dev nD) : (dats m 0 c).arrAt 4 cfg0.N
    = ref0 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point0 m c t y

/-- The cast weight's array after the run. -/
theorem final1 (c : Dev nD) : (dats m 0 c).arrAt 5 cfg0.N = ref1 (m ((c : Thread nD τ).loc main_arg3)) := by
  refine (dats m 0 c).arrAt_eq_of_covers 5 _ (by decide +kernel) fun t _ y => ?_
  blk_simp
  rw [after0_5]; frame_out
  exact point1 m c t y

/-- The kernel's run and the reference's run, of arguments that agree, end with the same results. -/
theorem algebraic : Cert.algebraic_GatesIdeal_GatesRefIdeal := by
  intro m ρ m' ρ' _ hag
  refine ⟨fun c => ref0 (m ((c.tc : Thread nD τ).loc main_arg0)) (m ((c.tc : Thread nD τ).loc main_arg1)) (m ((c.tc : Thread nD τ).loc main_arg2)), fun c => ref1 (m ((c.tc : Thread nD τ).loc main_arg3)), ?_, ?_⟩
  · exact (θ_run Cert.GatesIdeal.defs _ _).mono (fun _ h c => ⟨(h c).1.trans (final0 m c), ((h c)).2.1.trans (final1 m c), ((h c)).2.2⟩) (Cert.GatesIdeal.Value.run_blocks m ρ)
  · refine (θ_run Cert.GatesRefIdeal.defs _ _).mono (fun _ h c => ⟨(h c).1.trans ?_, ((h c)).2.1.trans ?_, ((h c)).2.2⟩) (Cert.GatesRefIdeal.Value.run m' ρ')
    · show ref0 (m' ((c.tc : Thread Cert.GatesRefIdeal.nD Cert.GatesRefIdeal.τ).loc Cert.GatesRefIdeal.main_arg0)) (m' ((c.tc : Thread Cert.GatesRefIdeal.nD Cert.GatesRefIdeal.τ).loc Cert.GatesRefIdeal.main_arg1)) (m' ((c.tc : Thread Cert.GatesRefIdeal.nD Cert.GatesRefIdeal.τ).loc Cert.GatesRefIdeal.main_arg2)) = _
      rw [(hag c).1, (hag c).2.1, (hag c).2.2.1]
    · show ref1 (m' ((c.tc : Thread Cert.GatesRefIdeal.nD Cert.GatesRefIdeal.τ).loc Cert.GatesRefIdeal.main_arg3)) = _
      rw [(hag c).2.2.2]

end Cert.GatesIdeal.Proved
-- ==== Proof.MixersValue.lean ====
module

public import proofs.«01_k».proof.Proof.Gen.MixersIdeal.Value
public import proofs.«01_k».proof.Proof.Gen.MixersRefIdeal.Run
public import proofs.«01_k».proof.Defs
public import Idealize.ShloMosaic.Lib.Pipeline.ValueKit
public import Idealize.ShloMosaic.Lib.Pipeline.Covers
public import Idealize.ShloMosaic.Lib.Claim

@[expose] public section

set_option maxRecDepth 16384
noncomputable section
open Idealize.ShloMosaic Idealize.ShloMosaic.TcCoe Idealize.SL.Sem
open Idealize.ShloMosaic.Pipeline (Dat)

namespace Cert.MixersRefIdeal.Result
open Cert.MixersRefIdeal Cert.MixersRefIdeal.Gen

/-- The reference's result 0, as one term over the argument arrays. -/
abbrev ref0 (x0 : FVec Ideal S4x4096x4096 .f32) (x1 : FVec Ideal S2x4096x30752 .f32) : FVec Ideal S16384x18432 .bf16 :=
  truncf .bf16 (shapeCast _ (extractStridedSlice S4x4096x18432 ![0, 0, 0] (Host.dotGeneral dot_S4x4096x4096_S4096x30752_S4x4096x30752_2_0_01_1_n_n none x0 (shapeCast _ (extractStridedSlice S1x4096x30752 ![0, 0, 0] x1 slices_S2x4096x30752_S1x4096x30752_0_0_0) shapeCasts_S1x4096x30752_S4096x30752)) slices_S4x4096x30752_S4x4096x18432_0_0_0) shapeCasts_S4x4096x18432_S16384x18432) bitsLt_bf16_f32

/-- The reference's result 1, as one term over the argument arrays. -/
abbrev ref1 (x2 : FVec Ideal S2x4096x22016 .f32) : FVec Ideal S2x4096x22528 .bf16 :=
  truncf .bf16 ((concatenate S2x4096x22528 2 [⟨S2x4096x11008, ((extractStridedSlice S2x4096x11008 ![0, 0, 0] x2 slices_S2x4096x22016_S2x4096x11008_0_0_0) : (⟨S2x4096x11008, .f32⟩ : BufTy).Contents (Elt Ideal))⟩, ⟨S2x4096x128, ((extractStridedSlice S2x4096x128 ![0, 0, 10880] (extractStridedSlice S2x4096x11008 ![0, 0, 0] x2 slices_S2x4096x22016_S2x4096x11008_0_0_0) slices_S2x4096x11008_S2x4096x128_0_0_10880) : (⟨S2x4096x128, .f32⟩ : BufTy).Contents (Elt Ideal))⟩, ⟨S2x4096x128, ((extractStridedSlice S2x4096x128 ![0, 0, 10880] (extractStridedSlice S2x4096x11008 ![0, 0, 0] x2 slices_S2x4096x22016_S2x4096x11008_0_0_0) slices_S2x4096x11008_S2x4096x128_0_0_10880) : (⟨S2x4096x128, .f32⟩ : BufTy).Contents (Elt Ideal))⟩, ⟨S2x4096x11008, ((extractStridedSlice S2x4096x11008 ![0, 0, 11008] x2 slices_S2x4096x22016_S2x4096x11008_0_0_11008) : (⟨S2x4096x11008, .f32⟩ : BufTy).Contents (Elt Ideal))⟩, ⟨S2x4096x128, ((extractStridedSlice S2x4096x128 ![0, 0, 10880] (extractStridedSlice S2x4096x11008 ![0, 0, 11008] x2 slices_S2x4096x22016_S2x4096x11008_0_0_11008) slices_S2x4096x11008_S2x4096x128_0_0_10880) : (⟨S2x4096x128, .f32⟩ : BufTy).Contents (Elt Ideal))⟩, ⟨S2x4096x128, ((extractStridedSlice S2x4096x128 ![0, 0, 10880] (extractStridedSlice S2x4096x11008 ![0, 0, 11008] x2 slices_S2x4096x22016_S2x4096x11008_0_0_11008) slices_S2x4096x11008_S2x4096x128_0_0_10880) : (⟨S2x4096x128, .f32⟩ : BufTy).Contents (Elt Ideal))⟩] concatenates_S2x4096x11008_S2x4096x128_S2x4096x128_S2x4096x11008_S2x4096x128_S2x4096x128_S2x4096x22528_d2 : (⟨S2x4096x22528, .f32⟩ : BufTy).Contents (Elt Ideal))) bitsLt_bf16_f32

end Cert.MixersRefIdeal.Result

namespace Cert.MixersIdeal.Proved
open Cert.MixersIdeal Cert.MixersIdeal.Gen Cert.MixersRefIdeal.Result
variable (m : (ℓ : Loc nD τ sig) → Buf (Elt Ideal) ℓ)

/-- Where each window's block begins: point `t` is column block `t / 16` and row block `t % 16`. -/
theorem idx : ∀ t : Fin cfg0.N, win0_0.index t = ![t.val % 16, 0] ∧ win0_1.index t = ![0, t.val / 16 * 768, 0]
    ∧ win0_3.index t = ![t.val % 16, t.val / 16] :=
  (by decide +kernel : ∀ t : Fin grid0.N, _)

/-- The two windows of the weight that is cast: its column blocks follow the point's number, held at the last one; each
    half's two blocks past its last read the last one again. -/
theorem idxCast : ∀ t : Fin cfg0.N,
    win0_2.index t = ![min t.val 351 / 176, 0, min t.val 351 % 176 / 88 * 86 + min (min t.val 351 % 176 % 88) 85]
    ∧ win0_4.index t = ![min t.val 351 / 176, 0, min t.val 351 % 176] :=
  (by decide +kernel : ∀ t : Fin grid0.N, _)

/-- The weight window, whose index map gives elements: its block begins at row `768 * (t / 16)` of the transposed
    weight, so its row `a` is that column of the weight as it is given. -/
theorem weight (c : Dev nD) (t : Fin cfg0.N) (a : Fin 768) (k : Fin 4096) (b : Fin 30752)
    (hb : b.val = t.val / 16 * 768 + a.val) :
    iblk m c 1 t (ix3 0 a k) = m ((c : Thread nD τ).loc main_arg1) (ix3 0 k b) := by
  obtain ⟨j, hj, h0, h1, h2⟩ : ∃ j : S2x30752x4096.Idx, ((cfg0.win 1).blk t).view.emb (ix3 0 a k) = j
      ∧ (j 0).val = 0 ∧ (j 1).val = t.val / 16 * 768 + a.val ∧ (j 2).val = k.val :=
    ⟨_, rfl, (win0_1.rect_emb_val_off t (ix3 0 a k) 0).trans (by rw [(idx t).2.1]; rfl),
      (win0_1.rect_emb_val_off t (ix3 0 a k) 1).trans (by rw [(idx t).2.1]; rfl),
      (win0_1.rect_emb_val_off t (ix3 0 a k) 2).trans (by rw [(idx t).2.1]; exact Nat.zero_add _)⟩
  show V m c main_v0 (((cfg0.win 1).blk t).view.emb (ix3 0 a k)) = _
  rw [hj]
  entry_read
  pointwise
  blk_ext

set_option maxHeartbeats 1600000 in
/-- What the body stores at an index of a point's block of the product is the reference at the array index it sits at. -/
theorem point0 (c : Dev nD) (t : Fin cfg0.N) (y : S1024x768.Idx) : k0_pay2 (iblk m c 0 t) (iblk m c 1 t) y
    = ref0 (m ((c : Thread nD τ).loc main_arg0)) (m ((c : Thread nD τ).loc main_arg1)) (((cfg0.win 3).blk t).view.emb y) := by
  pointwise [k0_pay2, ref0]
  refine Finset.sum_congr rfl fun k _ => congrArg₂ (· * ·) ?_ ?_
  · blk_simp [iblk]
    entry_read
    pointwise
    blk_ext [idx t]
  · exact weight m c t _ _ _ (by blk_simp [idx t])

set_option maxHeartbeats 1600000 in
/-- What the body stores at an index of a point's block of the cast weight is the reference there. -/
theorem point1 (c : Dev nD) (t : Fin cfg0.N) (y : S1x4096x128.Idx) : k0_pay1 (iblk m c 2 t) y
    = ref1 (m ((c : Thread nD τ).loc main_arg2)) (((cfg0.win 4).blk t).view.emb y) := by
  have ht := t.isLt
  have h1 : (y 2).val < 128 := (y 2).isLt
  pointwise [k0_pay1, ref1]
  blk_simp [iblk, idxCast t]
  rw [V_main_arg2]
  have hN : cfg0.N = 384 := by decide
  split_ifs
  all_goals first | (rename_i h; exact absurd rfl h) | blk_ext [idxCast t]

/-- The product's array after the run. -/
theorem final0 (c : Dev nD) : (dats m 0 c).arrAt 3 cfg0.N
    = ref0 (m ((c : Thread nD τ).loc main_arg0)) (m ((c : Thread nD τ).loc main_arg1)) := by
  refine (dats m 0 c).arrAt_eq_of_covers 3 _ (by decide +kernel) fun t _ y => ?_
  blk_simp
  rw [after0_3]; frame_out
  exact point0 m c t y

/-- The cast weight's array after the run. -/
theorem final1 (c : Dev nD) : (dats m 0 c).arrAt 4 cfg0.N = ref1 (m ((c : Thread nD τ).loc main_arg2)) := by
  refine (dats m 0 c).arrAt_eq_of_covers 4 _ (by decide +kernel) fun t _ y => ?_
  blk_simp
  rw [after0_4]; frame_out
  exact point1 m c t y

/-- The kernel's run and the reference's run, of arguments that agree, end with the same results. -/
theorem algebraic : Cert.algebraic_MixersIdeal_MixersRefIdeal := by
  intro m ρ m' ρ' _ hag
  refine ⟨fun c => ref0 (m ((c.tc : Thread nD τ).loc main_arg0)) (m ((c.tc : Thread nD τ).loc main_arg1)), fun c => ref1 (m ((c.tc : Thread nD τ).loc main_arg2)), ?_, ?_⟩
  · exact (θ_run Cert.MixersIdeal.defs _ _).mono (fun _ h c => ⟨(h c).1.trans (final0 m c), ((h c)).2.1.trans (final1 m c), ((h c)).2.2⟩) (Cert.MixersIdeal.Value.run_blocks m ρ)
  · refine (θ_run Cert.MixersRefIdeal.defs _ _).mono (fun _ h c => ⟨(h c).1.trans ?_, ((h c)).2.1.trans ?_, ((h c)).2.2⟩) (Cert.MixersRefIdeal.Value.run m' ρ')
    · show ref0 (m' ((c.tc : Thread Cert.MixersRefIdeal.nD Cert.MixersRefIdeal.τ).loc Cert.MixersRefIdeal.main_arg0)) (m' ((c.tc : Thread Cert.MixersRefIdeal.nD Cert.MixersRefIdeal.τ).loc Cert.MixersRefIdeal.main_arg1)) = _
      rw [(hag c).1, (hag c).2.1]
    · show ref1 (m' ((c.tc : Thread Cert.MixersRefIdeal.nD Cert.MixersRefIdeal.τ).loc Cert.MixersRefIdeal.main_arg2)) = _
      rw [(hag c).2.2]

end Cert.MixersIdeal.Proved
-- ==== Proof.DecayValue.lean ====
module

public import proofs.«01_k».proof.Proof.Gen.DecayIdeal.Value
public import proofs.«01_k».proof.Proof.Gen.DecayRefIdeal.Run
public import proofs.«01_k».proof.Defs
public import Idealize.ShloMosaic.Lib.Pipeline.ValueKit
public import Idealize.ShloMosaic.Lib.Pipeline.Covers
public import Idealize.ShloMosaic.Lib.Claim

@[expose] public section

set_option maxRecDepth 16384
noncomputable section
open Idealize.ShloMosaic Idealize.ShloMosaic.TcCoe Idealize.SL.Sem
open Idealize.ShloMosaic.Pipeline (Dat)

namespace Cert.DecayRefIdeal.Result
open Cert.DecayRefIdeal Cert.DecayRefIdeal.Gen

/-- The reference's result 0, as one term over the argument arrays. -/
abbrev ref0 (x0 : FVec Ideal S4x4096x4096 .f32) (x1 : FVec Ideal S2x4096x30752 .f32) : FVec Ideal S16384x128 .f32 :=
  shapeCast _ (extractStridedSlice S4x4096x128 ![0, 0, 18432] (Host.dotGeneral dot_S4x4096x4096_S4096x30752_S4x4096x30752_2_0_01_1_n_n none x0 (shapeCast _ (extractStridedSlice S1x4096x30752 ![0, 0, 0] x1 slices_S2x4096x30752_S1x4096x30752_0_0_0) shapeCasts_S1x4096x30752_S4096x30752)) slices_S4x4096x30752_S4x4096x128_0_0_18432) shapeCasts_S4x4096x128_S16384x128

end Cert.DecayRefIdeal.Result

namespace Cert.DecayIdeal.Proved
open Cert.DecayIdeal Cert.DecayIdeal.Gen Cert.DecayRefIdeal.Result
variable (m : (ℓ : Loc nD τ sig) → Buf (Elt Ideal) ℓ)

/-- Where each window's block begins: the second coordinate of the point is the row block. -/
theorem idx : ∀ t : Fin cfg0.N, win0_0.index t = ![t.val, 0] ∧ win0_1.index t = ![0, 18432, 0] ∧ win0_2.index t = ![t.val, 0] :=
  (by decide +kernel : ∀ t : Fin grid0.N, _)

/-- The weight window, whose index map gives elements: its block begins at row 18432 of the transposed weight, so its row
    `a` is column `18432 + a` of the weight as it is given. -/
theorem weight (c : Dev nD) (t : Fin cfg0.N) (a : Fin 128) (k : Fin 4096) (b : Fin 30752) (hb : b.val = 18432 + a.val) :
    iblk m c 1 t (ix3 0 a k) = m ((c : Thread nD τ).loc main_arg1) (ix3 0 k b) := by
  obtain ⟨j, hj, h0, h1, h2⟩ : ∃ j : S2x30752x4096.Idx, ((cfg0.win 1).blk t).view.emb (ix3 0 a k) = j
      ∧ (j 0).val = 0 ∧ (j 1).val = 18432 + a.val ∧ (j 2).val = k.val :=
    ⟨_, rfl, (win0_1.rect_emb_val_off t (ix3 0 a k) 0).trans (by rw [(idx t).2.1]; rfl),
      (win0_1.rect_emb_val_off t (ix3 0 a k) 1).trans (by rw [(idx t).2.1]; rfl),
      (win0_1.rect_emb_val_off t (ix3 0 a k) 2).trans (by rw [(idx t).2.1]; exact Nat.zero_add _)⟩
  show V m c main_v0 (((cfg0.win 1).blk t).view.emb (ix3 0 a k)) = _
  rw [hj]
  entry_read
  pointwise
  blk_ext

/-- What the body stores at an index of a point's block is the reference at the array index it sits at. -/
theorem point (c : Dev nD) (t : Fin cfg0.N) (y : S1024x128.Idx) : k0_pay1 (iblk m c 0 t) (iblk m c 1 t) y
    = ref0 (m ((c : Thread nD τ).loc main_arg0)) (m ((c : Thread nD τ).loc main_arg1)) (((cfg0.win 2).blk t).view.emb y) := by
  pointwise [k0_pay1, ref0]
  refine Finset.sum_congr rfl fun k _ => congrArg₂ (· * ·) ?_ ?_
  · blk_simp [iblk]
    entry_read
    pointwise
    blk_ext [idx t]
  · exact weight m c t _ _ _ (by blk_simp [idx t])

/-- The result array after the run. -/
theorem final0 (c : Dev nD) : (dats m 0 c).arrAt 2 cfg0.N
    = ref0 (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel's run and the reference's run, of arguments that agree, end with the same results. -/
theorem algebraic : Cert.algebraic_DecayIdeal_DecayRefIdeal := by
  intro m ρ m' ρ' _ hag
  refine ⟨fun c => ref0 (m ((c.tc : Thread nD τ).loc main_arg0)) (m ((c.tc : Thread nD τ).loc main_arg1)), ?_, ?_⟩
  · exact (θ_run Cert.DecayIdeal.defs _ _).mono (fun _ h c => ⟨(h c).1.trans (final0 m c), ((h c)).2⟩) (Cert.DecayIdeal.Value.run_blocks m ρ)
  · refine (θ_run Cert.DecayRefIdeal.defs _ _).mono (fun _ h c => ⟨(h c).1.trans ?_, ((h c)).2⟩) (Cert.DecayRefIdeal.Value.run m' ρ')
    · show ref0 (m' ((c.tc : Thread Cert.DecayRefIdeal.nD Cert.DecayRefIdeal.τ).loc Cert.DecayRefIdeal.main_arg0)) (m' ((c.tc : Thread Cert.DecayRefIdeal.nD Cert.DecayRefIdeal.τ).loc Cert.DecayRefIdeal.main_arg1)) = _
      rw [(hag c).1, (hag c).2]

end Cert.DecayIdeal.Proved
-- ==== Proof.ShortValue.lean ====
module

public import proofs.«01_k».proof.Proof.Gen.ShortIdeal.Value
public import proofs.«01_k».proof.Proof.Gen.ShortRefIdeal.Run
public import proofs.«01_k».proof.Defs
public import Idealize.ShloMosaic.Lib.Pipeline.ValueKit
public import Idealize.ShloMosaic.Lib.Pipeline.Covers
public import Idealize.ShloMosaic.Lib.Claim

@[expose] public section

set_option maxRecDepth 16384
noncomputable section
open Idealize.ShloMosaic Idealize.ShloMosaic.TcCoe Idealize.SL.Sem
open Idealize.ShloMosaic.Pipeline (Dat)

namespace Cert.ShortRefIdeal.Result
open Cert.ShortRefIdeal Cert.ShortRefIdeal.Gen

/-- The reference's result 0, as one term over the argument arrays. -/
abbrev ref0 (x0 : FVec Ideal S16384x18432 .bf16) (x1 : FVec Ideal S2x3x2048 .f32) : FVec Ideal S16384x2048 .bf16 :=
  truncf .bf16 (shapeCast _ (mulf (extractStridedSlice S4x4096x2048 ![0, 0, 0] (shapeCast _ (extf .f32 x0 bitsLt_bf16_f32) shapeCasts_S16384x18432_S4x4096x18432) slices_S4x4096x18432_S4x4096x2048_0_0_0) (addf (addf (addf (broadcastInDim S4x4096x2048 ![] bcast_S_S4x4096x2048 (constant S_ .f32 0x00000000#32)) (mulf (extractStridedSlice S4x4096x2048 ![0, 0, 0] (pad S4x4098x2048 ![0, 1, 0] ![0, 1, 0] ![0, 0, 0] (mulf (extractStridedSlice S4x4096x2048 ![0, 0, 2048] (shapeCast _ (extf .f32 x0 bitsLt_bf16_f32) shapeCasts_S16384x18432_S4x4096x18432) slices_S4x4096x18432_S4x4096x2048_0_0_2048) (extractStridedSlice S4x4096x2048 ![0, 0, 4096] (shapeCast _ (extf .f32 x0 bitsLt_bf16_f32) shapeCasts_S16384x18432_S4x4096x18432) slices_S4x4096x18432_S4x4096x2048_0_0_4096)) (sitofp .f32 (constantI S_ 32 0#32)) pads_S4x4096x2048_S4x4098x2048_000_110_000 h_S_) slices_S4x4098x2048_S4x4096x2048_0_0_0) (broadcastInDim S4x4096x2048 ![0, 1, 2] bcast_S1x1x2048_S4x4096x2048_0_1_2 (broadcastInDim S1x1x2048 ![2] bcast_S2048_S1x1x2048_2 (shapeCast _ (extractStridedSlice S1x2048 ![0, 0] (shapeCast _ (extractStridedSlice S1x3x2048 ![0, 0, 0] x1 slices_S2x3x2048_S1x3x2048_0_0_0) shapeCasts_S1x3x2048_S3x2048) slices_S3x2048_S1x2048_0_0) shapeCasts_S1x2048_S2048))))) (mulf (extractStridedSlice S4x4096x2048 ![0, 1, 0] (pad S4x4098x2048 ![0, 1, 0] ![0, 1, 0] ![0, 0, 0] (mulf (extractStridedSlice S4x4096x2048 ![0, 0, 2048] (shapeCast _ (extf .f32 x0 bitsLt_bf16_f32) shapeCasts_S16384x18432_S4x4096x18432) slices_S4x4096x18432_S4x4096x2048_0_0_2048) (extractStridedSlice S4x4096x2048 ![0, 0, 4096] (shapeCast _ (extf .f32 x0 bitsLt_bf16_f32) shapeCasts_S16384x18432_S4x4096x18432) slices_S4x4096x18432_S4x4096x2048_0_0_4096)) (sitofp .f32 (constantI S_ 32 0#32)) pads_S4x4096x2048_S4x4098x2048_000_110_000 h_S_) slices_S4x4098x2048_S4x4096x2048_0_1_0) (broadcastInDim S4x4096x2048 ![0, 1, 2] bcast_S1x1x2048_S4x4096x2048_0_1_2 (broadcastInDim S1x1x2048 ![2] bcast_S2048_S1x1x2048_2 (shapeCast _ (extractStridedSlice S1x2048 ![1, 0] (shapeCast _ (extractStridedSlice S1x3x2048 ![0, 0, 0] x1 slices_S2x3x2048_S1x3x2048_0_0_0) shapeCasts_S1x3x2048_S3x2048) slices_S3x2048_S1x2048_1_0) shapeCasts_S1x2048_S2048))))) (mulf (extractStridedSlice S4x4096x2048 ![0, 2, 0] (pad S4x4098x2048 ![0, 1, 0] ![0, 1, 0] ![0, 0, 0] (mulf (extractStridedSlice S4x4096x2048 ![0, 0, 2048] (shapeCast _ (extf .f32 x0 bitsLt_bf16_f32) shapeCasts_S16384x18432_S4x4096x18432) slices_S4x4096x18432_S4x4096x2048_0_0_2048) (extractStridedSlice S4x4096x2048 ![0, 0, 4096] (shapeCast _ (extf .f32 x0 bitsLt_bf16_f32) shapeCasts_S16384x18432_S4x4096x18432) slices_S4x4096x18432_S4x4096x2048_0_0_4096)) (sitofp .f32 (constantI S_ 32 0#32)) pads_S4x4096x2048_S4x4098x2048_000_110_000 h_S_) slices_S4x4098x2048_S4x4096x2048_0_2_0) (broadcastInDim S4x4096x2048 ![0, 1, 2] bcast_S1x1x2048_S4x4096x2048_0_1_2 (broadcastInDim S1x1x2048 ![2] bcast_S2048_S1x1x2048_2 (shapeCast _ (extractStridedSlice S1x2048 ![2, 0] (shapeCast _ (extractStridedSlice S1x3x2048 ![0, 0, 0] x1 slices_S2x3x2048_S1x3x2048_0_0_0) shapeCasts_S1x3x2048_S3x2048) slices_S3x2048_S1x2048_2_0) shapeCasts_S1x2048_S2048)))))) shapeCasts_S4x4096x2048_S16384x2048) bitsLt_bf16_f32

end Cert.ShortRefIdeal.Result

namespace Cert.ShortIdeal.Proved
open Cert.ShortIdeal Cert.ShortIdeal.Gen Cert.ShortRefIdeal.Result
variable (m : (ℓ : Loc nD τ sig) → Buf (Elt Ideal) ℓ)

/-- Where each window's block begins: point `t` is sequence `t / 8` and column block `t % 8`. -/
theorem idx : ∀ t : Fin cfg0.N, win0_0.index t = ![t.val / 8, t.val % 8] ∧ win0_1.index t = ![t.val / 8, 8 + t.val % 8]
    ∧ win0_2.index t = ![t.val / 8, 16 + t.val % 8] ∧ win0_3.index t = ![0, t.val % 8] ∧ win0_4.index t = ![t.val / 8, t.val % 8] :=
  (by decide +kernel : ∀ t : Fin grid0.N, _)

/-- An entry of the block that multiplies the convolution. -/
theorem outer (c : Dev nD) (t : Fin cfg0.N) (y : S4096x256.Idx) (i : S16384x18432.Idx) (h0 : (i 0 : ℕ) = t.val / 8 * 4096 + y 0)
    (h1 : (i 1 : ℕ) = t.val % 8 * 256 + y 1) : iblk m c 0 t y = m ((c : Thread nD τ).loc main_arg0) i := by
  blk_simp [iblk]
  rw [V_main_arg0]
  blk_ext [idx t]

/-- An entry of the block of the convolved product's first factor. -/
theorem inner1 (c : Dev nD) (t : Fin cfg0.N) (y : S4096x256.Idx) (i : S16384x18432.Idx) (h0 : (i 0 : ℕ) = t.val / 8 * 4096 + y 0)
    (h1 : (i 1 : ℕ) = 2048 + t.val % 8 * 256 + y 1) : iblk m c 1 t y = m ((c : Thread nD τ).loc main_arg0) i := by
  blk_simp [iblk]
  rw [V_main_arg0]
  blk_ext [idx t]

/-- An entry of the block of the convolved product's second factor. -/
theorem inner2 (c : Dev nD) (t : Fin cfg0.N) (y : S4096x256.Idx) (i : S16384x18432.Idx) (h0 : (i 0 : ℕ) = t.val / 8 * 4096 + y 0)
    (h1 : (i 1 : ℕ) = 4096 + t.val % 8 * 256 + y 1) : iblk m c 2 t y = m ((c : Thread nD τ).loc main_arg0) i := by
  blk_simp [iblk]
  rw [V_main_arg0]
  blk_ext [idx t]

/-- An entry of the taps. -/
theorem tap (c : Dev nD) (t : Fin cfg0.N) (b : Fin 3) (q : Fin 256) (p : Fin 2048) (h : (p : ℕ) = t.val % 8 * 256 + q) :
    iblk m c 3 t (ix2 b q) = m ((c : Thread nD τ).loc main_arg1) (ix3 0 b p) := by
  blk_simp [iblk]
  entry_read
  pointwise
  blk_ext [idx t]

/-- The integer zero the host converts is the real zero. -/
theorem pad : (FloatOps.sitofp FTy.f32 0#32 : Ideal .f32) = 0 := by
  show ((((0#32 : BitVec 32).toInt : ℤ) : ℝ) : EReal) = 0
  simp

/-- Choosing by a comparison of two small row numbers. -/
theorem sel {α : Type} (n k : ℕ) (hn : n < 4096) (hk : k < 4096) (a b : α) :
    Scalar.select (IntOp.cmpi .eq (BitVec.ofNat 32 n) (BitVec.ofNat 32 k)) a b = if n = k then a else b := by
  simp only [hlo_ix, BitVec.toNat_ofNat]
  rw [Nat.mod_eq_of_lt (by omega), Nat.mod_eq_of_lt (by omega)]

/-- A product masked as a whole at one row is a factor padded with zero times the other one. -/
theorem mask {q : Prop} [Decidable q] (n k : ℕ) (hn : n < 4096) (hk : k < 4096) (a w : EReal) (b : q → EReal) (h : n = k ↔ ¬q)
    (e : ∀ h, a = b h * w) :
    Scalar.select (IntOp.cmpi .eq (BitVec.ofNat 32 n) (BitVec.ofNat 32 k)) (0 : EReal) a
    = (if h : q then b h else (FloatOps.sitofp FTy.f32 0#32 : Ideal .f32)) * w := by
  rw [sel n k hn hk, pad]
  by_cases hq : q
  · rw [if_neg (fun hp => h.mp hp hq), dif_pos hq, e hq]
  · rw [if_pos (h.mpr hq), dif_neg hq, zero_mul]

/-- A factor under a condition that holds. -/
theorem unmask {q : Prop} [Decidable q] (a z : EReal) (b : q → EReal) (h : q) (e : a = b h) : a = if h : q then b h else z := by
  rw [dif_pos h, e]

set_option maxRecDepth 100000 in
set_option maxHeartbeats 800000 in
/-- What the body computes from blocks of the arrays is the reference at the array index: the masked neighbours of the first and the
last row are the reference's padding. -/
theorem core (P Q R : Vec Ideal S4096x256 .bf16) (w : Vec Ideal S3x256 .f32) (x : Vec Ideal S16384x18432 .bf16)
    (k : Vec Ideal S2x3x2048 .f32) (s b : ℕ) (hs : s < 4)
    (hR : ∀ (y : S4096x256.Idx) (i : S16384x18432.Idx), (i 0 : ℕ) = s * 4096 + y 0 → (i 1 : ℕ) = b * 256 + y 1 → R y = x i)
    (hP : ∀ (y : S4096x256.Idx) (i : S16384x18432.Idx), (i 0 : ℕ) = s * 4096 + y 0 → (i 1 : ℕ) = 2048 + b * 256 + y 1 → P y = x i)
    (hQ : ∀ (y : S4096x256.Idx) (i : S16384x18432.Idx), (i 0 : ℕ) = s * 4096 + y 0 → (i 1 : ℕ) = 4096 + b * 256 + y 1 → Q y = x i)
    (hw : ∀ (a : Fin 3) (q : Fin 256) (p : Fin 2048), (p : ℕ) = b * 256 + q → w (ix2 a q) = k (ix3 0 a p))
    (y : S4096x256.Idx) (i : S16384x2048.Idx) (h0 : (i 0 : ℕ) = s * 4096 + y 0) (h1 : (i 1 : ℕ) = b * 256 + y 1) :
    k0_pay1 P Q R (View.ld w r0_1) (View.ld w r0_2) (View.ld w r0_3) y = ref0 x k i := by
  have hy : (y 0).val < 4096 := (y 0).isLt
  have near : ∀ (r : Fin 4096) (q : Fin 256) (r' : Fin 16384) (p : Fin 2048), (r' : ℕ) = s * 4096 + r → (p : ℕ) = b * 256 + q →
      P (ix2 r q) * Q (ix2 r q) = x (ix2 r' ⟨2048 + p.val, by omega⟩) * x (ix2 r' ⟨4096 + p.val, by omega⟩) := fun r q r' p e f =>
    congrArg₂ (· * ·) (hP (ix2 r q) (ix2 r' ⟨2048 + p.val, by omega⟩) e (by show 2048 + p.val = 2048 + b * 256 + q.val; omega))
      (hQ (ix2 r q) (ix2 r' ⟨4096 + p.val, by omega⟩) e (by show 4096 + p.val = 4096 + b * 256 + q.val; omega))
  pointwise [k0_pay1, ref0]
  refine congrArg₂ (· * ·) (hR y _ h0 h1) (congrArg₂ (· + ·) (congrArg₂ (· + ·)
    (mask _ 0 hy (by omega) _ _ _ (by omega) fun h => congrArg₂ (· * ·) (near _ (y 1) _ (i 1) ?_ h1) (hw 0 (y 1) (i 1) h1))
    (congrArg₂ (· * ·) (unmask _ _ _ (by omega) (congrArg₂ (· * ·) (hP y _ h0 (Eq.trans (congrArg (2048 + ·) h1) ?_))
      (hQ y _ h0 (Eq.trans (congrArg (4096 + ·) h1) ?_)))) (hw 1 (y 1) (i 1) h1)))
    (mask _ 4095 hy (by omega) _ _ _ (by omega) fun h => congrArg₂ (· * ·) (near _ (y 1) _ (i 1) ?_ h1) (hw 2 (y 1) (i 1) h1)))
  all_goals simp only []
  all_goals omega

/-- What the body stores at an index of a point's block is the reference at the array index it sits at. -/
theorem point0 (c : Dev nD) (t : Fin cfg0.N) (y : S4096x256.Idx) (i : S16384x2048.Idx) (h0 : (i 0 : ℕ) = t.val / 8 * 4096 + y 0)
    (h1 : (i 1 : ℕ) = t.val % 8 * 256 + y 1) :
    k0_pay1 (iblk m c 1 t) (iblk m c 2 t) (iblk m c 0 t) (View.ld (iblk m c 3 t) r0_1) (View.ld (iblk m c 3 t) r0_2)
      (View.ld (iblk m c 3 t) r0_3) y
    = ref0 (m ((c : Thread nD τ).loc main_arg0)) (m ((c : Thread nD τ).loc main_arg1)) i :=
  core _ _ _ _ _ _ (t.val / 8) (t.val % 8) (by have h := t.isLt; change _ < 32 at h; omega) (outer m c t) (inner1 m c t) (inner2 m c t) (tap m c t) y i h0 h1

/-- The result array after the run. -/
theorem final0 (c : Dev nD) : (dats m 0 c).arrAt 4 cfg0.N
    = ref0 (m ((c : Thread nD τ).loc main_arg0)) (m ((c : Thread nD τ).loc main_arg1)) := by
  refine (dats m 0 c).arrAt_eq_of_covers 4 _ (by decide +kernel) fun t _ y => ?_
  blk_simp
  rw [after0_4]; frame_out
  refine point0 m c t y _ ?_ ?_
  all_goals blk_simp [idx t]

/-- The kernel's run and the reference's run, of arguments that agree, end with the same results. -/
theorem algebraic : Cert.algebraic_ShortIdeal_ShortRefIdeal := by
  intro m ρ m' ρ' _ hag
  refine ⟨fun c => ref0 (m ((c.tc : Thread nD τ).loc main_arg0)) (m ((c.tc : Thread nD τ).loc main_arg1)), ?_, ?_⟩
  · exact (θ_run Cert.ShortIdeal.defs _ _).mono (fun _ h c => ⟨(h c).1.trans (final0 m c), ((h c)).2⟩) (Cert.ShortIdeal.Value.run_blocks m ρ)
  · refine (θ_run Cert.ShortRefIdeal.defs _ _).mono (fun _ h c => ⟨(h c).1.trans ?_, ((h c)).2⟩) (Cert.ShortRefIdeal.Value.run m' ρ')
    · show ref0 (m' ((c.tc : Thread Cert.ShortRefIdeal.nD Cert.ShortRefIdeal.τ).loc Cert.ShortRefIdeal.main_arg0)) (m' ((c.tc : Thread Cert.ShortRefIdeal.nD Cert.ShortRefIdeal.τ).loc Cert.ShortRefIdeal.main_arg1)) = _
      rw [(hag c).1, (hag c).2]

end Cert.ShortIdeal.Proved
-- ==== Proof.GlaOutValue.lean ====
module

public import proofs.«01_k».proof.Proof.Gen.GlaOutIdeal.Value
public import proofs.«01_k».proof.Proof.Gen.GlaOutRefIdeal.Run
public import proofs.«01_k».proof.Defs
public import Idealize.ShloMosaic.Lib.Pipeline.ValueKit
public import Idealize.ShloMosaic.Lib.Pipeline.Covers
public import Idealize.ShloMosaic.Lib.Claim

@[expose] public section

set_option maxRecDepth 16384
noncomputable section
open Idealize.ShloMosaic Idealize.ShloMosaic.TcCoe Idealize.SL.Sem
open Idealize.ShloMosaic.Pipeline (Dat)

namespace Cert.GlaOutRefIdeal.Result
open Cert.GlaOutRefIdeal Cert.GlaOutRefIdeal.Gen

/-- The reference's result 0, as one term over the argument arrays. -/
abbrev ref0 (x0 : FVec Ideal S16384x2048 .f32) (x1 : FVec Ideal S16384x2048 .f32) (x2 : FVec Ideal S16384x18432 .bf16) (x3 : FVec Ideal S2x2048 .f32) : FVec Ideal S16384x2048 .bf16 :=
  truncf .bf16 (mulf (mulf (shapeCast _ (mulf (shapeCast _ (addf x0 x1) shapeCasts_S16384x2048_S16384x4x512) (broadcastInDim S16384x4x512 ![0, 1, 2] bcast_S16384x4x1_S16384x4x512_0_1_2 (Host.rsqrt (addf (Host.divf (broadcastInDim S16384x4x1 ![0, 1] bcast_S16384x4_S16384x4x1_0_1 (Host.reduceAdd (mulf (shapeCast _ (addf x0 x1) shapeCasts_S16384x2048_S16384x4x512) (shapeCast _ (addf x0 x1) shapeCasts_S16384x2048_S16384x4x512)) (constant S_ .f32 0x00000000#32) reducesTo_S16384x4x512_S16384x4_d2 h_S_)) (broadcastInDim S16384x4x1 ![] bcast_S_S16384x4x1 (constant S_ .f32 0x44000000#32))) (broadcastInDim S16384x4x1 ![] bcast_S_S16384x4x1 (constant S_ .f32 0x358637BD#32)))))) shapeCasts_S16384x4x512_S16384x2048) (broadcastInDim S16384x2048 ![0, 1] bcast_S1x2048_S16384x2048_0_1 (broadcastInDim S1x2048 ![1] bcast_S2048_S1x2048_1 (shapeCast _ (extractStridedSlice S1x2048 ![0, 0] x3 slices_S2x2048_S1x2048_0_0) shapeCasts_S1x2048_S2048)))) (mulf (extractStridedSlice S16384x2048 ![0, 16384] (extf .f32 x2 bitsLt_bf16_f32) slices_S16384x18432_S16384x2048_0_16384) (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extractStridedSlice S16384x2048 ![0, 16384] (extf .f32 x2 bitsLt_bf16_f32) slices_S16384x18432_S16384x2048_0_16384))))))) bitsLt_bf16_f32

end Cert.GlaOutRefIdeal.Result

namespace Cert.GlaOutIdeal.Proved
open Cert.GlaOutIdeal Cert.GlaOutIdeal.Gen Cert.GlaOutRefIdeal.Result
variable (m : (ℓ : Loc nD τ sig) → Buf (Elt Ideal) ℓ)

/-- Where each window's block begins: point `t` is row block `t`; the gate's columns are eight blocks in, the scale is whole. -/
theorem idx : ∀ t : Fin cfg0.N, win0_0.index t = ![t.val, 0] ∧ win0_1.index t = ![t.val, 0] ∧ win0_2.index t = ![t.val, 8]
    ∧ win0_3.index t = ![0, 0] ∧ win0_4.index t = ![t.val, 0] :=
  (by decide +kernel : ∀ t : Fin grid0.N, _)

set_option maxHeartbeats 1600000 in
/-- The result array after the run. -/
theorem final0 (c : Dev nD) : (dats m 0 c).arrAt 4 cfg0.N
    = ref0 (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t _ y => ?_
  blk_simp
  rw [after0_4]; frame_out
  canon_tiles x h
  all_goals
    pointwise [k0_pay1, k0_pay2, k0_pay3, k0_pay4, k0_pay5, ref0]
    refine congrArg₂ (· * ·) (congrArg₂ (· * ·) (congrArg₂ (· * ·) (congrArg₂ (· + ·) ?_ ?_)
      (congrArg (fun s => Ideal.rsqrt (Ideal.div s _ + _)) (Finset.sum_congr rfl fun k _ =>
        congrArg₂ (· * ·) (congrArg₂ (· + ·) ?_ ?_) (congrArg₂ (· + ·) ?_ ?_)))) ?_)
      (congrArg₂ (· * ·) ?_ (congrArg Ideal.logistic ?_))
    all_goals
      blk_simp [iblk]
      first
        | (rw [V_main_arg0]; blk_ext [idx t])
        | (rw [V_main_arg1]; blk_ext [idx t])
        | (rw [V_main_arg2]; blk_ext [idx t])
        | (entry_read; pointwise; blk_ext [idx t])

/-- The kernel's run and the reference's run, of arguments that agree, end with the same results. -/
theorem algebraic : Cert.algebraic_GlaOutIdeal_GlaOutRefIdeal := by
  intro m ρ m' ρ' _ hag
  refine ⟨fun c => ref0 (m ((c.tc : Thread nD τ).loc main_arg0)) (m ((c.tc : Thread nD τ).loc main_arg1)) (m ((c.tc : Thread nD τ).loc main_arg2)) (m ((c.tc : Thread nD τ).loc main_arg3)), ?_, ?_⟩
  · exact (θ_run Cert.GlaOutIdeal.defs _ _).mono (fun _ h c => ⟨(h c).1.trans (final0 m c), ((h c)).2⟩) (Cert.GlaOutIdeal.Value.run_blocks m ρ)
  · refine (θ_run Cert.GlaOutRefIdeal.defs _ _).mono (fun _ h c => ⟨(h c).1.trans ?_, ((h c)).2⟩) (Cert.GlaOutRefIdeal.Value.run m' ρ')
    · show ref0 (m' ((c.tc : Thread Cert.GlaOutRefIdeal.nD Cert.GlaOutRefIdeal.τ).loc Cert.GlaOutRefIdeal.main_arg0)) (m' ((c.tc : Thread Cert.GlaOutRefIdeal.nD Cert.GlaOutRefIdeal.τ).loc Cert.GlaOutRefIdeal.main_arg1)) (m' ((c.tc : Thread Cert.GlaOutRefIdeal.nD Cert.GlaOutRefIdeal.τ).loc Cert.GlaOutRefIdeal.main_arg2)) (m' ((c.tc : Thread Cert.GlaOutRefIdeal.nD Cert.GlaOutRefIdeal.τ).loc Cert.GlaOutRefIdeal.main_arg3)) = _
      rw [(hag c).1, (hag c).2.1, (hag c).2.2.1, (hag c).2.2.2]

end Cert.GlaOutIdeal.Proved
-- ==== Proof.MixValue.lean ====
module

public import proofs.«01_k».proof.Proof.Gen.MixIdeal.Value
public import proofs.«01_k».proof.Proof.Gen.MixRefIdeal.Run
public import proofs.«01_k».proof.Defs
public import Idealize.ShloMosaic.Lib.Pipeline.ValueKit
public import Idealize.ShloMosaic.Lib.Pipeline.Covers
public import Idealize.ShloMosaic.Lib.Claim

@[expose] public section

set_option maxRecDepth 16384
noncomputable section
open Idealize.ShloMosaic Idealize.ShloMosaic.TcCoe Idealize.SL.Sem
open Idealize.ShloMosaic.Pipeline (Dat)

namespace Cert.MixRefIdeal.Result
open Cert.MixRefIdeal Cert.MixRefIdeal.Gen

/-- The reference's result 0, as one term over the argument arrays. -/
abbrev ref0 (x0 : FVec Ideal S16384x2048 .bf16) (x1 : FVec Ideal S16384x2048 .bf16) (x2 : FVec Ideal S16384x2048 .bf16) (x3 : FVec Ideal S2x3x2048x4096 .f32) (x4 : FVec Ideal S16384x12288 .bf16) : FVec Ideal S16384x4096 .bf16 :=
  truncf .bf16 (addf (addf (mulf (shapeCast _ (extractStridedSlice S16384x1x4096 ![0, 0, 0] (shapeCast _ (extf .f32 x4 bitsLt_bf16_f32) shapeCasts_S16384x12288_S16384x3x4096) slices_S16384x3x4096_S16384x1x4096_0_0_0) shapeCasts_S16384x1x4096_S16384x4096) (Host.dotGeneral dot_S16384x2048_S2048x4096_S16384x4096_1_0_0_1_n_n none (extf .f32 x0 bitsLt_bf16_f32) (shapeCast _ (extractStridedSlice S1x1x2048x4096 ![0, 0, 0, 0] x3 slices_S2x3x2048x4096_S1x1x2048x4096_0_0_0_0) shapeCasts_S1x1x2048x4096_S2048x4096))) (mulf (shapeCast _ (extractStridedSlice S16384x1x4096 ![0, 1, 0] (shapeCast _ (extf .f32 x4 bitsLt_bf16_f32) shapeCasts_S16384x12288_S16384x3x4096) slices_S16384x3x4096_S16384x1x4096_0_1_0) shapeCasts_S16384x1x4096_S16384x4096) (Host.dotGeneral dot_S16384x2048_S2048x4096_S16384x4096_1_0_0_1_n_n none (extf .f32 x1 bitsLt_bf16_f32) (shapeCast _ (extractStridedSlice S1x1x2048x4096 ![0, 1, 0, 0] x3 slices_S2x3x2048x4096_S1x1x2048x4096_0_1_0_0) shapeCasts_S1x1x2048x4096_S2048x4096)))) (mulf (shapeCast _ (extractStridedSlice S16384x1x4096 ![0, 2, 0] (shapeCast _ (extf .f32 x4 bitsLt_bf16_f32) shapeCasts_S16384x12288_S16384x3x4096) slices_S16384x3x4096_S16384x1x4096_0_2_0) shapeCasts_S16384x1x4096_S16384x4096) (Host.dotGeneral dot_S16384x2048_S2048x4096_S16384x4096_1_0_0_1_n_n none (extf .f32 x2 bitsLt_bf16_f32) (shapeCast _ (extractStridedSlice S1x1x2048x4096 ![0, 2, 0, 0] x3 slices_S2x3x2048x4096_S1x1x2048x4096_0_2_0_0) shapeCasts_S1x1x2048x4096_S2048x4096)))) bitsLt_bf16_f32

end Cert.MixRefIdeal.Result

namespace Cert.MixIdeal.Proved
open Cert.MixIdeal Cert.MixIdeal.Gen Cert.MixRefIdeal.Result
variable (m : (ℓ : Loc nD τ sig) → Buf (Elt Ideal) ℓ)

/-- Where each window's block begins: point `t` is row block `t / 8` and column block `t % 8`; the gates of branch `b`
    are `8 * b` column blocks further. -/
theorem idx : ∀ t : Fin cfg0.N, win0_0.index t = ![t.val / 8, 0] ∧ win0_1.index t = ![t.val / 8, 0] ∧ win0_2.index t = ![t.val / 8, 0]
    ∧ win0_3.index t = ![0, 0, 0, t.val % 8] ∧ win0_4.index t = ![t.val / 8, t.val % 8]
    ∧ win0_5.index t = ![t.val / 8, 8 + t.val % 8] ∧ win0_6.index t = ![t.val / 8, 16 + t.val % 8]
    ∧ win0_7.index t = ![t.val / 8, t.val % 8] :=
  (by decide +kernel : ∀ t : Fin grid0.N, _)

/-- An entry of the block of the first branch's rows. -/
theorem rows0 (c : Dev nD) (t : Fin cfg0.N) (y : S1024x512.Idx) (k : Fin 2048) : iblk m c 0 t (ix2 (y 0) k)
    = m ((c : Thread nD τ).loc main_arg0) (ix2 ((((cfg0.win 7).blk t).view.emb y) 0) k) := by
  blk_simp [iblk]
  rw [V_main_arg0]
  blk_ext [idx t]

/-- An entry of the block of the second branch's rows. -/
theorem rows1 (c : Dev nD) (t : Fin cfg0.N) (y : S1024x512.Idx) (k : Fin 2048) : iblk m c 1 t (ix2 (y 0) k)
    = m ((c : Thread nD τ).loc main_arg1) (ix2 ((((cfg0.win 7).blk t).view.emb y) 0) k) := by
  blk_simp [iblk]
  rw [V_main_arg1]
  blk_ext [idx t]

/-- An entry of the block of the third branch's rows. -/
theorem rows2 (c : Dev nD) (t : Fin cfg0.N) (y : S1024x512.Idx) (k : Fin 2048) : iblk m c 2 t (ix2 (y 0) k)
    = m ((c : Thread nD τ).loc main_arg2) (ix2 ((((cfg0.win 7).blk t).view.emb y) 0) k) := by
  blk_simp [iblk]
  rw [V_main_arg2]
  blk_ext [idx t]

/-- An entry of the block of branch weights: branch `b`, row `k`, the result's own column. -/
theorem weight (c : Dev nD) (t : Fin cfg0.N) (y : S1024x512.Idx) (b : Fin 3) (k : Fin 2048) : iblk m c 3 t (ix4 0 b k (y 1))
    = m ((c : Thread nD τ).loc main_arg3) (ix4 0 b k ((((cfg0.win 7).blk t).view.emb y) 1)) := by
  blk_simp [iblk]
  entry_read
  pointwise
  blk_ext [idx t]

set_option maxHeartbeats 1600000 in
/-- What the body stores at an index of a point's block is the reference at the array index it sits at. -/
theorem point0 (c : Dev nD) (t : Fin cfg0.N) (y : S1024x512.Idx) :
    k0_pay1 (iblk m c 4 t) (iblk m c 0 t) (View.ld (iblk m c 3 t) r0_2) (iblk m c 5 t) (iblk m c 1 t)
      (View.ld (iblk m c 3 t) r0_3) (iblk m c 6 t) (iblk m c 2 t) (View.ld (iblk m c 3 t) r0_4) y
    = ref0 (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 7).blk t).view.emb y) := by
  pointwise [k0_pay1, ref0]
  simp only [rows0 m c t y, rows1 m c t y, rows2 m c t y, weight m c t y]
  refine congrArg₂ (· + ·) (congrArg₂ (· + ·) (congrArg₂ (· * ·) ?_ rfl) (congrArg₂ (· * ·) ?_ rfl)) (congrArg₂ (· * ·) ?_ rfl)
  all_goals
    blk_simp [iblk]
    rw [V_main_arg4]
    blk_ext [idx t]

/-- The result array after the run. -/
theorem final0 (c : Dev nD) : (dats m 0 c).arrAt 7 cfg0.N
    = ref0 (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 7 _ (by decide +kernel) fun t _ y => ?_
  blk_simp
  rw [after0_7]; frame_out
  exact point0 m c t y

/-- The kernel's run and the reference's run, of arguments that agree, end with the same results. -/
theorem algebraic : Cert.algebraic_MixIdeal_MixRefIdeal := by
  intro m ρ m' ρ' _ hag
  refine ⟨fun c => ref0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), ?_, ?_⟩
  · exact (θ_run Cert.MixIdeal.defs _ _).mono (fun _ h c => ⟨(h c).1.trans (final0 m c), ((h c)).2⟩) (Cert.MixIdeal.Value.run_blocks m ρ)
  · refine (θ_run Cert.MixRefIdeal.defs _ _).mono (fun _ h c => ⟨(h c).1.trans ?_, ((h c)).2⟩) (Cert.MixRefIdeal.Value.run m' ρ')
    · show ref0 (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg2)) (m' ((c.tc : Thread Cert.MixRefIdeal.nD Cert.MixRefIdeal.τ).loc Cert.MixRefIdeal.main_arg3)) (m' ((c.tc : Thread Cert.MixRefIdeal.nD Cert.MixRefIdeal.τ).loc Cert.MixRefIdeal.main_arg4)) = _
      rw [(hag c).1, (hag c).2.1, (hag c).2.2.1, (hag c).2.2.2.1, (hag c).2.2.2.2]

end Cert.MixIdeal.Proved
-- ==== Proof.OutValue.lean ====
module

public import proofs.«01_k».proof.Proof.Gen.OutIdeal.Value
public import proofs.«01_k».proof.Proof.Gen.OutRefIdeal.Run
public import proofs.«01_k».proof.Defs
public import Idealize.ShloMosaic.Lib.Pipeline.ValueKit
public import Idealize.ShloMosaic.Lib.Pipeline.Covers
public import Idealize.ShloMosaic.Lib.Claim

@[expose] public section

set_option maxRecDepth 16384
noncomputable section
open Idealize.ShloMosaic Idealize.ShloMosaic.TcCoe Idealize.SL.Sem
open Idealize.ShloMosaic.Pipeline (Dat)

namespace Cert.OutRefIdeal.Result
open Cert.OutRefIdeal Cert.OutRefIdeal.Gen

/-- The reference's result 0, as one term over the argument arrays. -/
abbrev ref0 (x0 : FVec Ideal S16384x4096 .bf16) (x1 : FVec Ideal S2x4096x4096 .f32) (x2 : FVec Ideal S4x4096x4096 .f32) : FVec Ideal S16384x4096 .f32 :=
  addf (shapeCast _ (mulf (broadcastInDim S4x4096x4096 ![] bcast_S_S4x4096x4096 (constant S_ .f32 0x3FB504F3#32)) x2) shapeCasts_S4x4096x4096_S16384x4096) (Host.dotGeneral dot_S16384x4096_S4096x4096_S16384x4096_1_0_0_1_n_n none (extf .f32 x0 bitsLt_bf16_f32) (shapeCast _ (extractStridedSlice S1x4096x4096 ![0, 0, 0] x1 slices_S2x4096x4096_S1x4096x4096_0_0_0) shapeCasts_S1x4096x4096_S4096x4096))

end Cert.OutRefIdeal.Result

namespace Cert.OutIdeal.Proved
open Cert.OutIdeal Cert.OutIdeal.Gen Cert.OutRefIdeal.Result
variable (m : (ℓ : Loc nD τ sig) → Buf (Elt Ideal) ℓ)

/-- Where each window's block begins: point `t` is row block `t / 8` and column block `t % 8`. -/
theorem idx : ∀ t : Fin cfg0.N, win0_0.index t = ![t.val / 8, 0] ∧ win0_1.index t = ![0, 0, t.val % 8]
    ∧ win0_2.index t = ![t.val / 8, t.val % 8] ∧ win0_3.index t = ![t.val / 8, t.val % 8] :=
  (by decide +kernel : ∀ t : Fin grid0.N, _)

set_option maxHeartbeats 1600000 in
/-- What the body stores at an index of a point's block is the reference at the array index it sits at. -/
theorem point0 (c : Dev nD) (t : Fin cfg0.N) (y : S1024x512.Idx) : k0_pay1 (iblk m c 0 t) (iblk m c 1 t) (iblk m c 2 t) y
    = ref0 (m ((c : Thread nD τ).loc main_arg0)) (m ((c : Thread nD τ).loc main_arg1)) (m ((c : Thread nD τ).loc main_arg2))
        (((cfg0.win 3).blk t).view.emb y) := by
  pointwise [k0_pay1, ref0]
  refine congrArg₂ (· + ·) (congrArg₂ (· * ·) rfl ?_) (Finset.sum_congr rfl fun k _ => congrArg₂ (· * ·) ?_ ?_)
  · blk_simp [iblk]
    entry_read
    pointwise
    blk_ext [idx t]
  · blk_simp [iblk]
    entry_read
    blk_ext [idx t]
  · blk_simp [iblk]
    entry_read
    pointwise
    blk_ext [idx t]

/-- The result array after the run. -/
theorem final0 (c : Dev nD) : (dats m 0 c).arrAt 3 cfg0.N
    = ref0 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point0 m c t y

/-- The kernel's run and the reference's run, of arguments that agree, end with the same results. -/
theorem algebraic : Cert.algebraic_OutIdeal_OutRefIdeal := by
  intro m ρ m' ρ' _ hag
  refine ⟨fun c => ref0 (m ((c.tc : Thread nD τ).loc main_arg0)) (m ((c.tc : Thread nD τ).loc main_arg1)) (m ((c.tc : Thread nD τ).loc main_arg2)), ?_, ?_⟩
  · exact (θ_run Cert.OutIdeal.defs _ _).mono (fun _ h c => ⟨(h c).1.trans (final0 m c), ((h c)).2⟩) (Cert.OutIdeal.Value.run_blocks m ρ)
  · refine (θ_run Cert.OutRefIdeal.defs _ _).mono (fun _ h c => ⟨(h c).1.trans ?_, ((h c)).2⟩) (Cert.OutRefIdeal.Value.run m' ρ')
    · show ref0 (m' ((c.tc : Thread Cert.OutRefIdeal.nD Cert.OutRefIdeal.τ).loc Cert.OutRefIdeal.main_arg0)) (m' ((c.tc : Thread Cert.OutRefIdeal.nD Cert.OutRefIdeal.τ).loc Cert.OutRefIdeal.main_arg1)) (m' ((c.tc : Thread Cert.OutRefIdeal.nD Cert.OutRefIdeal.τ).loc Cert.OutRefIdeal.main_arg2)) = _
      rw [(hag c).1, (hag c).2.1, (hag c).2.2]

end Cert.OutIdeal.Proved
-- ==== Proof.LnaValue.lean ====
module

public import proofs.«01_k».proof.Proof.Gen.LnaIdeal.Value
public import proofs.«01_k».proof.Proof.Gen.LnaRefIdeal.Run
public import proofs.«01_k».proof.Defs
public import Idealize.ShloMosaic.Lib.Pipeline.ValueKit
public import Idealize.ShloMosaic.Lib.Pipeline.Covers
public import Idealize.ShloMosaic.Lib.Claim

@[expose] public section

set_option maxRecDepth 16384
noncomputable section
open Idealize.ShloMosaic Idealize.ShloMosaic.TcCoe Idealize.SL.Sem
open Idealize.ShloMosaic.Pipeline (Dat)

namespace Cert.LnaRefIdeal.Result
open Cert.LnaRefIdeal Cert.LnaRefIdeal.Gen

/-- The reference's result 0, as one term over the argument arrays. -/
abbrev ref0 (x0 : FVec Ideal S16384x4096 .f32) (x1 : FVec Ideal S2x4096 .f32) (x2 : FVec Ideal S2x4096 .f32) : FVec Ideal S16384x4096 .bf16 :=
  truncf .bf16 (addf (mulf (mulf (subf x0 (broadcastInDim S16384x4096 ![0, 1] bcast_S16384x1_S16384x4096_0_1 (Host.divf (broadcastInDim S16384x1 ![0] bcast_S16384_S16384x1_0 (Host.reduceAdd x0 (constant S_ .f32 0x00000000#32) reducesTo_S16384x4096_S16384_d1 h_S_)) (broadcastInDim S16384x1 ![] bcast_S_S16384x1 (constant S_ .f32 0x45800000#32))))) (broadcastInDim S16384x4096 ![0, 1] bcast_S16384x1_S16384x4096_0_1 (Host.rsqrt (addf (Host.divf (broadcastInDim S16384x1 ![0] bcast_S16384_S16384x1_0 (Host.reduceAdd (mulf (subf x0 (broadcastInDim S16384x4096 ![0, 1] bcast_S16384x1_S16384x4096_0_1 (Host.divf (broadcastInDim S16384x1 ![0] bcast_S16384_S16384x1_0 (Host.reduceAdd x0 (constant S_ .f32 0x00000000#32) reducesTo_S16384x4096_S16384_d1 h_S_)) (broadcastInDim S16384x1 ![] bcast_S_S16384x1 (constant S_ .f32 0x45800000#32))))) (subf x0 (broadcastInDim S16384x4096 ![0, 1] bcast_S16384x1_S16384x4096_0_1 (Host.divf (broadcastInDim S16384x1 ![0] bcast_S16384_S16384x1_0 (Host.reduceAdd x0 (constant S_ .f32 0x00000000#32) reducesTo_S16384x4096_S16384_d1 h_S_)) (broadcastInDim S16384x1 ![] bcast_S_S16384x1 (constant S_ .f32 0x45800000#32)))))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 (shapeCast _ (extractStridedSlice S1x4096 ![0, 0] x1 slices_S2x4096_S1x4096_0_0) shapeCasts_S1x4096_S4096)))) (broadcastInDim S16384x4096 ![0, 1] bcast_S1x4096_S16384x4096_0_1 (broadcastInDim S1x4096 ![1] bcast_S4096_S1x4096_1 (shapeCast _ (extractStridedSlice S1x4096 ![0, 0] x2 slices_S2x4096_S1x4096_0_0) shapeCasts_S1x4096_S4096)))) bitsLt_bf16_f32

end Cert.LnaRefIdeal.Result

namespace Cert.LnaIdeal.Proved
open Cert.LnaIdeal Cert.LnaIdeal.Gen Cert.LnaRefIdeal.Result
variable (m : (ℓ : Loc nD τ sig) → Buf (Elt Ideal) ℓ)

/-- Where each window's block begins: point `t` is row block `t`; the scale and the shift are whole. -/
theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

/-- An entry of the block of rows. -/
theorem entry (c : Dev nD) (t : Fin cfg0.N) (y : S256x4096.Idx) : iblk m c 0 t y
    = m ((c : Thread nD τ).loc main_arg0) (((cfg0.win 3).blk t).view.emb y) := by
  blk_simp [iblk]
  rw [V_main_arg0]
  blk_ext [idx t]

/-- An entry of the block's row that an index of the result lies in. -/
theorem row (c : Dev nD) (t : Fin cfg0.N) (y : S256x4096.Idx) (k : Fin 4096) : iblk m c 0 t (ix2 (y 0) k)
    = m ((c : Thread nD τ).loc main_arg0) (ix2 ((((cfg0.win 3).blk t).view.emb y) 0) k) := by
  blk_simp [iblk]
  rw [V_main_arg0]
  blk_ext [idx t]

/-- An entry of the scale. -/
theorem scale (c : Dev nD) (t : Fin cfg0.N) (y : S256x4096.Idx) : iblk m c 1 t (ix2 0 (y 1))
    = m ((c : Thread nD τ).loc main_arg1) (ix2 0 ((((cfg0.win 3).blk t).view.emb y) 1)) := by
  blk_simp [iblk]
  entry_read
  pointwise
  blk_ext [idx t]

/-- An entry of the shift. -/
theorem shift (c : Dev nD) (t : Fin cfg0.N) (y : S256x4096.Idx) : iblk m c 2 t (ix2 0 (y 1))
    = m ((c : Thread nD τ).loc main_arg2) (ix2 0 ((((cfg0.win 3).blk t).view.emb y) 1)) := by
  blk_simp [iblk]
  entry_read
  pointwise
  blk_ext [idx t]

set_option maxHeartbeats 1600000 in
/-- What the body stores at an index of a point's block is the reference at the array index it sits at. -/
theorem point0 (c : Dev nD) (t : Fin cfg0.N) (y : S256x4096.Idx) : k0_pay1 (iblk m c 0 t) (iblk m c 1 t) (iblk m c 2 t) y
    = ref0 (m ((c : Thread nD τ).loc main_arg0)) (m ((c : Thread nD τ).loc main_arg1)) (m ((c : Thread nD τ).loc main_arg2))
        (((cfg0.win 3).blk t).view.emb y) := by
  pointwise [k0_pay1, ref0]
  simp only [entry m c t y, row m c t y, scale m c t y, shift m c t y]

/-- The result array after the run. -/
theorem final0 (c : Dev nD) : (dats m 0 c).arrAt 3 cfg0.N
    = ref0 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point0 m c t y

/-- The kernel's run and the reference's run, of arguments that agree, end with the same results. -/
theorem algebraic : Cert.algebraic_LnaIdeal_LnaRefIdeal := by
  intro m ρ m' ρ' _ hag
  refine ⟨fun c => ref0 (m ((c.tc : Thread nD τ).loc main_arg0)) (m ((c.tc : Thread nD τ).loc main_arg1)) (m ((c.tc : Thread nD τ).loc main_arg2)), ?_, ?_⟩
  · exact (θ_run Cert.LnaIdeal.defs _ _).mono (fun _ h c => ⟨(h c).1.trans (final0 m c), ((h c)).2⟩) (Cert.LnaIdeal.Value.run_blocks m ρ)
  · refine (θ_run Cert.LnaRefIdeal.defs _ _).mono (fun _ h c => ⟨(h c).1.trans ?_, ((h c)).2⟩) (Cert.LnaRefIdeal.Value.run m' ρ')
    · show ref0 (m' ((c.tc : Thread Cert.LnaRefIdeal.nD Cert.LnaRefIdeal.τ).loc Cert.LnaRefIdeal.main_arg0)) (m' ((c.tc : Thread Cert.LnaRefIdeal.nD Cert.LnaRefIdeal.τ).loc Cert.LnaRefIdeal.main_arg1)) (m' ((c.tc : Thread Cert.LnaRefIdeal.nD Cert.LnaRefIdeal.τ).loc Cert.LnaRefIdeal.main_arg2)) = _
      rw [(hag c).1, (hag c).2.1, (hag c).2.2]

end Cert.LnaIdeal.Proved
-- ==== Proof.FfnInValue.lean ====
module

public import proofs.«01_k».proof.Proof.Gen.FfnInIdeal.Frame
public import proofs.«01_k».proof.Proof.Gen.FfnInRefIdeal.Run
public import proofs.«01_k».proof.Defs
public import Idealize.ShloMosaic.Lib.Pipeline.ValueKit
public import Idealize.ShloMosaic.Lib.Pipeline.Covers
public import Idealize.ShloMosaic.Lib.Claim

@[expose] public section

set_option maxRecDepth 16384
noncomputable section
open Idealize.ShloMosaic Idealize.ShloMosaic.TcCoe Idealize.SL.Sem
open Idealize.ShloMosaic.Pipeline (Dat)

namespace Cert.FfnInRefIdeal.Result
open Cert.FfnInRefIdeal Cert.FfnInRefIdeal.Gen

/-- The reference's result 0, as one term over the argument arrays. -/
abbrev ref0 (x0 : FVec Ideal S16384x4096 .bf16) (x1 : FVec Ideal S2x4096x22528 .bf16) (x2 : FVec Ideal S2x3x11008 .f32) (x3 : FVec Ideal S2x11008 .f32) : FVec Ideal S16384x11264 .bf16 :=
  truncf .bf16 (pad S16384x11264 ![0, 0] ![0, 256] ![0, 0] (shapeCast _ (mulf (mulf (mulf (broadcastInDim S4x4096x11008 ![] bcast_S_S4x4096x11008 (constant S_ .f32 0x3F000000#32)) (addf (addf (addf (addf (broadcastInDim S4x4096x11008 ![] bcast_S_S4x4096x11008 (constant S_ .f32 0x00000000#32)) (mulf (extractStridedSlice S4x4096x11008 ![0, 0, 0] (pad S4x4098x11008 ![0, 1, 0] ![0, 1, 0] ![0, 0, 0] (Host.dotGeneral dot_S4x4096x4096_S4096x11008_S4x4096x11008_2_0_01_1_n_n none (shapeCast _ (extf .f32 x0 bitsLt_bf16_f32) shapeCasts_S16384x4096_S4x4096x4096) (extractStridedSlice S4096x11008 ![0, 0] (extf .f32 (shapeCast _ (extractStridedSlice S1x4096x22528 ![0, 0, 0] x1 slices_S2x4096x22528_S1x4096x22528_0_0_0) shapeCasts_S1x4096x22528_S4096x22528) bitsLt_bf16_f32) slices_S4096x22528_S4096x11008_0_0)) (sitofp .f32 (constantI S_ 32 0#32)) pads_S4x4096x11008_S4x4098x11008_000_110_000 h_S_) slices_S4x4098x11008_S4x4096x11008_0_0_0) (broadcastInDim S4x4096x11008 ![0, 1, 2] bcast_S1x1x11008_S4x4096x11008_0_1_2 (broadcastInDim S1x1x11008 ![2] bcast_S11008_S1x1x11008_2 (shapeCast _ (extractStridedSlice S1x11008 ![0, 0] (shapeCast _ (extractStridedSlice S1x3x11008 ![0, 0, 0] x2 slices_S2x3x11008_S1x3x11008_0_0_0) shapeCasts_S1x3x11008_S3x11008) slices_S3x11008_S1x11008_0_0) shapeCasts_S1x11008_S11008))))) (mulf (extractStridedSlice S4x4096x11008 ![0, 1, 0] (pad S4x4098x11008 ![0, 1, 0] ![0, 1, 0] ![0, 0, 0] (Host.dotGeneral dot_S4x4096x4096_S4096x11008_S4x4096x11008_2_0_01_1_n_n none (shapeCast _ (extf .f32 x0 bitsLt_bf16_f32) shapeCasts_S16384x4096_S4x4096x4096) (extractStridedSlice S4096x11008 ![0, 0] (extf .f32 (shapeCast _ (extractStridedSlice S1x4096x22528 ![0, 0, 0] x1 slices_S2x4096x22528_S1x4096x22528_0_0_0) shapeCasts_S1x4096x22528_S4096x22528) bitsLt_bf16_f32) slices_S4096x22528_S4096x11008_0_0)) (sitofp .f32 (constantI S_ 32 0#32)) pads_S4x4096x11008_S4x4098x11008_000_110_000 h_S_) slices_S4x4098x11008_S4x4096x11008_0_1_0) (broadcastInDim S4x4096x11008 ![0, 1, 2] bcast_S1x1x11008_S4x4096x11008_0_1_2 (broadcastInDim S1x1x11008 ![2] bcast_S11008_S1x1x11008_2 (shapeCast _ (extractStridedSlice S1x11008 ![1, 0] (shapeCast _ (extractStridedSlice S1x3x11008 ![0, 0, 0] x2 slices_S2x3x11008_S1x3x11008_0_0_0) shapeCasts_S1x3x11008_S3x11008) slices_S3x11008_S1x11008_1_0) shapeCasts_S1x11008_S11008))))) (mulf (extractStridedSlice S4x4096x11008 ![0, 2, 0] (pad S4x4098x11008 ![0, 1, 0] ![0, 1, 0] ![0, 0, 0] (Host.dotGeneral dot_S4x4096x4096_S4096x11008_S4x4096x11008_2_0_01_1_n_n none (shapeCast _ (extf .f32 x0 bitsLt_bf16_f32) shapeCasts_S16384x4096_S4x4096x4096) (extractStridedSlice S4096x11008 ![0, 0] (extf .f32 (shapeCast _ (extractStridedSlice S1x4096x22528 ![0, 0, 0] x1 slices_S2x4096x22528_S1x4096x22528_0_0_0) shapeCasts_S1x4096x22528_S4096x22528) bitsLt_bf16_f32) slices_S4096x22528_S4096x11008_0_0)) (sitofp .f32 (constantI S_ 32 0#32)) pads_S4x4096x11008_S4x4098x11008_000_110_000 h_S_) slices_S4x4098x11008_S4x4096x11008_0_2_0) (broadcastInDim S4x4096x11008 ![0, 1, 2] bcast_S1x1x11008_S4x4096x11008_0_1_2 (broadcastInDim S1x1x11008 ![2] bcast_S11008_S1x1x11008_2 (shapeCast _ (extractStridedSlice S1x11008 ![2, 0] (shapeCast _ (extractStridedSlice S1x3x11008 ![0, 0, 0] x2 slices_S2x3x11008_S1x3x11008_0_0_0) shapeCasts_S1x3x11008_S3x11008) slices_S3x11008_S1x11008_2_0) shapeCasts_S1x11008_S11008))))) (broadcastInDim S4x4096x11008 ![0, 1, 2] bcast_S1x1x11008_S4x4096x11008_0_1_2 (broadcastInDim S1x1x11008 ![2] bcast_S11008_S1x1x11008_2 (shapeCast _ (extractStridedSlice S1x11008 ![0, 0] x3 slices_S2x11008_S1x11008_0_0) shapeCasts_S1x11008_S11008))))) (addf (broadcastInDim S4x4096x11008 ![] bcast_S_S4x4096x11008 (constant S_ .f32 0x3F800000#32)) (Host.erf (mulf (addf (addf (addf (addf (broadcastInDim S4x4096x11008 ![] bcast_S_S4x4096x11008 (constant S_ .f32 0x00000000#32)) (mulf (extractStridedSlice S4x4096x11008 ![0, 0, 0] (pad S4x4098x11008 ![0, 1, 0] ![0, 1, 0] ![0, 0, 0] (Host.dotGeneral dot_S4x4096x4096_S4096x11008_S4x4096x11008_2_0_01_1_n_n none (shapeCast _ (extf .f32 x0 bitsLt_bf16_f32) shapeCasts_S16384x4096_S4x4096x4096) (extractStridedSlice S4096x11008 ![0, 0] (extf .f32 (shapeCast _ (extractStridedSlice S1x4096x22528 ![0, 0, 0] x1 slices_S2x4096x22528_S1x4096x22528_0_0_0) shapeCasts_S1x4096x22528_S4096x22528) bitsLt_bf16_f32) slices_S4096x22528_S4096x11008_0_0)) (sitofp .f32 (constantI S_ 32 0#32)) pads_S4x4096x11008_S4x4098x11008_000_110_000 h_S_) slices_S4x4098x11008_S4x4096x11008_0_0_0) (broadcastInDim S4x4096x11008 ![0, 1, 2] bcast_S1x1x11008_S4x4096x11008_0_1_2 (broadcastInDim S1x1x11008 ![2] bcast_S11008_S1x1x11008_2 (shapeCast _ (extractStridedSlice S1x11008 ![0, 0] (shapeCast _ (extractStridedSlice S1x3x11008 ![0, 0, 0] x2 slices_S2x3x11008_S1x3x11008_0_0_0) shapeCasts_S1x3x11008_S3x11008) slices_S3x11008_S1x11008_0_0) shapeCasts_S1x11008_S11008))))) (mulf (extractStridedSlice S4x4096x11008 ![0, 1, 0] (pad S4x4098x11008 ![0, 1, 0] ![0, 1, 0] ![0, 0, 0] (Host.dotGeneral dot_S4x4096x4096_S4096x11008_S4x4096x11008_2_0_01_1_n_n none (shapeCast _ (extf .f32 x0 bitsLt_bf16_f32) shapeCasts_S16384x4096_S4x4096x4096) (extractStridedSlice S4096x11008 ![0, 0] (extf .f32 (shapeCast _ (extractStridedSlice S1x4096x22528 ![0, 0, 0] x1 slices_S2x4096x22528_S1x4096x22528_0_0_0) shapeCasts_S1x4096x22528_S4096x22528) bitsLt_bf16_f32) slices_S4096x22528_S4096x11008_0_0)) (sitofp .f32 (constantI S_ 32 0#32)) pads_S4x4096x11008_S4x4098x11008_000_110_000 h_S_) slices_S4x4098x11008_S4x4096x11008_0_1_0) (broadcastInDim S4x4096x11008 ![0, 1, 2] bcast_S1x1x11008_S4x4096x11008_0_1_2 (broadcastInDim S1x1x11008 ![2] bcast_S11008_S1x1x11008_2 (shapeCast _ (extractStridedSlice S1x11008 ![1, 0] (shapeCast _ (extractStridedSlice S1x3x11008 ![0, 0, 0] x2 slices_S2x3x11008_S1x3x11008_0_0_0) shapeCasts_S1x3x11008_S3x11008) slices_S3x11008_S1x11008_1_0) shapeCasts_S1x11008_S11008))))) (mulf (extractStridedSlice S4x4096x11008 ![0, 2, 0] (pad S4x4098x11008 ![0, 1, 0] ![0, 1, 0] ![0, 0, 0] (Host.dotGeneral dot_S4x4096x4096_S4096x11008_S4x4096x11008_2_0_01_1_n_n none (shapeCast _ (extf .f32 x0 bitsLt_bf16_f32) shapeCasts_S16384x4096_S4x4096x4096) (extractStridedSlice S4096x11008 ![0, 0] (extf .f32 (shapeCast _ (extractStridedSlice S1x4096x22528 ![0, 0, 0] x1 slices_S2x4096x22528_S1x4096x22528_0_0_0) shapeCasts_S1x4096x22528_S4096x22528) bitsLt_bf16_f32) slices_S4096x22528_S4096x11008_0_0)) (sitofp .f32 (constantI S_ 32 0#32)) pads_S4x4096x11008_S4x4098x11008_000_110_000 h_S_) slices_S4x4098x11008_S4x4096x11008_0_2_0) (broadcastInDim S4x4096x11008 ![0, 1, 2] bcast_S1x1x11008_S4x4096x11008_0_1_2 (broadcastInDim S1x1x11008 ![2] bcast_S11008_S1x1x11008_2 (shapeCast _ (extractStridedSlice S1x11008 ![2, 0] (shapeCast _ (extractStridedSlice S1x3x11008 ![0, 0, 0] x2 slices_S2x3x11008_S1x3x11008_0_0_0) shapeCasts_S1x3x11008_S3x11008) slices_S3x11008_S1x11008_2_0) shapeCasts_S1x11008_S11008))))) (broadcastInDim S4x4096x11008 ![0, 1, 2] bcast_S1x1x11008_S4x4096x11008_0_1_2 (broadcastInDim S1x1x11008 ![2] bcast_S11008_S1x1x11008_2 (shapeCast _ (extractStridedSlice S1x11008 ![0, 0] x3 slices_S2x11008_S1x11008_0_0) shapeCasts_S1x11008_S11008)))) (broadcastInDim S4x4096x11008 ![] bcast_S_S4x4096x11008 (constant S_ .f32 0x3F3504F3#32)))))) (Host.dotGeneral dot_S4x4096x4096_S4096x11008_S4x4096x11008_2_0_01_1_n_n none (shapeCast _ (extf .f32 x0 bitsLt_bf16_f32) shapeCasts_S16384x4096_S4x4096x4096) (extractStridedSlice S4096x11008 ![0, 11264] (extf .f32 (shapeCast _ (extractStridedSlice S1x4096x22528 ![0, 0, 0] x1 slices_S2x4096x22528_S1x4096x22528_0_0_0) shapeCasts_S1x4096x22528_S4096x22528) bitsLt_bf16_f32) slices_S4096x22528_S4096x11008_0_11264))) shapeCasts_S4x4096x11008_S16384x11008) (sitofp .f32 (constantI S_ 32 0#32)) pads_S16384x11008_S16384x11264_000_02560 h_S_) bitsLt_bf16_f32

end Cert.FfnInRefIdeal.Result

namespace Cert.FfnInIdeal.Proved
open Cert.FfnInIdeal Cert.FfnInIdeal.Gen Cert.FfnInRefIdeal.Result
variable (m : (ℓ : Loc nD τ sig) → Buf (Elt Ideal) ℓ)

/-- Where each window's block begins: point `t` is row block `t / 22` and column block `t % 22`; the row blocks of sixteen rows just
above and just below are held within the array. -/
theorem idx : ∀ t : Fin cfg0.N, win0_0.index t = ![max (64 * (t.val / 22) - 1) 0, 0] ∧ win0_1.index t = ![t.val / 22, 0]
    ∧ win0_2.index t = ![min ((t.val / 22 + 1) * 64) 1023, 0] ∧ win0_3.index t = ![0, 0, t.val % 22]
    ∧ win0_4.index t = ![0, 0, 22 + t.val % 22] ∧ win0_5.index t = ![0, t.val % 22] ∧ win0_6.index t = ![0, t.val % 22]
    ∧ win0_7.index t = ![t.val / 22, t.val % 22] ∧ (grid0.coords t 0).val = t.val / 22 :=
  (by decide +kernel : ∀ t : Fin grid0.N, _)

/-- An entry of the sixteen rows above. -/
theorem rowsAbove (c : Dev nD) (t : Fin cfg0.N) (y : S16x4096.Idx) (i : S16384x4096.Idx) (h0 : (i 0 : ℕ) + 16 = t.val / 22 * 1024 + y 0)
    (h1 : (i 1 : ℕ) = y 1) : iblk m c 0 t y = m ((c : Thread nD τ).loc main_arg0) i := by
  blk_simp [iblk]
  rw [V_main_arg0]
  blk_ext [idx t]

/-- An entry of the block's own rows. -/
theorem rows (c : Dev nD) (t : Fin cfg0.N) (y : S1024x4096.Idx) (i : S16384x4096.Idx) (h0 : (i 0 : ℕ) = t.val / 22 * 1024 + y 0)
    (h1 : (i 1 : ℕ) = y 1) : iblk m c 1 t y = m ((c : Thread nD τ).loc main_arg0) i := by
  blk_simp [iblk]
  rw [V_main_arg0]
  blk_ext [idx t]

/-- An entry of the sixteen rows below. -/
theorem rowsBelow (c : Dev nD) (t : Fin cfg0.N) (y : S16x4096.Idx) (i : S16384x4096.Idx)
    (h0 : (i 0 : ℕ) = t.val / 22 * 1024 + 1024 + y 0) (h1 : (i 1 : ℕ) = y 1) :
    iblk m c 2 t y = m ((c : Thread nD τ).loc main_arg0) i := by
  have h := (i 0).isLt
  change _ < 16384 at h
  blk_simp [iblk]
  rw [V_main_arg0]
  blk_ext [idx t]

/-- An entry of the weights of the convolved half. -/
theorem weightA (c : Dev nD) (t : Fin cfg0.N) (q : Fin 4096) (d : Fin 512) (p : Fin 22528) (h : (p : ℕ) = t.val % 22 * 512 + d) :
    iblk m c 3 t (ix3 0 q d) = m ((c : Thread nD τ).loc main_arg1) (ix3 0 q p) := by
  blk_simp [iblk]
  rw [V_main_arg1]
  blk_ext [idx t]

/-- An entry of the weights of the other half. -/
theorem weightU (c : Dev nD) (t : Fin cfg0.N) (q : Fin 4096) (d : Fin 512) (p : Fin 22528) (h : (p : ℕ) = 11264 + t.val % 22 * 512 + d) :
    iblk m c 4 t (ix3 0 q d) = m ((c : Thread nD τ).loc main_arg1) (ix3 0 q p) := by
  blk_simp [iblk]
  rw [V_main_arg1]
  blk_ext [idx t]

/-- The taps as the host pads them. -/
theorem tapsAt (c : Dev nD) (a : Fin 3) (d : Fin 11264) (p : Fin 11008) (h : (p : ℕ) = d) :
    V m c main_v3 (ix2 a d) = m ((c : Thread nD τ).loc main_arg2) (ix3 0 a p) := by
  unfold V
  simp only [hostOps0, hostOps0_1, hostOps0_2, hostOps0_3, hostOps0_4, List.flatten_cons, List.flatten_nil, List.append_nil,
    List.cons_append, List.nil_append]
  after_results
  pointwise
  change pad S2x3x11264 ![0, 0, 0] ![0, 0, 256] ![0, 0, 0] (show FVec Ideal S2x3x11008 .f32 from m ((c : Thread nD τ).loc main_arg2))
    (sitofp .f32 (constantI S_ 32 0#32)) pads_S2x3x11008_S2x3x11264_000_000_02560 h_S_ (ix3 0 a d) = _
  pointwise [dif_pos (show (d : ℕ) < 11008 by omega)]
  blk_ext

/-- The bias as the host pads it. -/
theorem biasAt (c : Dev nD) (d : Fin 11264) (p : Fin 11008) (h : (p : ℕ) = d) :
    V m c main_v6 (ix2 0 d) = m ((c : Thread nD τ).loc main_arg3) (ix2 0 p) := by
  unfold V
  simp only [hostOps0, hostOps0_1, hostOps0_2, hostOps0_3, hostOps0_4, List.flatten_cons, List.flatten_nil, List.append_nil,
    List.cons_append, List.nil_append]
  after_results
  pointwise
  change pad S2x11264 ![0, 0] ![0, 256] ![0, 0] (show FVec Ideal S2x11008 .f32 from m ((c : Thread nD τ).loc main_arg3))
    (sitofp .f32 (constantI S_ 32 0#32)) pads_S2x11008_S2x11264_000_02560 h_S_ (ix2 0 d) = _
  pointwise [dif_pos (show (d : ℕ) < 11008 by omega)]
  blk_ext

/-- An entry of the taps, below the true width. -/
theorem tap (c : Dev nD) (t : Fin cfg0.N) (a : Fin 3) (d : Fin 512) (p : Fin 11008) (h : (p : ℕ) = t.val % 22 * 512 + d) :
    iblk m c 5 t (ix2 a d) = m ((c : Thread nD τ).loc main_arg2) (ix3 0 a p) := by
  refine Eq.trans ?_ (tapsAt m c a ⟨t.val % 22 * 512 + d.val, by omega⟩ p h)
  blk_simp [iblk]
  blk_ext [idx t]

/-- An entry of the bias, below the true width. -/
theorem bias (c : Dev nD) (t : Fin cfg0.N) (d : Fin 512) (p : Fin 11008) (h : (p : ℕ) = t.val % 22 * 512 + d) :
    iblk m c 6 t (ix2 0 d) = m ((c : Thread nD τ).loc main_arg3) (ix2 0 p) := by
  refine Eq.trans ?_ (biasAt m c ⟨t.val % 22 * 512 + d.val, by omega⟩ p h)
  blk_simp [iblk]
  blk_ext [idx t]

/-- What a row block's rows, with the sixteen above and below, are as the scratch holds them. -/
def Held (x : Vec Ideal S16384x4096 .bf16) (r : ℕ) (xs : Vec Ideal S1056x4096 .bf16) : Prop :=
  ∀ (j : S1056x4096.Idx) (i : S16384x4096.Idx), (i 0 : ℕ) + 16 = r * 1024 + j 0 → (i 1 : ℕ) = j 1 → xs j = x i

/-- The three stores that fill the scratch. -/
theorem filled (c : Dev nD) (t : Fin cfg0.N) : Held (m ((c : Thread nD τ).loc main_arg0)) (t.val / 22)
    (View.canon [⟨Rect.unit ![1040, 0] ![16, 4096] inb_S1056x4096_S16x4096_1040_0, k0_pay3 (iblk m c 2 t)⟩,
      ⟨Rect.unit ![16, 0] ![1024, 4096] inb_S1056x4096_S1024x4096_16_0, k0_pay2 (iblk m c 1 t)⟩,
      ⟨Rect.unit ![0, 0] ![16, 4096] inb_S1056x4096_S16x4096_0_0, k0_pay1 (iblk m c 0 t)⟩]) := by
  intro j i e f
  canon_tiles x h using View.cover_of_tiledBy _ ![16, 4096] (by sl_kernel_rfl) j
  · pointwise [k0_pay3]
    exact rowsBelow m c t x i (by omega) (by omega)
  · pointwise [k0_pay2]
    exact rows m c t x i (by omega) (by omega)
  · pointwise [k0_pay1]
    exact rowsAbove m c t x i (by omega) (by omega)

/-- After every point of a row block the scratch holds its rows. -/
theorem scratch (c : Dev nD) : ∀ (n : ℕ) (h : n < cfg0.N), Held (m ((c : Thread nD τ).loc main_arg0)) (n / 22) (outsAt0 m c n h).2
  | n, h => by
    have hN := lt_of_lt_of_eq h (show cfg0.N = 352 from N_0)
    by_cases h0 : n % 22 = 0
    · have e := outsAt0_A m c ⟨n, h⟩ h0 (show n % 22 ≤ 20 by omega) (show ¬n % 22 = 21 by omega)
      intro j i
      rw [show outsAt0 m c n h = _ from e]; frame_out
      exact filled m c ⟨n, h⟩ j i
    · have hp := scratch c (n - 1) (by omega)
      rw [show (n - 1) / 22 = n / 22 by omega] at hp
      by_cases h2 : n % 22 = 21
      · rw [show outsAt0 m c n h = _ from outsAt0_C m c ⟨n, h⟩ h0 (show ¬n % 22 ≤ 20 by omega) h2]
        exact hp
      · rw [show outsAt0 m c n h = _ from outsAt0_B m c ⟨n, h⟩ h0 (show n % 22 ≤ 20 by omega) h2]
        exact hp
  termination_by n => n

/-- The integer zero the host converts is the real zero. -/
theorem pad : (FloatOps.sitofp FTy.f32 0#32 : Ideal .f32) = 0 := by
  show ((((0#32 : BitVec 32).toInt : ℤ) : ℝ) : EReal) = 0
  simp

/-- The row masked at a row block: none is the largest word. -/
theorem row : ∀ r : Fin 16,
    Scalar.select (Scalar.cmpi .eq (Scalar.remsi (BitVec.ofNat 32 r.val) 4#32) 0#32) 0#32 4294967295#32
      = BitVec.ofNat 32 (if r.val % 4 = 0 then 0 else 4294967295)
    ∧ Scalar.select (Scalar.cmpi .eq (Scalar.remsi (BitVec.ofNat 32 r.val) 4#32) 3#32) 1023#32 4294967295#32
      = BitVec.ofNat 32 (if r.val % 4 = 3 then 1023 else 4294967295) := by
  decide +kernel

/-- Choosing by a comparison of two numbers as words. -/
theorem sel (n k : ℕ) (hn : n < 4294967296) (hk : k < 4294967296) (a b : EReal) :
    Scalar.select (IntOp.cmpi .eq (BitVec.ofNat 32 n) (BitVec.ofNat 32 k)) a b = if n = k then a else b := by
  simp only [hlo_ix, BitVec.toNat_ofNat]
  rw [Nat.mod_eq_of_lt (by omega), Nat.mod_eq_of_lt (by omega)]

/-- A choice of zero or a value is the padded value. -/
theorem masked {p q : Prop} [Decidable p] [Decidable q] (a : EReal) (b : q → EReal) (h : p ↔ ¬q) (e : ∀ h, a = b h) :
    (if p then (0 : EReal) else a) = if h : q then b h else (FloatOps.sitofp FTy.f32 0#32 : Ideal .f32) := by
  rw [pad]
  by_cases hq : q
  · rw [if_neg (fun hp => h.mp hp hq), dif_pos hq, e hq]
  · rw [if_pos (h.mpr hq), dif_neg hq]

/-- The row before: a product masked as a whole at a sequence's first row is a padded factor times the other one. -/
theorem before {q : Prop} [Decidable q] (r n : ℕ) (hr : r < 16) (hn : n < 1024) (a w : EReal) (b : q → EReal)
    (h : (r % 4 = 0 ∧ n = 0) ↔ ¬q) (e : ∀ h, a = b h) :
    Scalar.select (IntOp.cmpi .eq (BitVec.ofNat 32 n)
      (Scalar.select (Scalar.cmpi .eq (Scalar.remsi (BitVec.ofNat 32 r) 4#32) 0#32) 0#32 4294967295#32)) (0 : EReal) (a * w)
    = (if h : q then b h else (FloatOps.sitofp FTy.f32 0#32 : Ideal .f32)) * w := by
  rw [show _ = BitVec.ofNat 32 (if r % 4 = 0 then 0 else 4294967295) from (row ⟨r, hr⟩).1, sel _ _ (by omega) (by split_ifs <;> omega), ← masked (p := r % 4 = 0 ∧ n = 0) a b h e]
  split_ifs <;> first | rfl | (exfalso; omega) | (rw [zero_mul])

/-- The row after, masked at a sequence's last row. -/
theorem after {q : Prop} [Decidable q] (r n : ℕ) (hr : r < 16) (hn : n < 1024) (a w : EReal) (b : q → EReal)
    (h : (r % 4 = 3 ∧ n = 1023) ↔ ¬q) (e : ∀ h, a = b h) :
    Scalar.select (IntOp.cmpi .eq (BitVec.ofNat 32 n)
      (Scalar.select (Scalar.cmpi .eq (Scalar.remsi (BitVec.ofNat 32 r) 4#32) 3#32) 1023#32 4294967295#32)) (0 : EReal) (a * w)
    = (if h : q then b h else (FloatOps.sitofp FTy.f32 0#32 : Ideal .f32)) * w := by
  rw [show _ = BitVec.ofNat 32 (if r % 4 = 3 then 1023 else 4294967295) from (row ⟨r, hr⟩).2, sel _ _ (by omega) (by split_ifs <;> omega),
    ← masked (p := r % 4 = 3 ∧ n = 1023) a b h e]
  split_ifs <;> first | rfl | (exfalso; omega) | (rw [zero_mul])

/-- A value under a condition that holds. -/
theorem kept {q : Prop} [Decidable q] (a z : EReal) (b : q → EReal) (h : q) (e : a = b h) : a = if h : q then b h else z := by
  rw [dif_pos h, e]

/-- The gate: the exact gelu of the convolved half times the other half. -/
abbrev gate (c u : EReal) : EReal :=
  Ideal.ofBits .f32 1056964608#32 * c * (1 + Ideal.erf (c * Ideal.ofBits .f32 1060439283#32)) * u

set_option maxRecDepth 100000 in
set_option maxHeartbeats 1600000 in
/-- What a whole block stores is the reference at its array index. -/
theorem core512 (xs : Vec Ideal S1056x4096 .bf16) (xb : Vec Ideal S1024x4096 .bf16) (wa wu : Vec Ideal S1x4096x512 .bf16)
    (k0 k1 k2 bb : Vec Ideal S1x512 .f32) (x : Vec Ideal S16384x4096 .bf16) (w : Vec Ideal S2x4096x22528 .bf16)
    (k : Vec Ideal S2x3x11008 .f32) (z : Vec Ideal S2x11008 .f32) (r b : ℕ) (hr : r < 16) (hs : Held x r xs)
    (hb : ∀ (y : S1024x4096.Idx) (i : S16384x4096.Idx), (i 0 : ℕ) = r * 1024 + y 0 → (i 1 : ℕ) = y 1 → xb y = x i)
    (ha : ∀ (q : Fin 4096) (d : Fin 512) (p : Fin 22528), (p : ℕ) = b * 512 + d → wa (ix3 0 q d) = w (ix3 0 q p))
    (hu : ∀ (q : Fin 4096) (d : Fin 512) (p : Fin 22528), (p : ℕ) = 11264 + b * 512 + d → wu (ix3 0 q d) = w (ix3 0 q p))
    (h0 : ∀ (d : Fin 512) (p : Fin 11008), (p : ℕ) = b * 512 + d → k0 (ix2 0 d) = k (ix3 0 0 p))
    (h1 : ∀ (d : Fin 512) (p : Fin 11008), (p : ℕ) = b * 512 + d → k1 (ix2 0 d) = k (ix3 0 1 p))
    (h2 : ∀ (d : Fin 512) (p : Fin 11008), (p : ℕ) = b * 512 + d → k2 (ix2 0 d) = k (ix3 0 2 p))
    (hz : ∀ (d : Fin 512) (p : Fin 11008), (p : ℕ) = b * 512 + d → bb (ix2 0 d) = z (ix2 0 p))
    (y : S1024x512.Idx) (i : S16384x11264.Idx) (e0 : (i 0 : ℕ) = r * 1024 + y 0) (e1 : (i 1 : ℕ) = b * 512 + y 1) (h : (i 1 : ℕ) < 11008) :
    k0_pay4 (k0_pay8 xb wu) (k0_pay9 xs wa) (k0_pay10 (BitVec.ofNat 32 r) xs wa) (k0_pay11 (BitVec.ofNat 32 r) xs wa k0) (k0_pay12 k1) k2 bb y
    = ref0 x w k z i := by
  have hy : (y 0).val < 1024 := (y 0).isLt
  have near : ∀ (a : Fin 1056) (p : Fin 16384), (p : ℕ) + 16 = r * 1024 + a →
      ∑ q : Fin 4096, xs (ix2 a q) * wa (ix3 0 q (y 1)) = ∑ q : Fin 4096, x (ix2 p q) * w (ix3 0 q ⟨(i 1).val, by omega⟩) := fun a p e =>
    Finset.sum_congr rfl fun q _ => congrArg₂ (· * ·) (hs (ix2 a q) (ix2 p q) e rfl) (ha q (y 1) _ e1)
  pointwise [k0_pay4, k0_pay8, k0_pay9, k0_pay10, k0_pay11, k0_pay12, k0_pay7, ref0, dif_pos h]
  refine (congrArg₂ gate (congrArg₂ (· + ·) (congrArg₂ (· + ·) (congrArg₂ (· + ·) ?_ ?_) ?_) (hz (y 1) ⟨(i 1).val, h⟩ e1)) ?_ : gate _ _ = gate _ _)
  · refine (before r _ hr hy _ _ _ (by omega) fun g => near _ _ ?_).trans (congrArg₂ (· * ·) rfl (h0 (y 1) ⟨(i 1).val, h⟩ e1))
    simp only []
    omega
  · refine congrArg₂ (· * ·) (kept _ _ _ (by omega) (near _ _ ?_)) (h1 (y 1) ⟨(i 1).val, h⟩ e1)
    simp only []
    omega
  · refine (after r _ hr hy _ _ _ (by omega) fun g => near _ _ ?_).trans (congrArg₂ (· * ·) rfl (h2 (y 1) ⟨(i 1).val, h⟩ e1))
    simp only []
    omega
  · refine Finset.sum_congr rfl fun q _ => congrArg₂ (· * ·) (hb _ _ e0 rfl) (hu q (y 1) _ ?_)
    simp only []
    omega

set_option maxRecDepth 100000 in
set_option maxHeartbeats 1600000 in
/-- What the last block stores below the true width is the reference at its array index. -/
theorem core256 (xs : Vec Ideal S1056x4096 .bf16) (xb : Vec Ideal S1024x4096 .bf16) (wa wu : Vec Ideal S1x4096x256 .bf16)
    (k0 k1 k2 bb : Vec Ideal S1x256 .f32) (x : Vec Ideal S16384x4096 .bf16) (w : Vec Ideal S2x4096x22528 .bf16)
    (k : Vec Ideal S2x3x11008 .f32) (z : Vec Ideal S2x11008 .f32) (r b : ℕ) (hr : r < 16) (hs : Held x r xs)
    (hb : ∀ (y : S1024x4096.Idx) (i : S16384x4096.Idx), (i 0 : ℕ) = r * 1024 + y 0 → (i 1 : ℕ) = y 1 → xb y = x i)
    (ha : ∀ (q : Fin 4096) (d : Fin 256) (p : Fin 22528), (p : ℕ) = b * 512 + d → wa (ix3 0 q d) = w (ix3 0 q p))
    (hu : ∀ (q : Fin 4096) (d : Fin 256) (p : Fin 22528), (p : ℕ) = 11264 + b * 512 + d → wu (ix3 0 q d) = w (ix3 0 q p))
    (h0 : ∀ (d : Fin 256) (p : Fin 11008), (p : ℕ) = b * 512 + d → k0 (ix2 0 d) = k (ix3 0 0 p))
    (h1 : ∀ (d : Fin 256) (p : Fin 11008), (p : ℕ) = b * 512 + d → k1 (ix2 0 d) = k (ix3 0 1 p))
    (h2 : ∀ (d : Fin 256) (p : Fin 11008), (p : ℕ) = b * 512 + d → k2 (ix2 0 d) = k (ix3 0 2 p))
    (hz : ∀ (d : Fin 256) (p : Fin 11008), (p : ℕ) = b * 512 + d → bb (ix2 0 d) = z (ix2 0 p))
    (y : S1024x256.Idx) (i : S16384x11264.Idx) (e0 : (i 0 : ℕ) = r * 1024 + y 0) (e1 : (i 1 : ℕ) = b * 512 + y 1) (h : (i 1 : ℕ) < 11008) :
    k0_pay5 (k0_pay14 xb wu) (k0_pay15 xs wa) (k0_pay16 (BitVec.ofNat 32 r) xs wa) (k0_pay17 (BitVec.ofNat 32 r) xs wa k0) (k0_pay18 k1) k2 bb y
    = ref0 x w k z i := by
  have hy : (y 0).val < 1024 := (y 0).isLt
  have near : ∀ (a : Fin 1056) (p : Fin 16384), (p : ℕ) + 16 = r * 1024 + a →
      ∑ q : Fin 4096, xs (ix2 a q) * wa (ix3 0 q (y 1)) = ∑ q : Fin 4096, x (ix2 p q) * w (ix3 0 q ⟨(i 1).val, by omega⟩) := fun a p e =>
    Finset.sum_congr rfl fun q _ => congrArg₂ (· * ·) (hs (ix2 a q) (ix2 p q) e rfl) (ha q (y 1) _ e1)
  pointwise [k0_pay5, k0_pay14, k0_pay15, k0_pay16, k0_pay17, k0_pay18, k0_pay13, ref0, dif_pos h]
  refine (congrArg₂ gate (congrArg₂ (· + ·) (congrArg₂ (· + ·) (congrArg₂ (· + ·) ?_ ?_) ?_) (hz (y 1) ⟨(i 1).val, h⟩ e1)) ?_ : gate _ _ = gate _ _)
  · refine (before r _ hr hy _ _ _ (by omega) fun g => near _ _ ?_).trans (congrArg₂ (· * ·) rfl (h0 (y 1) ⟨(i 1).val, h⟩ e1))
    simp only []
    omega
  · refine congrArg₂ (· * ·) (kept _ _ _ (by omega) (near _ _ ?_)) (h1 (y 1) ⟨(i 1).val, h⟩ e1)
    simp only []
    omega
  · refine (after r _ hr hy _ _ _ (by omega) fun g => near _ _ ?_).trans (congrArg₂ (· * ·) rfl (h2 (y 1) ⟨(i 1).val, h⟩ e1))
    simp only []
    omega
  · refine Finset.sum_congr rfl fun q _ => congrArg₂ (· * ·) (hb _ _ e0 rfl) (hu q (y 1) _ ?_)
    simp only []
    omega

/-- The zero the last block stores from the true width on. -/
theorem blank (y : S1024x256.Idx) : k0_pay6 (F := Ideal) y = 0 := by
  pointwise [k0_pay6]

/-- The reference from the true width on. -/
theorem refBlank (x : Vec Ideal S16384x4096 .bf16) (w : Vec Ideal S2x4096x22528 .bf16) (k : Vec Ideal S2x3x11008 .f32)
    (z : Vec Ideal S2x11008 .f32) (i : S16384x11264.Idx) (h : ¬(i 1 : ℕ) < 11008) : ref0 x w k z i = 0 := by
  pointwise [ref0, dif_neg h]
  exact pad

set_option maxHeartbeats 1600000 in
/-- What a point leaves at an index of its block is the reference at the array index it sits at. -/
theorem point0 (c : Dev nD) (t : Fin cfg0.N) (y : S1024x512.Idx) (i : S16384x11264.Idx) (e0 : (i 0 : ℕ) = t.val / 22 * 1024 + y 0)
    (e1 : (i 1 : ℕ) = t.val % 22 * 512 + y 1) : (outsAt0 m c t.val t.isLt).1 y
    = ref0 (m ((c : Thread nD τ).loc main_arg0)) (m ((c : Thread nD τ).loc main_arg1)) (m ((c : Thread nD τ).loc main_arg2))
      (m ((c : Thread nD τ).loc main_arg3)) i := by
  have hN := lt_of_lt_of_eq t.isLt (show cfg0.N = 352 from N_0)
  have hy : (y 1).val < 512 := (y 1).isLt
  by_cases h2 : t.val % 22 = 21
  · have hp := scratch m c (t.val - 1) (by omega)
    rw [show (t.val - 1) / 22 = t.val / 22 by omega] at hp
    rw [outsAt0_C m c t (by omega) (by omega) h2]; frame_out
    rw [(idx t).2.2.2.2.2.2.2.2]
    canon_tiles x h
    · rw [blank, refBlank _ _ _ _ _ (by omega)]
    · refine core256 _ _ _ _ _ _ _ _ _ _ _ _ (t.val / 22) (t.val % 22) (by omega) (fun j i e f => (congrFun (Memref.IsWhole.read_unread _ _) j).trans (hp j i e f)) (rows m c t) ?_ ?_ ?_ ?_ ?_ ?_ x i (by omega) (by omega) (by omega)
      all_goals
        intros
        pointwise
      · exact weightA m c t _ _ _ ‹_›
      · exact weightU m c t _ _ _ ‹_›
      · exact tap m c t 0 _ _ ‹_›
      · exact tap m c t 1 _ _ ‹_›
      · exact tap m c t 2 _ _ ‹_›
      · exact bias m c t _ _ ‹_›
  · by_cases h0 : t.val % 22 = 0
    · rw [outsAt0_A m c t h0 (by omega) h2]; frame_out
      rw [(idx t).2.2.2.2.2.2.2.2, View.readCov_eq_canon']
      refine core512 _ _ _ _ _ _ _ _ _ _ _ _ (t.val / 22) (t.val % 22) (by omega) ?_ (rows m c t) (weightA m c t) (weightU m c t) ?_ ?_ ?_ (bias m c t) y i e0 e1 (by omega)
      · intro j i e f
        refine (congrArg _ ?_).trans (filled m c t j i e f)
        exact funext fun a => Fin.ext ((Rect.idx_unit_val _ _ _ j a).trans (by fin_cases a <;> simp))
      all_goals
        intros
        pointwise
      · exact tap m c t 0 _ _ ‹_›
      · exact tap m c t 1 _ _ ‹_›
      · exact tap m c t 2 _ _ ‹_›
    · have hp := scratch m c (t.val - 1) (by omega)
      rw [show (t.val - 1) / 22 = t.val / 22 by omega] at hp
      rw [outsAt0_B m c t h0 (by omega) h2]; frame_out
      rw [(idx t).2.2.2.2.2.2.2.2]
      refine core512 _ _ _ _ _ _ _ _ _ _ _ _ (t.val / 22) (t.val % 22) (by omega) (fun j i e f => (congrFun (Memref.IsWhole.read_unread _ _) j).trans (hp j i e f)) (rows m c t) (weightA m c t) (weightU m c t) ?_ ?_ ?_ (bias m c t) y i e0 e1 (by omega)
      all_goals
        intros
        pointwise
      · exact tap m c t 0 _ _ ‹_›
      · exact tap m c t 1 _ _ ‹_›
      · exact tap m c t 2 _ _ ‹_›

/-- The result array after the run. -/
theorem final0 (c : Dev nD) : (dats m 0 c).arrAt 7 cfg0.N
    = ref0 (m ((c : Thread nD τ).loc main_arg0)) (m ((c : Thread nD τ).loc main_arg1)) (m ((c : Thread nD τ).loc main_arg2))
      (m ((c : Thread nD τ).loc main_arg3)) := by
  refine (dats m 0 c).arrAt_eq_of_covers 7 _ (by decide +kernel) fun t _ y => ?_
  blk_simp
  rw [after0_7]
  refine point0 m c t y _ ?_ ?_
  all_goals blk_simp [idx t]

variable (ρ : Dev nD → PrngReg)

/-- The run with its result array named. -/
theorem run_blocks : θ_run defs (onTc (τ := τ) (main (F := Ideal))) ⟨m, fun _ => 0, ρ⟩ fun r => ∀ c : Dev nD,
    r.2.mem ((c : Thread nD τ).loc main_v7) = (dats m 0 c).arrAt 7 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun r h c => ⟨(h c).1 7,
    ((h c).1 2).trans (((dats m 0 c).arrAt_in 2 rfl _).trans ((A_eq m c 2).trans (V_main_arg0 m c))),
    ((h c).1 4).trans (((dats m 0 c).arrAt_in 4 rfl _).trans ((A_eq m c 4).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩) (run_main m ρ)

/-- The kernel's run and the reference's run, of arguments that agree, end with the same results. -/
theorem algebraic : Cert.algebraic_FfnInIdeal_FfnInRefIdeal := by
  intro m ρ m' ρ' _ hag
  refine ⟨fun c => ref0 (m ((c.tc : Thread nD τ).loc main_arg0)) (m ((c.tc : Thread nD τ).loc main_arg1)) (m ((c.tc : Thread nD τ).loc main_arg2)) (m ((c.tc : Thread nD τ).loc main_arg3)), ?_, ?_⟩
  · exact (θ_run Cert.FfnInIdeal.defs _ _).mono (fun _ h c => ⟨(h c).1.trans (final0 m c), ((h c)).2⟩) (Cert.FfnInIdeal.Proved.run_blocks m ρ)
  · refine (θ_run Cert.FfnInRefIdeal.defs _ _).mono (fun _ h c => ⟨(h c).1.trans ?_, ((h c)).2⟩) (Cert.FfnInRefIdeal.Value.run m' ρ')
    · show ref0 (m' ((c.tc : Thread Cert.FfnInRefIdeal.nD Cert.FfnInRefIdeal.τ).loc Cert.FfnInRefIdeal.main_arg0)) (m' ((c.tc : Thread Cert.FfnInRefIdeal.nD Cert.FfnInRefIdeal.τ).loc Cert.FfnInRefIdeal.main_arg1)) (m' ((c.tc : Thread Cert.FfnInRefIdeal.nD Cert.FfnInRefIdeal.τ).loc Cert.FfnInRefIdeal.main_arg2)) (m' ((c.tc : Thread Cert.FfnInRefIdeal.nD Cert.FfnInRefIdeal.τ).loc Cert.FfnInRefIdeal.main_arg3)) = _
      rw [(hag c).1, (hag c).2.1, (hag c).2.2.1, (hag c).2.2.2]

end Cert.FfnInIdeal.Proved
-- ==== Proof.FfnOutValue.lean ====
module

public import proofs.«01_k».proof.Proof.Gen.FfnOutIdeal.Value
public import proofs.«01_k».proof.Proof.Gen.FfnOutRefIdeal.Run
public import proofs.«01_k».proof.Defs
public import Idealize.ShloMosaic.Lib.Pipeline.ValueKit
public import Idealize.ShloMosaic.Lib.Pipeline.Covers
public import Idealize.ShloMosaic.Lib.Claim

@[expose] public section

set_option maxRecDepth 16384
noncomputable section
open Idealize.ShloMosaic Idealize.ShloMosaic.TcCoe Idealize.SL.Sem
open Idealize.ShloMosaic.Pipeline (Dat)

namespace Cert.FfnOutRefIdeal.Result
open Cert.FfnOutRefIdeal Cert.FfnOutRefIdeal.Gen

/-- The reference's result 0, as one term over the argument arrays. -/
abbrev ref0 (x0 : FVec Ideal S16384x11264 .bf16) (x1 : FVec Ideal S2x11264x4096 .bf16) : FVec Ideal S16384x4096 .f32 :=
  Host.dotGeneral dot_S16384x11008_S11008x4096_S16384x4096_1_0_0_1_n_n none (extf .f32 (extractStridedSlice S16384x11008 ![0, 0] x0 slices_S16384x11264_S16384x11008_0_0) bitsLt_bf16_f32) (extf .f32 (shapeCast _ (extractStridedSlice S1x11008x4096 ![0, 0, 0] x1 slices_S2x11264x4096_S1x11008x4096_0_0_0) shapeCasts_S1x11008x4096_S11008x4096) bitsLt_bf16_f32)

end Cert.FfnOutRefIdeal.Result

namespace Cert.FfnOutIdeal.Proved
open Cert.FfnOutIdeal Cert.FfnOutIdeal.Gen Cert.FfnOutRefIdeal.Result
variable (m : (ℓ : Loc nD τ sig) → Buf (Elt Ideal) ℓ)

/-- Where each window's block begins: point `t` is row block `t / 11` and block `t % 11` of the summed coordinate. -/
theorem idx : ∀ t : Fin cfg0.N, win0_0.index t = ![t.val / 11, t.val % 11] ∧ win0_1.index t = ![0, t.val % 11, 0]
    ∧ win0_2.index t = ![t.val / 11, 0] :=
  (by decide +kernel : ∀ t : Fin grid0.N, _)

/-- The zero fill. -/
theorem fill (j : S1024x4096.Idx) : k0_pay1 (F := Ideal) j = 0 := by
  pointwise [k0_pay1]

/-- What an unmasked point adds. -/
theorem add (acc : Vec Ideal S1024x4096 .f32) (g : Vec Ideal S1024x1024 .bf16) (w : Vec Ideal S1x1024x4096 .bf16) (j : S1024x4096.Idx) :
    k0_pay2 acc g w j = acc j + ∑ k : Fin 1024, g (ix2 (j 0) k) * w (ix3 0 k (j 1)) := by
  pointwise [k0_pay2]

/-- What the last point of a run adds: only the columns below the true width. -/
theorem addLast (acc : Vec Ideal S1024x4096 .f32) (g : Vec Ideal S1024x768 .bf16) (w : Vec Ideal S1x768x4096 .bf16) (j : S1024x4096.Idx) :
    k0_pay3 acc g w j = acc j + ∑ k : Fin 768, g (ix2 (j 0) k) * w (ix3 0 k (j 1)) := by
  pointwise [k0_pay3]

/-- A sum over the true width, block by block: ten whole blocks and the part of the last one. -/
theorem blocks (f : Fin 11008 → EReal) : ∑ k, f k = ∑ s : Fin 11, if h : s.val = 10 then ∑ k : Fin 768, f ⟨10240 + k.val, by omega⟩
    else ∑ k : Fin 1024, f ⟨s.val * 1024 + k.val, by omega⟩ := by
  conv_rhs => rw [Fin.sum_univ_castSucc]
  rw [dif_pos (by rfl)]
  rw [show (∑ k, f k) = ∑ k : Fin 10240, f ⟨k.val, by omega⟩ + ∑ k : Fin 768, f ⟨10240 + k.val, by omega⟩ from
    Fin.sum_univ_add (a := 10240) (b := 768) f]
  refine congrArg (· + _) (Eq.symm ?_)
  rw [← Fin.sum_mul_add_fin 10 1024 (fun k : Fin 10240 => f ⟨k.val, by omega⟩)]
  refine Fin.sum_fin_congr fun s => ?_
  rw [dif_neg (by rw [Fin.val_castSucc]; omega)]
  rfl

/-- What a point adds to its block. -/
noncomputable def part (c : Dev nD) (t : Fin cfg0.N) (j : S1024x4096.Idx) : EReal :=
  if t.val % 11 = 10 then ∑ k : Fin 768, (show FVec Ideal S1024x1024 .bf16 from iblk m c 0 t) (ix2 (j 0) ⟨k.val, by omega⟩)
      * (show FVec Ideal S1x1024x4096 .bf16 from iblk m c 1 t) (ix3 0 ⟨k.val, by omega⟩ (j 1))
  else ∑ k : Fin 1024, (show FVec Ideal S1024x1024 .bf16 from iblk m c 0 t) (ix2 (j 0) k)
      * (show FVec Ideal S1x1024x4096 .bf16 from iblk m c 1 t) (ix3 0 k (j 1))

/-- The reference at an index. -/
theorem refAt (x0 : Vec Ideal S16384x11264 .bf16) (x1 : Vec Ideal S2x11264x4096 .bf16) (j : S16384x4096.Idx) :
    ref0 x0 x1 j = ∑ k : Fin 11008, x0 (ix2 (j 0) ⟨k.val, by omega⟩) * x1 (ix3 0 ⟨k.val, by omega⟩ (j 1)) := by
  pointwise [ref0]

set_option maxHeartbeats 1600000 in
/-- The result array after the run. -/
theorem final0 (c : Dev nD) : (dats m 0 c).arrAt 2 cfg0.N
    = ref0 (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 11 (fun _ => 0) (part m c)
    (fun t h j => by
      rw [outsAt0_A m c t h (by omega) (by omega)]; frame_out
      rw [add, fill, part, if_neg (by omega)])
    (fun t h j => by
      by_cases h2 : t.val % 11 = 10
      · rw [outsAt0_C m c t h (by omega) h2]; frame_out
        rw [addLast, part, if_pos h2]
        pointwise
      · rw [outsAt0_B m c t h (by omega) h2]; frame_out
        rw [add, part, if_neg h2])
    t ((flush0_2 t).mp hf) _, zero_add, refAt, blocks]
  refine Fin.sum_fin_congr fun s => ?_
  have hs : (11 * (t.val / 11) + s.val) % 11 = s.val := by omega
  have ht := idx ⟨_, Pipeline.run_point_lt_of_flush t ((flush0_2 t).mp hf) s⟩
  rw [part]
  split_ifs with h1 h2 h2
  · refine Fin.sum_fin_congr fun k => congrArg₂ (· * ·) ?_ ?_
    · blk_simp [iblk]
      rw [V_main_arg0]
      blk_ext [idx t, ht]
    · blk_simp [iblk]
      rw [V_main_arg1]
      blk_ext [idx t, ht]
  · exact absurd (hs.symm.trans h1) h2
  · exact absurd (hs.trans h2) h1
  · refine Fin.sum_fin_congr fun k => congrArg₂ (· * ·) ?_ ?_
    · blk_simp [iblk]
      rw [V_main_arg0]
      blk_ext [idx t, ht]
    · blk_simp [iblk]
      rw [V_main_arg1]
      blk_ext [idx t, ht]

/-- The kernel's run and the reference's run, of arguments that agree, end with the same results. -/
theorem algebraic : Cert.algebraic_FfnOutIdeal_FfnOutRefIdeal := by
  intro m ρ m' ρ' _ hag
  refine ⟨fun c => ref0 (m ((c.tc : Thread nD τ).loc main_arg0)) (m ((c.tc : Thread nD τ).loc main_arg1)), ?_, ?_⟩
  · exact (θ_run Cert.FfnOutIdeal.defs _ _).mono (fun _ h c => ⟨(h c).1.trans (final0 m c), ((h c)).2⟩) (Cert.FfnOutIdeal.Value.run_blocks m ρ)
  · refine (θ_run Cert.FfnOutRefIdeal.defs _ _).mono (fun _ h c => ⟨(h c).1.trans ?_, ((h c)).2⟩) (Cert.FfnOutRefIdeal.Value.run m' ρ')
    · show ref0 (m' ((c.tc : Thread Cert.FfnOutRefIdeal.nD Cert.FfnOutRefIdeal.τ).loc Cert.FfnOutRefIdeal.main_arg0)) (m' ((c.tc : Thread Cert.FfnOutRefIdeal.nD Cert.FfnOutRefIdeal.τ).loc Cert.FfnOutRefIdeal.main_arg1)) = _
      rw [(hag c).1, (hag c).2]

end Cert.FfnOutIdeal.Proved
-- ==== Proof.LnbValue.lean ====
module

public import proofs.«01_k».proof.Proof.Gen.LnbIdeal.Value
public import proofs.«01_k».proof.Proof.Gen.LnbRefIdeal.Run
public import proofs.«01_k».proof.Defs
public import Idealize.ShloMosaic.Lib.Pipeline.ValueKit
public import Idealize.ShloMosaic.Lib.Pipeline.Covers
public import Idealize.ShloMosaic.Lib.Claim

@[expose] public section

set_option maxRecDepth 16384
noncomputable section
open Idealize.ShloMosaic Idealize.ShloMosaic.TcCoe Idealize.SL.Sem
open Idealize.ShloMosaic.Pipeline (Dat)

namespace Cert.LnbRefIdeal.Result
open Cert.LnbRefIdeal Cert.LnbRefIdeal.Gen

/-- The reference's result 0, as one term over the argument arrays. -/
abbrev ref0 (x0 : FVec Ideal S16384x4096 .f32) (x1 : FVec Ideal S16384x4096 .f32) (x2 : FVec Ideal S2x4096 .f32) (x3 : FVec Ideal S2x4096 .f32) (x4 : FVec Ideal S2x4096 .f32) (x5 : FVec Ideal S2x4096 .f32) : FVec Ideal S16384x4096 .f32 :=
  addf (mulf (mulf (subf (addf (mulf (broadcastInDim S16384x4096 ![] bcast_S_S16384x4096 (constant S_ .f32 0x3FB504F3#32)) (addf (mulf (mulf (subf x0 (broadcastInDim S16384x4096 ![0, 1] bcast_S16384x1_S16384x4096_0_1 (Host.divf (broadcastInDim S16384x1 ![0] bcast_S16384_S16384x1_0 (Host.reduceAdd x0 (constant S_ .f32 0x00000000#32) reducesTo_S16384x4096_S16384_d1 h_S_)) (broadcastInDim S16384x1 ![] bcast_S_S16384x1 (constant S_ .f32 0x45800000#32))))) (broadcastInDim S16384x4096 ![0, 1] bcast_S16384x1_S16384x4096_0_1 (Host.rsqrt (addf (Host.divf (broadcastInDim S16384x1 ![0] bcast_S16384_S16384x1_0 (Host.reduceAdd (mulf (subf x0 (broadcastInDim S16384x4096 ![0, 1] bcast_S16384x1_S16384x4096_0_1 (Host.divf (broadcastInDim S16384x1 ![0] bcast_S16384_S16384x1_0 (Host.reduceAdd x0 (constant S_ .f32 0x00000000#32) reducesTo_S16384x4096_S16384_d1 h_S_)) (broadcastInDim S16384x1 ![] bcast_S_S16384x1 (constant S_ .f32 0x45800000#32))))) (subf x0 (broadcastInDim S16384x4096 ![0, 1] bcast_S16384x1_S16384x4096_0_1 (Host.divf (broadcastInDim S16384x1 ![0] bcast_S16384_S16384x1_0 (Host.reduceAdd x0 (constant S_ .f32 0x00000000#32) reducesTo_S16384x4096_S16384_d1 h_S_)) (broadcastInDim S16384x1 ![] bcast_S_S16384x1 (constant S_ .f32 0x45800000#32)))))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 (shapeCast _ (extractStridedSlice S1x4096 ![1, 0] x2 slices_S2x4096_S1x4096_1_0) shapeCasts_S1x4096_S4096)))) (broadcastInDim S16384x4096 ![0, 1] bcast_S1x4096_S16384x4096_0_1 (broadcastInDim S1x4096 ![1] bcast_S4096_S1x4096_1 (shapeCast _ (extractStridedSlice S1x4096 ![1, 0] x3 slices_S2x4096_S1x4096_1_0) shapeCasts_S1x4096_S4096))))) x1) (broadcastInDim S16384x4096 ![0, 1] bcast_S16384x1_S16384x4096_0_1 (Host.divf (broadcastInDim S16384x1 ![0] bcast_S16384_S16384x1_0 (Host.reduceAdd (addf (mulf (broadcastInDim S16384x4096 ![] bcast_S_S16384x4096 (constant S_ .f32 0x3FB504F3#32)) (addf (mulf (mulf (subf x0 (broadcastInDim S16384x4096 ![0, 1] bcast_S16384x1_S16384x4096_0_1 (Host.divf (broadcastInDim S16384x1 ![0] bcast_S16384_S16384x1_0 (Host.reduceAdd x0 (constant S_ .f32 0x00000000#32) reducesTo_S16384x4096_S16384_d1 h_S_)) (broadcastInDim S16384x1 ![] bcast_S_S16384x1 (constant S_ .f32 0x45800000#32))))) (broadcastInDim S16384x4096 ![0, 1] bcast_S16384x1_S16384x4096_0_1 (Host.rsqrt (addf (Host.divf (broadcastInDim S16384x1 ![0] bcast_S16384_S16384x1_0 (Host.reduceAdd (mulf (subf x0 (broadcastInDim S16384x4096 ![0, 1] bcast_S16384x1_S16384x4096_0_1 (Host.divf (broadcastInDim S16384x1 ![0] bcast_S16384_S16384x1_0 (Host.reduceAdd x0 (constant S_ .f32 0x00000000#32) reducesTo_S16384x4096_S16384_d1 h_S_)) (broadcastInDim S16384x1 ![] bcast_S_S16384x1 (constant S_ .f32 0x45800000#32))))) (subf x0 (broadcastInDim S16384x4096 ![0, 1] bcast_S16384x1_S16384x4096_0_1 (Host.divf (broadcastInDim S16384x1 ![0] bcast_S16384_S16384x1_0 (Host.reduceAdd x0 (constant S_ .f32 0x00000000#32) reducesTo_S16384x4096_S16384_d1 h_S_)) (broadcastInDim S16384x1 ![] bcast_S_S16384x1 (constant S_ .f32 0x45800000#32)))))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 (shapeCast _ (extractStridedSlice S1x4096 ![1, 0] x2 slices_S2x4096_S1x4096_1_0) shapeCasts_S1x4096_S4096)))) (broadcastInDim S16384x4096 ![0, 1] bcast_S1x4096_S16384x4096_0_1 (broadcastInDim S1x4096 ![1] bcast_S4096_S1x4096_1 (shapeCast _ (extractStridedSlice S1x4096 ![1, 0] x3 slices_S2x4096_S1x4096_1_0) shapeCasts_S1x4096_S4096))))) x1) (constant S_ .f32 0x00000000#32) reducesTo_S16384x4096_S16384_d1 h_S_)) (broadcastInDim S16384x1 ![] bcast_S_S16384x1 (constant S_ .f32 0x45800000#32))))) (broadcastInDim S16384x4096 ![0, 1] bcast_S16384x1_S16384x4096_0_1 (Host.rsqrt (addf (Host.divf (broadcastInDim S16384x1 ![0] bcast_S16384_S16384x1_0 (Host.reduceAdd (mulf (subf (addf (mulf (broadcastInDim S16384x4096 ![] bcast_S_S16384x4096 (constant S_ .f32 0x3FB504F3#32)) (addf (mulf (mulf (subf x0 (broadcastInDim S16384x4096 ![0, 1] bcast_S16384x1_S16384x4096_0_1 (Host.divf (broadcastInDim S16384x1 ![0] bcast_S16384_S16384x1_0 (Host.reduceAdd x0 (constant S_ .f32 0x00000000#32) reducesTo_S16384x4096_S16384_d1 h_S_)) (broadcastInDim S16384x1 ![] bcast_S_S16384x1 (constant S_ .f32 0x45800000#32))))) (broadcastInDim S16384x4096 ![0, 1] bcast_S16384x1_S16384x4096_0_1 (Host.rsqrt (addf (Host.divf (broadcastInDim S16384x1 ![0] bcast_S16384_S16384x1_0 (Host.reduceAdd (mulf (subf x0 (broadcastInDim S16384x4096 ![0, 1] bcast_S16384x1_S16384x4096_0_1 (Host.divf (broadcastInDim S16384x1 ![0] bcast_S16384_S16384x1_0 (Host.reduceAdd x0 (constant S_ .f32 0x00000000#32) reducesTo_S16384x4096_S16384_d1 h_S_)) (broadcastInDim S16384x1 ![] bcast_S_S16384x1 (constant S_ .f32 0x45800000#32))))) (subf x0 (broadcastInDim S16384x4096 ![0, 1] bcast_S16384x1_S16384x4096_0_1 (Host.divf (broadcastInDim S16384x1 ![0] bcast_S16384_S16384x1_0 (Host.reduceAdd x0 (constant S_ .f32 0x00000000#32) reducesTo_S16384x4096_S16384_d1 h_S_)) (broadcastInDim S16384x1 ![] bcast_S_S16384x1 (constant S_ .f32 0x45800000#32)))))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 (shapeCast _ (extractStridedSlice S1x4096 ![1, 0] x2 slices_S2x4096_S1x4096_1_0) shapeCasts_S1x4096_S4096)))) (broadcastInDim S16384x4096 ![0, 1] bcast_S1x4096_S16384x4096_0_1 (broadcastInDim S1x4096 ![1] bcast_S4096_S1x4096_1 (shapeCast _ (extractStridedSlice S1x4096 ![1, 0] x3 slices_S2x4096_S1x4096_1_0) shapeCasts_S1x4096_S4096))))) x1) (broadcastInDim S16384x4096 ![0, 1] bcast_S16384x1_S16384x4096_0_1 (Host.divf (broadcastInDim S16384x1 ![0] bcast_S16384_S16384x1_0 (Host.reduceAdd (addf (mulf (broadcastInDim S16384x4096 ![] bcast_S_S16384x4096 (constant S_ .f32 0x3FB504F3#32)) (addf (mulf (mulf (subf x0 (broadcastInDim S16384x4096 ![0, 1] bcast_S16384x1_S16384x4096_0_1 (Host.divf (broadcastInDim S16384x1 ![0] bcast_S16384_S16384x1_0 (Host.reduceAdd x0 (constant S_ .f32 0x00000000#32) reducesTo_S16384x4096_S16384_d1 h_S_)) (broadcastInDim S16384x1 ![] bcast_S_S16384x1 (constant S_ .f32 0x45800000#32))))) (broadcastInDim S16384x4096 ![0, 1] bcast_S16384x1_S16384x4096_0_1 (Host.rsqrt (addf (Host.divf (broadcastInDim S16384x1 ![0] bcast_S16384_S16384x1_0 (Host.reduceAdd (mulf (subf x0 (broadcastInDim S16384x4096 ![0, 1] bcast_S16384x1_S16384x4096_0_1 (Host.divf (broadcastInDim S16384x1 ![0] bcast_S16384_S16384x1_0 (Host.reduceAdd x0 (constant S_ .f32 0x00000000#32) reducesTo_S16384x4096_S16384_d1 h_S_)) (broadcastInDim S16384x1 ![] bcast_S_S16384x1 (constant S_ .f32 0x45800000#32))))) (subf x0 (broadcastInDim S16384x4096 ![0, 1] bcast_S16384x1_S16384x4096_0_1 (Host.divf (broadcastInDim S16384x1 ![0] bcast_S16384_S16384x1_0 (Host.reduceAdd x0 (constant S_ .f32 0x00000000#32) reducesTo_S16384x4096_S16384_d1 h_S_)) (broadcastInDim S16384x1 ![] bcast_S_S16384x1 (constant S_ .f32 0x45800000#32)))))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 (shapeCast _ (extractStridedSlice S1x4096 ![1, 0] x2 slices_S2x4096_S1x4096_1_0) shapeCasts_S1x4096_S4096)))) (broadcastInDim S16384x4096 ![0, 1] bcast_S1x4096_S16384x4096_0_1 (broadcastInDim S1x4096 ![1] bcast_S4096_S1x4096_1 (shapeCast _ (extractStridedSlice S1x4096 ![1, 0] x3 slices_S2x4096_S1x4096_1_0) shapeCasts_S1x4096_S4096))))) x1) (constant S_ .f32 0x00000000#32) reducesTo_S16384x4096_S16384_d1 h_S_)) (broadcastInDim S16384x1 ![] bcast_S_S16384x1 (constant S_ .f32 0x45800000#32))))) (subf (addf (mulf (broadcastInDim S16384x4096 ![] bcast_S_S16384x4096 (constant S_ .f32 0x3FB504F3#32)) (addf (mulf (mulf (subf x0 (broadcastInDim S16384x4096 ![0, 1] bcast_S16384x1_S16384x4096_0_1 (Host.divf (broadcastInDim S16384x1 ![0] bcast_S16384_S16384x1_0 (Host.reduceAdd x0 (constant S_ .f32 0x00000000#32) reducesTo_S16384x4096_S16384_d1 h_S_)) (broadcastInDim S16384x1 ![] bcast_S_S16384x1 (constant S_ .f32 0x45800000#32))))) (broadcastInDim S16384x4096 ![0, 1] bcast_S16384x1_S16384x4096_0_1 (Host.rsqrt (addf (Host.divf (broadcastInDim S16384x1 ![0] bcast_S16384_S16384x1_0 (Host.reduceAdd (mulf (subf x0 (broadcastInDim S16384x4096 ![0, 1] bcast_S16384x1_S16384x4096_0_1 (Host.divf (broadcastInDim S16384x1 ![0] bcast_S16384_S16384x1_0 (Host.reduceAdd x0 (constant S_ .f32 0x00000000#32) reducesTo_S16384x4096_S16384_d1 h_S_)) (broadcastInDim S16384x1 ![] bcast_S_S16384x1 (constant S_ .f32 0x45800000#32))))) (subf x0 (broadcastInDim S16384x4096 ![0, 1] bcast_S16384x1_S16384x4096_0_1 (Host.divf (broadcastInDim S16384x1 ![0] bcast_S16384_S16384x1_0 (Host.reduceAdd x0 (constant S_ .f32 0x00000000#32) reducesTo_S16384x4096_S16384_d1 h_S_)) (broadcastInDim S16384x1 ![] bcast_S_S16384x1 (constant S_ .f32 0x45800000#32)))))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 (shapeCast _ (extractStridedSlice S1x4096 ![1, 0] x2 slices_S2x4096_S1x4096_1_0) shapeCasts_S1x4096_S4096)))) (broadcastInDim S16384x4096 ![0, 1] bcast_S1x4096_S16384x4096_0_1 (broadcastInDim S1x4096 ![1] bcast_S4096_S1x4096_1 (shapeCast _ (extractStridedSlice S1x4096 ![1, 0] x3 slices_S2x4096_S1x4096_1_0) shapeCasts_S1x4096_S4096))))) x1) (broadcastInDim S16384x4096 ![0, 1] bcast_S16384x1_S16384x4096_0_1 (Host.divf (broadcastInDim S16384x1 ![0] bcast_S16384_S16384x1_0 (Host.reduceAdd (addf (mulf (broadcastInDim S16384x4096 ![] bcast_S_S16384x4096 (constant S_ .f32 0x3FB504F3#32)) (addf (mulf (mulf (subf x0 (broadcastInDim S16384x4096 ![0, 1] bcast_S16384x1_S16384x4096_0_1 (Host.divf (broadcastInDim S16384x1 ![0] bcast_S16384_S16384x1_0 (Host.reduceAdd x0 (constant S_ .f32 0x00000000#32) reducesTo_S16384x4096_S16384_d1 h_S_)) (broadcastInDim S16384x1 ![] bcast_S_S16384x1 (constant S_ .f32 0x45800000#32))))) (broadcastInDim S16384x4096 ![0, 1] bcast_S16384x1_S16384x4096_0_1 (Host.rsqrt (addf (Host.divf (broadcastInDim S16384x1 ![0] bcast_S16384_S16384x1_0 (Host.reduceAdd (mulf (subf x0 (broadcastInDim S16384x4096 ![0, 1] bcast_S16384x1_S16384x4096_0_1 (Host.divf (broadcastInDim S16384x1 ![0] bcast_S16384_S16384x1_0 (Host.reduceAdd x0 (constant S_ .f32 0x00000000#32) reducesTo_S16384x4096_S16384_d1 h_S_)) (broadcastInDim S16384x1 ![] bcast_S_S16384x1 (constant S_ .f32 0x45800000#32))))) (subf x0 (broadcastInDim S16384x4096 ![0, 1] bcast_S16384x1_S16384x4096_0_1 (Host.divf (broadcastInDim S16384x1 ![0] bcast_S16384_S16384x1_0 (Host.reduceAdd x0 (constant S_ .f32 0x00000000#32) reducesTo_S16384x4096_S16384_d1 h_S_)) (broadcastInDim S16384x1 ![] bcast_S_S16384x1 (constant S_ .f32 0x45800000#32)))))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 (shapeCast _ (extractStridedSlice S1x4096 ![1, 0] x2 slices_S2x4096_S1x4096_1_0) shapeCasts_S1x4096_S4096)))) (broadcastInDim S16384x4096 ![0, 1] bcast_S1x4096_S16384x4096_0_1 (broadcastInDim S1x4096 ![1] bcast_S4096_S1x4096_1 (shapeCast _ (extractStridedSlice S1x4096 ![1, 0] x3 slices_S2x4096_S1x4096_1_0) shapeCasts_S1x4096_S4096))))) x1) (constant S_ .f32 0x00000000#32) reducesTo_S16384x4096_S16384_d1 h_S_)) (broadcastInDim S16384x1 ![] bcast_S_S16384x1 (constant S_ .f32 0x45800000#32)))))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 (shapeCast _ (extractStridedSlice S1x4096 ![1, 0] x4 slices_S2x4096_S1x4096_1_0) shapeCasts_S1x4096_S4096)))) (broadcastInDim S16384x4096 ![0, 1] bcast_S1x4096_S16384x4096_0_1 (broadcastInDim S1x4096 ![1] bcast_S4096_S1x4096_1 (shapeCast _ (extractStridedSlice S1x4096 ![1, 0] x5 slices_S2x4096_S1x4096_1_0) shapeCasts_S1x4096_S4096)))

end Cert.LnbRefIdeal.Result

namespace Cert.LnbIdeal.Proved
open Cert.LnbIdeal Cert.LnbIdeal.Gen Cert.LnbRefIdeal.Result
variable (m : (ℓ : Loc nD τ sig) → Buf (Elt Ideal) ℓ)

/-- Where each window's block begins: point `t` is row block `t`; the scales and the shifts are whole. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- An entry of the block of the layer's input. -/
theorem entryX (c : Dev nD) (t : Fin cfg0.N) (y : S256x4096.Idx) : iblk m c 0 t y
    = m ((c : Thread nD τ).loc main_arg0) (((cfg0.win 6).blk t).view.emb y) := by
  blk_simp [iblk]
  rw [V_main_arg0]
  blk_ext [idx t]

/-- An entry of the block of the layer's input, in the row that an index of the result lies in. -/
theorem rowX (c : Dev nD) (t : Fin cfg0.N) (y : S256x4096.Idx) (k : Fin 4096) : iblk m c 0 t (ix2 (y 0) k)
    = m ((c : Thread nD τ).loc main_arg0) (ix2 ((((cfg0.win 6).blk t).view.emb y) 0) k) := by
  blk_simp [iblk]
  rw [V_main_arg0]
  blk_ext [idx t]

/-- An entry of the block of the feed-forward output. -/
theorem entryF (c : Dev nD) (t : Fin cfg0.N) (y : S256x4096.Idx) : iblk m c 1 t y
    = m ((c : Thread nD τ).loc main_arg1) (((cfg0.win 6).blk t).view.emb y) := by
  blk_simp [iblk]
  rw [V_main_arg1]
  blk_ext [idx t]

/-- An entry of the block of the feed-forward output, in the row that an index of the result lies in. -/
theorem rowF (c : Dev nD) (t : Fin cfg0.N) (y : S256x4096.Idx) (k : Fin 4096) : iblk m c 1 t (ix2 (y 0) k)
    = m ((c : Thread nD τ).loc main_arg1) (ix2 ((((cfg0.win 6).blk t).view.emb y) 0) k) := by
  blk_simp [iblk]
  rw [V_main_arg1]
  blk_ext [idx t]

/-- An entry of the first scale. -/
theorem scale1 (c : Dev nD) (t : Fin cfg0.N) (k : Fin 4096) : iblk m c 2 t (ix2 0 k)
    = m ((c : Thread nD τ).loc main_arg2) (ix2 1 k) := by
  blk_simp [iblk]
  entry_read
  pointwise
  blk_ext [idx t]

/-- An entry of the first shift. -/
theorem shift1 (c : Dev nD) (t : Fin cfg0.N) (k : Fin 4096) : iblk m c 3 t (ix2 0 k)
    = m ((c : Thread nD τ).loc main_arg3) (ix2 1 k) := by
  blk_simp [iblk]
  entry_read
  pointwise
  blk_ext [idx t]

/-- An entry of the second scale. -/
theorem scale2 (c : Dev nD) (t : Fin cfg0.N) (y : S256x4096.Idx) : iblk m c 4 t (ix2 0 (y 1))
    = m ((c : Thread nD τ).loc main_arg4) (ix2 1 ((((cfg0.win 6).blk t).view.emb y) 1)) := by
  blk_simp [iblk]
  entry_read
  pointwise
  blk_ext [idx t]

/-- An entry of the second shift. -/
theorem shift2 (c : Dev nD) (t : Fin cfg0.N) (y : S256x4096.Idx) : iblk m c 5 t (ix2 0 (y 1))
    = m ((c : Thread nD τ).loc main_arg5) (ix2 1 ((((cfg0.win 6).blk t).view.emb y) 1)) := by
  blk_simp [iblk]
  entry_read
  pointwise
  blk_ext [idx t]

/-- An entry of the first scale, at the result's own column. -/
theorem scale1At (c : Dev nD) (t : Fin cfg0.N) (y : S256x4096.Idx) : iblk m c 2 t (ix2 0 (y 1))
    = m ((c : Thread nD τ).loc main_arg2) (ix2 1 ((((cfg0.win 6).blk t).view.emb y) 1)) := by
  refine (scale1 m c t (y 1)).trans ?_
  blk_ext [idx t]

/-- An entry of the first shift, at the result's own column. -/
theorem shift1At (c : Dev nD) (t : Fin cfg0.N) (y : S256x4096.Idx) : iblk m c 3 t (ix2 0 (y 1))
    = m ((c : Thread nD τ).loc main_arg3) (ix2 1 ((((cfg0.win 6).blk t).view.emb y) 1)) := by
  refine (shift1 m c t (y 1)).trans ?_
  blk_ext [idx t]

set_option maxHeartbeats 1600000 in
/-- The result array after the run. -/
theorem final0 (c : Dev nD) : (dats m 0 c).arrAt 6 cfg0.N
    = ref0 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  pointwise [k0_pay1, k0_pay2, k0_pay3, ref0]
  simp only [scale1At m c t y, shift1At m c t y, entryX m c t y, rowX m c t y, entryF m c t y, rowF m c t y, scale1 m c t, shift1 m c t, scale2 m c t y, shift2 m c t y]

/-- The kernel's run and the reference's run, of arguments that agree, end with the same results. -/
theorem algebraic : Cert.algebraic_LnbIdeal_LnbRefIdeal := by
  intro m ρ m' ρ' _ hag
  refine ⟨fun c => ref0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)), ?_, ?_⟩
  · exact (θ_run Cert.LnbIdeal.defs _ _).mono (fun _ h c => ⟨(h c).1.trans (final0 m c), ((h c)).2⟩) (Cert.LnbIdeal.Value.run_blocks m ρ)
  · refine (θ_run Cert.LnbRefIdeal.defs _ _).mono (fun _ h c => ⟨(h c).1.trans ?_, ((h c)).2⟩) (Cert.LnbRefIdeal.Value.run m' ρ')
    · show ref0 (m' ((c.tc : Thread Cert.LnbRefIdeal.nD Cert.LnbRefIdeal.τ).loc Cert.LnbRefIdeal.main_arg0)) (m' ((c.tc : Thread Cert.LnbRefIdeal.nD Cert.LnbRefIdeal.τ).loc Cert.LnbRefIdeal.main_arg1)) (m' ((c.tc : Thread Cert.LnbRefIdeal.nD Cert.LnbRefIdeal.τ).loc Cert.LnbRefIdeal.main_arg2)) (m' ((c.tc : Thread Cert.LnbRefIdeal.nD Cert.LnbRefIdeal.τ).loc Cert.LnbRefIdeal.main_arg3)) (m' ((c.tc : Thread Cert.LnbRefIdeal.nD Cert.LnbRefIdeal.τ).loc Cert.LnbRefIdeal.main_arg4)) (m' ((c.tc : Thread Cert.LnbRefIdeal.nD Cert.LnbRefIdeal.τ).loc Cert.LnbRefIdeal.main_arg5)) = _
      rw [(hag c).1, (hag c).2.1, (hag c).2.2.1, (hag c).2.2.2.1, (hag c).2.2.2.2.1, (hag c).2.2.2.2.2]

end Cert.LnbIdeal.Proved
-- ==== Proof.GlaSpec.lean ====
/- The gated linear attention's scan over plain functions: one chunk of 64 rows, the state carried from chunk to chunk,
   and the result that kernel and reference are both shown to compute. -/
module

public import Idealize.ShloMosaic.Lib.Pipeline.ValueKit
public import Idealize.ShloMosaic.Lib.Claim

@[expose] public section

noncomputable section
open Idealize.ShloMosaic Idealize.ShloMosaic.TcCoe Idealize.SL.Sem

/-! # Chunked gated linear attention, as both programs compute it

The sequence of one batch entry and one direction is cut in chunks of 64 rows, taken in processing order (the
second direction reads the rows from the end). A chunk is given by its gates, queries, keys and values, as
functions of the row inside the chunk and of the column. -/

namespace Cert.GlaScan

/-- The gates (log scale), queries, keys and values of one chunk, by row and column. -/
structure Chunk where
  L : ℕ → ℕ → EReal
  Q : ℕ → ℕ → EReal
  K : ℕ → ℕ → EReal
  V : ℕ → ℕ → EReal

namespace Chunk
variable (C : Chunk)

/-- The gates added up from the start of the chunk to row `i`. -/
def cum (i k : ℕ) : EReal := ∑ j : Fin 64, if (j : ℕ) ≤ i then C.L j k else 0

/-- The scaled queries, grown by the gates so far. -/
def qin (i k : ℕ) : EReal := C.Q i k * (Ideal.ofBits .f32 1031798784#32 * Ideal.exp (C.cum i k))

/-- The keys, shrunk by the gates so far. -/
def kin (i k : ℕ) : EReal := C.K i k * Ideal.exp (0 - C.cum i k)

/-- The keys, carried to the end of the chunk. -/
def kout (i k : ℕ) : EReal := C.K i k * Ideal.exp (C.cum 63 k - C.cum i k)

/-- The output of a head (first key column `o`, first value column `p`) at row `i`, from the state `S` before the chunk. -/
def out (o p : ℕ) (S : ℕ → ℕ → EReal) (i e : ℕ) : EReal :=
  (∑ j : Fin 64, if (j : ℕ) ≤ i then (∑ k : Fin 256, C.qin i (o + k) * C.kin j (o + k)) * C.V j (p + e) else 0)
    + ∑ k : Fin 256, C.qin i (o + k) * S k e

/-- The state of a head after the chunk. -/
def next (o p : ℕ) (S : ℕ → ℕ → EReal) (k e : ℕ) : EReal :=
  S k e * Ideal.exp (C.cum 63 (o + k)) + ∑ j : Fin 64, C.V j (p + e) * C.kout j (o + k)

end Chunk

/-- The state of a head before chunk `c`. -/
def state (C : ℕ → Chunk) (o p : ℕ) : ℕ → ℕ → ℕ → EReal
  | 0 => fun _ _ => 0
  | c + 1 => (C c).next o p (state C o p c)

/-- The log sigmoid of `z`, divided by 16. -/
def gate (z : EReal) : EReal :=
  (min z 0 - Ideal.log (1 + Ideal.exp (0 - FloatOps.absf (F := Ideal) (φ := .f32) z))) * Ideal.ofBits .f32 1031798784#32

/-- The row of batch entry `b` in place `s` of the processing order of direction `d`. -/
def rowOf (d b s : ℕ) : ℕ := b * 4096 + if d = 0 then s else 4095 - s

/-- A matrix read at two numbers. -/
def at2 {n k : ℕ} [NeZero n] [NeZero k] (x : Shape.Idx ⟨2, ![n, k]⟩ → EReal) (i j : ℕ) : EReal :=
  x (ix2 (Fin.ofNat n i) (Fin.ofNat k j))

/-- An entry of a matrix, at a row and a column given as numbers. -/
theorem at2_of {n k : ℕ} [NeZero n] [NeZero k] (x : Shape.Idx ⟨2, ![n, k]⟩ → EReal) (y : Shape.Idx ⟨2, ![n, k]⟩)
    (i j : ℕ) (hi : (y 0 : ℕ) = i) (hj : (y 1 : ℕ) = j) : x y = at2 x i j := by
  subst hi hj
  unfold at2
  refine congrArg x (funext fun a => Fin.ext ?_)
  match a with
  | ⟨0, _⟩ => exact (Nat.mod_eq_of_lt (y 0).isLt).symm
  | ⟨1, _⟩ => exact (Nat.mod_eq_of_lt (y 1).isLt).symm

/-- The gate of direction `d` at a row and a column: sixteen low-rank columns through the decay weights. -/
def logA (a : Shape.Idx ⟨2, ![16384, 128]⟩ → EReal) (w : Shape.Idx ⟨4, ![2, 2, 16, 1024]⟩ → EReal)
    (b : Shape.Idx ⟨3, ![2, 2, 1024]⟩ → EReal) (d row col : ℕ) : EReal :=
  gate ((∑ r : Fin 16, at2 a row (16 * d + r) * w (ix4 0 (Fin.ofNat 2 d) r (Fin.ofNat 1024 col)))
    + b (ix3 0 (Fin.ofNat 2 d) (Fin.ofNat 1024 col)))

/-- Chunk `c` of batch entry `b` in direction `d`, out of the argument arrays. -/
def chunk (hm : Shape.Idx ⟨2, ![16384, 18432]⟩ → EReal) (a : Shape.Idx ⟨2, ![16384, 128]⟩ → EReal)
    (w : Shape.Idx ⟨4, ![2, 2, 16, 1024]⟩ → EReal) (bias : Shape.Idx ⟨3, ![2, 2, 1024]⟩ → EReal) (d b c : ℕ) : Chunk where
  L i k := logA a w bias d (rowOf d b (c * 64 + i)) k
  Q i k := at2 hm (rowOf d b (c * 64 + i)) (12288 + k)
  K i k := at2 hm (rowOf d b (c * 64 + i)) (13312 + k)
  V i k := at2 hm (rowOf d b (c * 64 + i)) (14336 + k)

/-- The output of direction `d` of batch entry `b`, in place `s` of its processing order. -/
def result (hm : Shape.Idx ⟨2, ![16384, 18432]⟩ → EReal) (a : Shape.Idx ⟨2, ![16384, 128]⟩ → EReal)
    (w : Shape.Idx ⟨4, ![2, 2, 16, 1024]⟩ → EReal) (bias : Shape.Idx ⟨3, ![2, 2, 1024]⟩ → EReal) (d b s col : ℕ) : EReal :=
  (chunk hm a w bias d b (s / 64)).out (256 * (col / 512)) (512 * (col / 512))
    (state (chunk hm a w bias d b) (256 * (col / 512)) (512 * (col / 512)) (s / 64)) (s % 64) (col % 512)

end Cert.GlaScan
-- ==== Proof.GlaEntry.lean ====
/- The kernel's arguments, and what the host lines before the call leave in the padded decay weights and the bias. -/
module

public import proofs.«01_k».proof.Proof.Gen.GlaIdeal.Frame
public import proofs.«01_k».proof.Proof.GlaSpec
public import Idealize.ShloMosaic.Lib.Routing.OpsSet
public import Idealize.ShloMosaic.Lib.Routing.OpsPair

@[expose] public section

set_option maxRecDepth 16384
noncomputable section
open Idealize.ShloMosaic Idealize.ShloMosaic.TcCoe Idealize.SL.Sem
open Idealize.ShloMosaic.Pipeline (Dat)
open Cert.GlaScan

/-! # The decay weights and the bias at the call's entry

The weights of direction `d` are written into 128 rows of zeros, from row `16 * d` on. -/

namespace Cert.GlaIdeal.Proved
open Cert.GlaIdeal Cert.GlaIdeal.Gen

variable (m : (ℓ : Loc nD τ sig) → Buf (Elt Ideal) ℓ)

/-- Where an update element lands: at the index words, the second one moved by the update's row. -/
theorem lands (idx : IVec S2 32) (p q : ℕ) (hp : (idx (ix1 0)).toInt = p) (hq : (idx (ix1 1)).toInt = q) (j : S16x1024.Idx) (y : S2x128x1024.Idx) :
    scatter_S2x128x1024_S2_S16x1024_01_0_01_0.resultIdx? j idx = some y ↔ (y 0 : ℕ) = p ∧ (y 1 : ℕ) = q + j 0 ∧ (y 2 : ℕ) = j 1 := by
  have s0 : scatter_S2x128x1024_S2_S16x1024_01_0_01_0.start j idx 0 = (idx (ix1 0)).toInt := by
    unfold ScatterDims.start
    rw [dif_pos (by decide)]
    refine congrArg (fun z => (idx z).toInt) (funext fun b => ?_)
    match b with
    | ⟨0, _⟩ => rfl
  have s1 : scatter_S2x128x1024_S2_S16x1024_01_0_01_0.start j idx 1 = (idx (ix1 1)).toInt := by
    unfold ScatterDims.start
    rw [dif_pos (by decide)]
    refine congrArg (fun z => (idx z).toInt) (funext fun b => ?_)
    match b with
    | ⟨0, _⟩ => rfl
  have s2 : scatter_S2x128x1024_S2_S16x1024_01_0_01_0.start j idx 2 = 0 := by
    unfold ScatterDims.start
    rw [dif_neg (by decide)]
  have w0 : scatter_S2x128x1024_S2_S16x1024_01_0_01_0.window j 0 = 0 := rfl
  have w1 : scatter_S2x128x1024_S2_S16x1024_01_0_01_0.window j 1 = (j 0 : ℕ) := rfl
  have w2 : scatter_S2x128x1024_S2_S16x1024_01_0_01_0.window j 2 = (j 1 : ℕ) := rfl
  rw [Routing.resultIdx?_eq_some]
  constructor
  · intro h
    have h0 := h 0
    have h1 := h 1
    have h2 := h 2
    rw [s0, w0, hp] at h0
    rw [s1, w1, hq] at h1
    rw [s2, w2] at h2
    omega
  · rintro ⟨h0, h1, h2⟩ a
    match a with
    | ⟨0, _⟩ => exact (congrArg₂ (fun x (y : ℕ) => x + (y : ℤ)) (s0.trans hp) w0).trans (show (p : ℤ) + ((0 : ℕ) : ℤ) = ((y 0 : ℕ) : ℤ) by omega)
    | ⟨1, _⟩ => exact (congrArg₂ (fun x (y : ℕ) => x + (y : ℤ)) (s1.trans hq) w1).trans (show (q : ℤ) + ((j 0 : ℕ) : ℤ) = ((y 1 : ℕ) : ℤ) by omega)
    | ⟨2, _⟩ => exact (congrArg₂ (fun x (y : ℕ) => x + (y : ℤ)) s2 w2).trans (show (0 : ℤ) + ((j 1 : ℕ) : ℤ) = ((y 2 : ℕ) : ℤ) by omega)

/-- Sixteen rows written at the index words, read at an element. -/
theorem put (x : S2x128x1024.Idx → EReal) (idx : IVec S2 32) (u : S16x1024.Idx → EReal) (p q : ℕ) (hp : (idx (ix1 0)).toInt = p)
    (hq : (idx (ix1 1)).toInt = q) (d : Fin 2) (r : Fin 128) (k : Fin 1024) :
    Host.scatter scatter_S2x128x1024_S2_S16x1024_01_0_01_0 (fun _ b => b) x idx u (ix3 d r k)
      = if h : (d : ℕ) = p ∧ q ≤ r ∧ (r : ℕ) < q + 16 then u (ix2 ⟨r - q, by omega⟩ k) else x (ix3 d r k) := by
  split
  · next h =>
    refine Routing.scatter_set_hit _ _ _ _ _ _ (fun j hj => congrArg u ?_) (ix2 ⟨r - q, by omega⟩ k) ((lands idx p q hp hq _ _).2 ⟨h.1, ?_, rfl⟩)
    · obtain ⟨-, h1, h2⟩ := (lands idx p q hp hq _ _).1 hj
      have h1 : (r : ℕ) = q + j 0 := h1
      have h2 : (k : ℕ) = j 1 := h2
      funext a
      match a with
      | ⟨0, _⟩ => exact Fin.ext (show (j 0 : ℕ) = r - q by omega)
      | ⟨1, _⟩ => exact Fin.ext h2.symm
    · show (r : ℕ) = q + (r - q)
      omega
  · next h =>
    refine Routing.scatter_set_miss _ _ _ _ _ fun j hj => h ?_
    obtain ⟨h0, h1, -⟩ := (lands idx p q hp hq _ _).1 hj
    have h1 : (r : ℕ) = q + j 0 := h1
    have := (j 0).isLt
    have : (j 0 : ℕ) < 16 := this
    exact ⟨h0, by omega, by omega⟩

/-- The argument arrays. -/
abbrev X0 (c : Dev nD) : FVec Ideal S16384x18432 .bf16 := m ((c : Thread nD τ).loc main_arg0)
abbrev X1 (c : Dev nD) : FVec Ideal S16384x128 .f32 := m ((c : Thread nD τ).loc main_arg1)
abbrev X2 (c : Dev nD) : FVec Ideal S2x2x16x1024 .f32 := m ((c : Thread nD τ).loc main_arg2)
abbrev X3 (c : Dev nD) : FVec Ideal S2x2x1024 .f32 := m ((c : Thread nD τ).loc main_arg3)

/-- The weights the kernel is called with, read at an element. -/
theorem weight (c : Dev nD) (d : Fin 2) (r : Fin 128) (k : Fin 1024) :
    (show FVec Ideal S2x128x1024 .bf16 from V m c main_v13) (ix3 d r k)
      = if h : 16 * (d : ℕ) ≤ r ∧ (r : ℕ) < 16 * d + 16 then X2 m c (ix4 0 d ⟨r - 16 * d, by omega⟩ k) else 0 := by
  unfold V
  after_results
  pointwise
  rw [put _ _ _ 1 16 (by decide +kernel) (by decide +kernel), put _ _ _ 0 0 (by decide +kernel) (by decide +kernel)]
  match d with
  | 0 =>
    rw [dif_neg (by simp)]
    refine dite_congr (by simp) (fun h => rfl) (fun h => ?_)
    pointwise
  | 1 =>
    refine dite_congr (by simp) (fun h => rfl) (fun h => ?_)
    rw [dif_neg (by simp)]
    pointwise

/-- The bias the kernel is called with, read at an element. -/
theorem bias (c : Dev nD) (d : Fin 2) (k : Fin 1024) :
    (show FVec Ideal S2x1024 .f32 from V m c main_v15) (ix2 d k) = X3 m c (ix3 0 d k) := by
  unfold V
  after_results
  pointwise

end Cert.GlaIdeal.Proved
-- ==== Proof.GlaHeads.lean ====
/- What one grid point of the scan computes for each of its four heads: the masks, the cumulated log decays, the decayed
   queries and keys, the output rows and the next state, first for the forward direction and then for the backward one. -/
module

public import proofs.«01_k».proof.Proof.Gen.GlaIdeal.Frame
public import proofs.«01_k».proof.Proof.GlaSpec

@[expose] public section

set_option maxRecDepth 16384
noncomputable section
open Idealize.ShloMosaic Idealize.ShloMosaic.TcCoe Idealize.SL.Sem
open Cert.GlaScan

/-! # What the kernel's step computes on one chunk

`e` takes a row of the block the kernel loads to its place in the processing order: the identity for the first
direction, the reversal for the second one. -/

namespace Cert.GlaIdeal.Proved
open Cert.GlaIdeal Cert.GlaIdeal.Gen

variable (C : Chunk) (e : Equiv.Perm (Fin 64))

/-- The mask is set where the column comes no later than the row. -/
abbrev IsMask (v : IVec S64x64 1) : Prop :=
  ∀ i x : Fin 64, v (ix2 i x) = if (e x : ℕ) ≤ e i then 1#1 else 0#1

/-- A block of 64 rows holds `f` of the processing row and the column, the columns counted from `o`. -/
abbrev Rows {k : ℕ} (o : ℕ) (f : ℕ → ℕ → EReal) (v : Shape.Idx ⟨2, ![64, k]⟩ → EReal) : Prop :=
  ∀ (i : Fin 64) (x : Fin k), v (ix2 i x) = f (e i) (o + x)

/-- The forward mask: a row sees itself and the rows before it. -/
theorem mask_fwd : IsMask (Equiv.refl _) k0_pay3 := by
  intro i x
  pointwise [k0_pay3]
  revert i x
  decide +kernel

/-- The backward mask: a row sees itself and the rows after it. -/
theorem mask_bwd : IsMask Fin.revPerm k0_pay4 := by
  intro i x
  pointwise [k0_pay4]
  revert i x
  decide +kernel

theorem select_mask {v : IVec S64x64 1} (h : IsMask e v) (i x : Fin 64) (a : EReal) :
    Scalar.select (v (ix2 i x)) a 0 = if (e x : ℕ) ≤ e i then a else 0 := by
  rw [h]
  split <;> rfl

theorem mul_mask {v : IVec S64x64 1} (h : IsMask e v) (i x : Fin 64) (a : EReal) :
    (FloatOps.sitofp (F := Ideal) .f32 (BitVec.setWidth 32 (v (ix2 i x))) : EReal) * a = if (e x : ℕ) ≤ e i then a else 0 := by
  rw [h]
  split
  · exact (congrArg (· * a) (by simp [FloatOps.sitofp] : (FloatOps.sitofp (F := Ideal) .f32 (BitVec.setWidth 32 1#1) : EReal) = 1)).trans (one_mul a)
  · exact (congrArg (· * a) (by simp [FloatOps.sitofp] : (FloatOps.sitofp (F := Ideal) .f32 (BitVec.setWidth 32 0#1) : EReal) = 0)).trans (zero_mul a)

/-- The masked sum over the block's rows adds up the gates in processing order. -/
theorem cum_core {v : IVec S64x64 1} (h : IsMask e v) (k : ℕ) {f : Fin 64 → EReal} (hf : ∀ x, f x = C.L (e x) k) (i : Fin 64) :
    ∑ x, (FloatOps.sitofp (F := Ideal) .f32 (BitVec.setWidth 32 (v (ix2 i x))) : EReal) * f x = C.cum (e i) k :=
  (Finset.sum_congr rfl fun x _ => by rw [mul_mask e h, hf x]).trans
    (Equiv.sum_comp e (fun j : Fin 64 => if (j : ℕ) ≤ e i then C.L j k else 0))

/-- A head's output from its masked scores and the state. -/
theorem out_core {v : IVec S64x64 1} (h : IsMask e v) (o p : ℕ) (S : ℕ → ℕ → EReal) {Q K : Fin 64 → Fin 256 → EReal} {V : Fin 64 → Fin 512 → EReal}
    {T : Fin 512 → Fin 256 → EReal} (hQ : ∀ i y, Q i y = C.qin (e i) (o + y)) (hK : ∀ i y, K i y = C.kin (e i) (o + y))
    (hV : ∀ i k, V i k = C.V (e i) (p + k)) (hT : ∀ k y, T k y = S y k) (i : Fin 64) (k : Fin 512) :
    ∑ x, Scalar.select (v (ix2 i x)) ((∑ y, Q i y * K x y) * V x k) (0 : EReal) + ∑ y, Q i y * T k y = C.out o p S (e i) k := by
  refine congrArg₂ (· + ·) ((Finset.sum_congr rfl fun x _ => ?_).trans (Equiv.sum_comp e (fun j : Fin 64 =>
    if (j : ℕ) ≤ e i then (∑ y : Fin 256, C.qin (e i) (o + y) * C.kin j (o + y)) * C.V j (p + k) else 0))) (Finset.sum_congr rfl fun y _ => ?_)
  · rw [select_mask e h, hV]
    simp only [hQ, hK]
  · rw [hQ, hT]

/-- A head's next state. -/
theorem next_core (o p : ℕ) (S : ℕ → ℕ → EReal) {K : Fin 64 → Fin 256 → EReal} {V : Fin 64 → Fin 512 → EReal} {D : Fin 256 → EReal}
    {T : Fin 512 → Fin 256 → EReal} (hD : ∀ y, D y = Ideal.exp (C.cum 63 (o + y))) (hK : ∀ i y, K i y = C.kout (e i) (o + y))
    (hV : ∀ i k, V i k = C.V (e i) (p + k)) (hT : ∀ k y, T k y = S y k) (i : Fin 512) (k : Fin 256) :
    T i k * D k + ∑ x, V x i * K x k = C.next o p S k i := by
  refine congrArg₂ (· + ·) (congrArg₂ (· * ·) (hT _ _) (hD _)) ((Finset.sum_congr rfl fun x _ => ?_).trans (Equiv.sum_comp e (fun j : Fin 64 =>
    C.V j (p + i) * C.kout j (o + k))))
  rw [hV, hK]

section Gates
variable (a : FVec Ideal S64x128 .f32) (w : FVec Ideal S1x128x1024 .bf16) (b : FVec Ideal S1x1024 .f32) (q : FVec Ideal S64x1024 .bf16)

/-- The low-rank columns through the decay weights, with the bias, give the gates of the chunk. -/
abbrev IsGate : Prop :=
  ∀ (i : Fin 64) (k : Fin 1024), gate (∑ r : Fin 128, a (ix2 i r) * w (ix3 0 r k) + b (ix2 0 k)) = C.L (e i) k

/-- The cumulated log decay, forward. -/
theorem cum_fwd (h : IsGate C (Equiv.refl _) a w b) : Rows (Equiv.refl _) 0 C.cum (k0_pay5 (F := Ideal) a w b) := by
  intro i k
  pointwise [k0_pay5]
  exact cum_core C _ mask_fwd k (fun x => h x k) i

/-- The decay of the whole chunk, forward. -/
theorem last_fwd (h : IsGate C (Equiv.refl _) a w b) (k : Fin 1024) : k0_pay6 (F := Ideal) a w b (ix2 0 k) = C.cum 63 k := by
  pointwise [k0_pay6, k0_pay5]
  exact cum_core C _ mask_fwd k (fun x => h x k) 63

theorem qin_fwd (h : IsGate C (Equiv.refl _) a w b) (hq : Rows (Equiv.refl _) 0 C.Q q) : Rows (Equiv.refl _) 0 C.qin (k0_pay7 (F := Ideal) a w b q) := by
  intro i k
  pointwise [k0_pay7, k0_pay5]
  refine congrArg₂ (· * ·) ((hq i k).trans (by rw [Nat.zero_add])) (congrArg (fun z => Ideal.ofBits .f32 1031798784#32 * Ideal.exp z) ?_)
  exact cum_core C _ mask_fwd k (fun x => h x k) i

/-- The cumulated log decay, backward. -/
theorem cum_bwd (h : IsGate C Fin.revPerm a w b) : Rows Fin.revPerm 0 C.cum (k0_pay28 (F := Ideal) k0_pay4 a w b) := by
  intro i k
  pointwise [k0_pay28]
  exact cum_core C _ mask_bwd k (fun x => h x k) i

/-- The decay of the whole chunk, backward. -/
theorem last_bwd (h : IsGate C Fin.revPerm a w b) (k : Fin 1024) : k0_pay29 (F := Ideal) k0_pay4 a w b (ix2 0 k) = C.cum 63 k := by
  pointwise [k0_pay29, k0_pay28]
  exact cum_core C _ mask_bwd k (fun x => h x k) 0

theorem qin_bwd (h : IsGate C Fin.revPerm a w b) (hq : Rows Fin.revPerm 0 C.Q q) : Rows Fin.revPerm 0 C.qin (k0_pay30 (F := Ideal) k0_pay4 a w b q) := by
  intro i k
  pointwise [k0_pay30, k0_pay28]
  refine congrArg₂ (· * ·) ((hq i k).trans (by rw [Nat.zero_add])) (congrArg (fun z => Ideal.ofBits .f32 1031798784#32 * Ideal.exp z) ?_)
  exact cum_core C _ mask_bwd k (fun x => h x k) i

end Gates

section Keys
variable (cu : FVec Ideal S64x1024 .f32) (la : FVec Ideal S1x1024 .f32) (kk : FVec Ideal S64x1024 .bf16)
  (hcu : Rows e 0 C.cum cu) (hla : ∀ k : Fin 1024, la (ix2 0 k) = C.cum 63 k) (hk : Rows e 0 C.K kk)
include hcu hk

theorem kin_fwd : Rows e 0 C.kin (k0_pay9 (F := Ideal) cu kk) := by
  intro i k
  pointwise [k0_pay9, k0_pay8]
  rw [hcu, hk, Nat.zero_add]
  rfl

theorem kin_bwd : Rows e 0 C.kin (k0_pay32 (F := Ideal) cu kk) := by
  intro i k
  pointwise [k0_pay32, k0_pay31]
  rw [hcu, hk, Nat.zero_add]
  rfl

include hla

theorem kout_fwd : Rows e 0 C.kout (k0_pay10 (F := Ideal) cu la kk) := by
  intro i k
  pointwise [k0_pay10, k0_pay8]
  rw [hcu, hk, hla, Nat.zero_add]
  rfl

theorem kout_bwd : Rows e 0 C.kout (k0_pay33 (F := Ideal) cu la kk) := by
  intro i k
  pointwise [k0_pay33, k0_pay31]
  rw [hcu, hk, hla, Nat.zero_add]
  rfl

end Keys

theorem dec_fwd {la : FVec Ideal S1x1024 .f32} (h : ∀ k : Fin 1024, la (ix2 0 k) = C.cum 63 k) (k : Fin 1024) :
    k0_pay11 (F := Ideal) la (ix2 0 k) = Ideal.exp (C.cum 63 k) := by
  pointwise [k0_pay11]
  rw [h]

theorem dec_bwd {la : FVec Ideal S1x1024 .f32} (h : ∀ k : Fin 1024, la (ix2 0 k) = C.cum 63 k) (k : Fin 1024) :
    k0_pay34 (F := Ideal) la (ix2 0 k) = Ideal.exp (C.cum 63 k) := by
  pointwise [k0_pay34]
  rw [h]

section Heads
variable {v : IVec S64x64 1} (hv : IsMask e v) {qi ki ko cu : FVec Ideal S64x1024 .f32} {de la : FVec Ideal S1x1024 .f32} {kk : FVec Ideal S64x1024 .bf16}
  {V : FVec Ideal S64x512 .bf16} {T : FVec Ideal S1x1x512x256 .f32} {S : ℕ → ℕ → EReal}
  (hqi : Rows e 0 C.qin qi) (hki : Rows e 0 C.kin ki) (hko : Rows e 0 C.kout ko) (hde : ∀ k : Fin 1024, de (ix2 0 k) = Ideal.exp (C.cum 63 k))
  (hcu : Rows e 0 C.cum cu) (hla : ∀ k : Fin 1024, la (ix2 0 k) = C.cum 63 k) (hk : Rows e 0 C.K kk)
  (hT : ∀ (k : Fin 512) (x : Fin 256), T (ix4 0 0 k x) = S x k)

omit hv hqi hki hko hde hcu hla hk hT in
/-- A row read at a column counted from the head's first one. -/
theorem rows_at {f : ℕ → ℕ → EReal} {u : FVec Ideal S64x1024 .f32} (h : Rows e 0 f u) (o : ℕ) (i : Fin 64) (y : Fin 256) (z : Fin 1024)
    (hz : (z : ℕ) = o + y) : u (ix2 i z) = f (e i) (o + y) := by
  rw [h, Nat.zero_add, hz]

include hv hqi hcu hk hT in
/-- The output rows of head 0, forward; the other heads and directions alike. -/
theorem out_fwd0 (hV : Rows e 0 C.V V) (i : Fin 64) (k : Fin 512) : k0_pay13 (F := Ideal) v cu qi kk V T (ix2 i k) = C.out 0 0 S (e i) k := by
  pointwise [k0_pay13, k0_pay12, k0_pay9, k0_pay8]
  exact out_core C e hv 0 0 S (Q := fun i y => qi (ix2 i ⟨y, by omega⟩)) (K := fun i y => kk (ix2 i ⟨y, by omega⟩) * Ideal.exp (0 - cu (ix2 i ⟨y, by omega⟩))) (V := fun i k => V (ix2 i k))
    (T := fun k y => T (ix4 0 0 k y)) (fun i y => rows_at e hqi 0 i y _ (Nat.zero_add _).symm) (fun i y => by rw [rows_at e hcu 0 i y _ (Nat.zero_add _).symm, rows_at e hk 0 i y _ (Nat.zero_add _).symm]; rfl) hV hT i k

include hcu hla hk hT in
/-- The next state of head 0, forward; the other heads and directions alike. -/
theorem next_fwd0 (hV : Rows e 0 C.V V) (i : Fin 512) (k : Fin 256) : k0_pay14 (F := Ideal) cu la kk V T (ix4 0 0 i k) = C.next 0 0 S k i := by
  pointwise [k0_pay14, k0_pay12, k0_pay11, k0_pay10, k0_pay8]
  exact next_core C e 0 0 S (K := fun i y => kk (ix2 i ⟨y, by omega⟩) * Ideal.exp (la (ix2 0 ⟨y, by omega⟩) - cu (ix2 i ⟨y, by omega⟩))) (V := fun i k => V (ix2 i k)) (D := fun y => Ideal.exp (la (ix2 0 ⟨y, by omega⟩)))
    (T := fun k y => T (ix4 0 0 k y)) (fun y => by rw [hla, Nat.zero_add]) (fun i y => by rw [rows_at e hcu 0 i y _ (Nat.zero_add _).symm, rows_at e hk 0 i y _ (Nat.zero_add _).symm, hla, Nat.zero_add]; rfl) hV hT i k

include hv hqi hki hT in
theorem out_fwd1 (hV : Rows e 512 C.V V) (i : Fin 64) (k : Fin 512) : k0_pay17 (F := Ideal) v ki (k0_pay15 qi) V T (ix2 i k) = C.out 256 512 S (e i) k := by
  pointwise [k0_pay17, k0_pay15, k0_pay16]
  exact out_core C e hv 256 512 S (Q := fun i y => qi (ix2 i ⟨256 + y, by omega⟩)) (K := fun i y => ki (ix2 i ⟨256 + y, by omega⟩)) (V := fun i k => V (ix2 i k))
    (T := fun k y => T (ix4 0 0 k y)) (fun i y => rows_at e hqi 256 i y _ rfl) (fun i y => rows_at e hki 256 i y _ rfl) hV hT i k

include hko hde hT in
theorem next_fwd1 (hV : Rows e 512 C.V V) (i : Fin 512) (k : Fin 256) : k0_pay18 (F := Ideal) ko de V T (ix4 0 0 i k) = C.next 256 512 S k i := by
  pointwise [k0_pay18, k0_pay16]
  exact next_core C e 256 512 S (K := fun i y => ko (ix2 i ⟨256 + y, by omega⟩)) (V := fun i k => V (ix2 i k)) (D := fun y => de (ix2 0 ⟨256 + y, by omega⟩))
    (T := fun k y => T (ix4 0 0 k y)) (fun y => hde _) (fun i y => rows_at e hko 256 i y _ rfl) hV hT i k

include hv hqi hki hT in
theorem out_fwd2 (hV : Rows e 1024 C.V V) (i : Fin 64) (k : Fin 512) : k0_pay22 (F := Ideal) (k0_pay19 qi) V (k0_pay20 v qi ki) T (ix2 i k) = C.out 512 1024 S (e i) k := by
  pointwise [k0_pay22, k0_pay19, k0_pay20, k0_pay21]
  exact out_core C e hv 512 1024 S (Q := fun i y => qi (ix2 i ⟨512 + y, by omega⟩)) (K := fun i y => ki (ix2 i ⟨512 + y, by omega⟩)) (V := fun i k => V (ix2 i k))
    (T := fun k y => T (ix4 0 0 k y)) (fun i y => rows_at e hqi 512 i y _ rfl) (fun i y => rows_at e hki 512 i y _ rfl) hV hT i k

include hko hde hT in
theorem next_fwd2 (hV : Rows e 1024 C.V V) (i : Fin 512) (k : Fin 256) : k0_pay23 (F := Ideal) ko de V T (ix4 0 0 i k) = C.next 512 1024 S k i := by
  pointwise [k0_pay23, k0_pay21]
  exact next_core C e 512 1024 S (K := fun i y => ko (ix2 i ⟨512 + y, by omega⟩)) (V := fun i k => V (ix2 i k)) (D := fun y => de (ix2 0 ⟨512 + y, by omega⟩))
    (T := fun k y => T (ix4 0 0 k y)) (fun y => hde _) (fun i y => rows_at e hko 512 i y _ rfl) hV hT i k

include hv hqi hki hT in
theorem out_fwd3 (hV : Rows e 1536 C.V V) (i : Fin 64) (k : Fin 512) : k0_pay25 (F := Ideal) v qi ki V T (ix2 i k) = C.out 768 1536 S (e i) k := by
  pointwise [k0_pay25, k0_pay24]
  exact out_core C e hv 768 1536 S (Q := fun i y => qi (ix2 i ⟨768 + y, by omega⟩)) (K := fun i y => ki (ix2 i ⟨768 + y, by omega⟩)) (V := fun i k => V (ix2 i k))
    (T := fun k y => T (ix4 0 0 k y)) (fun i y => rows_at e hqi 768 i y _ rfl) (fun i y => rows_at e hki 768 i y _ rfl) hV hT i k

include hko hde hT in
theorem next_fwd3 (hV : Rows e 1536 C.V V) (i : Fin 512) (k : Fin 256) : k0_pay27 (F := Ideal) de V (k0_pay24 T) (k0_pay26 ko) (constant S512x256 FTy.f32 0#32) (ix4 0 0 i k) = C.next 768 1536 S k i := by
  pointwise [k0_pay27, k0_pay24, k0_pay26]
  exact next_core C e 768 1536 S (K := fun i y => ko (ix2 i ⟨768 + y, by omega⟩)) (V := fun i k => V (ix2 i k)) (D := fun y => de (ix2 0 ⟨768 + y, by omega⟩))
    (T := fun k y => T (ix4 0 0 k y)) (fun y => hde _) (fun i y => rows_at e hko 768 i y _ rfl) hV hT i k

include hv hqi hcu hk hT in
theorem out_bwd0 (hV : Rows e 0 C.V V) (i : Fin 64) (k : Fin 512) : k0_pay36 (F := Ideal) v cu qi kk V T (ix2 i k) = C.out 0 0 S (e i) k := by
  pointwise [k0_pay36, k0_pay35, k0_pay32, k0_pay31]
  exact out_core C e hv 0 0 S (Q := fun i y => qi (ix2 i ⟨y, by omega⟩)) (K := fun i y => kk (ix2 i ⟨y, by omega⟩) * Ideal.exp (0 - cu (ix2 i ⟨y, by omega⟩))) (V := fun i k => V (ix2 i k))
    (T := fun k y => T (ix4 0 0 k y)) (fun i y => rows_at e hqi 0 i y _ (Nat.zero_add _).symm) (fun i y => by rw [rows_at e hcu 0 i y _ (Nat.zero_add _).symm, rows_at e hk 0 i y _ (Nat.zero_add _).symm]; rfl) hV hT i k

include hcu hla hk hT in
theorem next_bwd0 (hV : Rows e 0 C.V V) (i : Fin 512) (k : Fin 256) : k0_pay37 (F := Ideal) cu la kk V T (ix4 0 0 i k) = C.next 0 0 S k i := by
  pointwise [k0_pay37, k0_pay35, k0_pay33, k0_pay34, k0_pay31]
  exact next_core C e 0 0 S (K := fun i y => kk (ix2 i ⟨y, by omega⟩) * Ideal.exp (la (ix2 0 ⟨y, by omega⟩) - cu (ix2 i ⟨y, by omega⟩))) (V := fun i k => V (ix2 i k)) (D := fun y => Ideal.exp (la (ix2 0 ⟨y, by omega⟩)))
    (T := fun k y => T (ix4 0 0 k y)) (fun y => by rw [hla, Nat.zero_add]) (fun i y => by rw [rows_at e hcu 0 i y _ (Nat.zero_add _).symm, rows_at e hk 0 i y _ (Nat.zero_add _).symm, hla, Nat.zero_add]; rfl) hV hT i k

include hv hqi hki hT in
theorem out_bwd1 (hV : Rows e 512 C.V V) (i : Fin 64) (k : Fin 512) : k0_pay40 (F := Ideal) v ki (k0_pay38 qi) V T (ix2 i k) = C.out 256 512 S (e i) k := by
  pointwise [k0_pay40, k0_pay38, k0_pay39]
  exact out_core C e hv 256 512 S (Q := fun i y => qi (ix2 i ⟨256 + y, by omega⟩)) (K := fun i y => ki (ix2 i ⟨256 + y, by omega⟩)) (V := fun i k => V (ix2 i k))
    (T := fun k y => T (ix4 0 0 k y)) (fun i y => rows_at e hqi 256 i y _ rfl) (fun i y => rows_at e hki 256 i y _ rfl) hV hT i k

include hko hde hT in
theorem next_bwd1 (hV : Rows e 512 C.V V) (i : Fin 512) (k : Fin 256) : k0_pay41 (F := Ideal) ko de V T (ix4 0 0 i k) = C.next 256 512 S k i := by
  pointwise [k0_pay41, k0_pay39]
  exact next_core C e 256 512 S (K := fun i y => ko (ix2 i ⟨256 + y, by omega⟩)) (V := fun i k => V (ix2 i k)) (D := fun y => de (ix2 0 ⟨256 + y, by omega⟩))
    (T := fun k y => T (ix4 0 0 k y)) (fun y => hde _) (fun i y => rows_at e hko 256 i y _ rfl) hV hT i k

include hv hqi hki hT in
theorem out_bwd2 (hV : Rows e 1024 C.V V) (i : Fin 64) (k : Fin 512) : k0_pay45 (F := Ideal) (k0_pay42 qi) V (k0_pay43 v qi ki) T (ix2 i k) = C.out 512 1024 S (e i) k := by
  pointwise [k0_pay45, k0_pay42, k0_pay43, k0_pay44]
  exact out_core C e hv 512 1024 S (Q := fun i y => qi (ix2 i ⟨512 + y, by omega⟩)) (K := fun i y => ki (ix2 i ⟨512 + y, by omega⟩)) (V := fun i k => V (ix2 i k))
    (T := fun k y => T (ix4 0 0 k y)) (fun i y => rows_at e hqi 512 i y _ rfl) (fun i y => rows_at e hki 512 i y _ rfl) hV hT i k

include hko hde hT in
theorem next_bwd2 (hV : Rows e 1024 C.V V) (i : Fin 512) (k : Fin 256) : k0_pay46 (F := Ideal) ko de V T (ix4 0 0 i k) = C.next 512 1024 S k i := by
  pointwise [k0_pay46, k0_pay44]
  exact next_core C e 512 1024 S (K := fun i y => ko (ix2 i ⟨512 + y, by omega⟩)) (V := fun i k => V (ix2 i k)) (D := fun y => de (ix2 0 ⟨512 + y, by omega⟩))
    (T := fun k y => T (ix4 0 0 k y)) (fun y => hde _) (fun i y => rows_at e hko 512 i y _ rfl) hV hT i k

include hv hqi hki hT in
theorem out_bwd3 (hV : Rows e 1536 C.V V) (i : Fin 64) (k : Fin 512) : k0_pay48 (F := Ideal) v qi ki V T (ix2 i k) = C.out 768 1536 S (e i) k := by
  pointwise [k0_pay48, k0_pay47]
  exact out_core C e hv 768 1536 S (Q := fun i y => qi (ix2 i ⟨768 + y, by omega⟩)) (K := fun i y => ki (ix2 i ⟨768 + y, by omega⟩)) (V := fun i k => V (ix2 i k))
    (T := fun k y => T (ix4 0 0 k y)) (fun i y => rows_at e hqi 768 i y _ rfl) (fun i y => rows_at e hki 768 i y _ rfl) hV hT i k

include hko hde hT in
theorem next_bwd3 (hV : Rows e 1536 C.V V) (i : Fin 512) (k : Fin 256) : k0_pay1 (F := Ideal) de V (k0_pay47 T) (k0_pay49 ko) (ix4 0 0 i k) = C.next 768 1536 S k i := by
  pointwise [k0_pay1, k0_pay47, k0_pay49]
  exact next_core C e 768 1536 S (K := fun i y => ko (ix2 i ⟨768 + y, by omega⟩)) (V := fun i k => V (ix2 i k)) (D := fun y => de (ix2 0 ⟨768 + y, by omega⟩))
    (T := fun k y => T (ix4 0 0 k y)) (fun y => hde _) (fun i y => rows_at e hko 768 i y _ rfl) hV hT i k

end Heads

end Cert.GlaIdeal.Proved
-- ==== Proof.GlaBlocks.lean ====
/- The blocks that a grid point reads, as entries of the kernel's arguments: queries, keys, values and the gates' log
   decay, for either direction. -/
module

public import proofs.«01_k».proof.Proof.GlaEntry
public import proofs.«01_k».proof.Proof.GlaHeads

@[expose] public section

set_option maxRecDepth 16384
noncomputable section
open Idealize.ShloMosaic Idealize.ShloMosaic.TcCoe Idealize.SL.Sem
open Idealize.ShloMosaic.Pipeline (Dat)
open Cert.GlaScan

/-! # The blocks a grid point loads

Point `t` is chunk `t % 64` of batch entry `t / 64`, in both directions. -/

namespace Cert.GlaIdeal.Proved
open Cert.GlaIdeal Cert.GlaIdeal.Gen

variable (m : (ℓ : Loc nD τ sig) → Buf (Elt Ideal) ℓ)

/-- Sixteen rows of weights among 128 rows of zeros: the sum over the rows is the sum over the sixteen. -/
theorem lanes (d : Fin 2) (A : Fin 128 → EReal) (W : Fin 16 → EReal) :
    (∑ r : Fin 128, A r * if h : 16 * (d : ℕ) ≤ r ∧ (r : ℕ) < 16 * d + 16 then W ⟨r - 16 * d, by omega⟩ else 0)
      = ∑ r : Fin 16, A ⟨16 * d + r, by omega⟩ * W r := by
  symm
  refine Finset.sum_of_injOn (fun r : Fin 16 => (⟨16 * d + r, by omega⟩ : Fin 128)) ?_ (fun _ _ => Finset.mem_coe.2 (Finset.mem_univ _)) ?_ ?_
  · intro a _ b _ h
    have := congrArg Fin.val h
    dsimp only at this
    exact Fin.ext (by omega)
  · intro r _ hr
    rw [dif_neg, mul_zero]
    intro h
    exact hr ⟨⟨r - 16 * d, by omega⟩, Finset.mem_coe.2 (Finset.mem_univ _), Fin.ext (show 16 * (d : ℕ) + (r - 16 * d) = r by omega)⟩
  · intro r _
    rw [dif_pos (by dsimp only; omega)]
    exact congrArg (fun z => A _ * W z) (Fin.ext (show (r : ℕ) = 16 * d + r - 16 * d by omega))

/-- Where each window's block begins. -/
theorem idx : ∀ t : Fin cfg0.N, win0_0.index t = ![t.val / 64 * 64 + t.val % 64, 12] ∧ win0_1.index t = ![t.val / 64 * 64 + t.val % 64, 13]
    ∧ win0_2.index t = ![t.val / 64 * 64 + t.val % 64, 7] ∧ win0_3.index t = ![t.val / 64 * 64 + t.val % 64, 0]
    ∧ win0_4.index t = ![t.val / 64 * 64 + (63 - t.val % 64), 12] ∧ win0_5.index t = ![t.val / 64 * 64 + (63 - t.val % 64), 13]
    ∧ win0_6.index t = ![t.val / 64 * 64 + (63 - t.val % 64), 7] ∧ win0_7.index t = ![t.val / 64 * 64 + (63 - t.val % 64), 0]
    ∧ win0_8.index t = ![0, 0, 0] ∧ win0_9.index t = ![0, 0]
    ∧ win0_10.index t = ![t.val / 64 * 64 + t.val % 64, 0] ∧ win0_11.index t = ![t.val / 64 * 64 + (63 - t.val % 64), 0] :=
  (by decide +kernel : ∀ t : Fin grid0.N, _)

/-- The chunks of direction `d` of batch entry `b`. -/
abbrev cells (c : Dev nD) (d b : ℕ) : ℕ → Chunk := chunk (X0 m c) (X1 m c) (X2 m c) (X3 m c) d b

variable (c : Dev nD) (t : Fin cfg0.N)

/-- A row of a forward block. -/
theorem row_fwd (b n : ℕ) (i : Fin 64) : rowOf 0 b (n * 64 + ((Equiv.refl (Fin 64) i : Fin 64) : ℕ)) = (b * 64 + n) * 64 + i := by
  show b * 4096 + (n * 64 + (i : ℕ)) = _
  omega

/-- A row of a backward block: the block is the one in the mirrored place, and so is the row in it. -/
theorem row_bwd (b n : ℕ) (hn : n < 64) (i : Fin 64) : rowOf 1 b (n * 64 + ((Fin.revPerm i : Fin 64) : ℕ)) = (b * 64 + (63 - n)) * 64 + i := by
  show b * 4096 + (4095 - (n * 64 + (63 + 1 - (i + 1)))) = _
  omega

theorem q_fwd : Rows (k := 1024) (Equiv.refl _) 0 (cells m c 0 (t.val / 64) (t.val % 64)).Q (iblk m c 0 t) := by
  intro i x
  blk_simp [iblk]
  rw [V_main_arg0]
  refine at2_of (X0 m c) _ _ _ (Eq.trans ?_ (row_fwd _ _ _).symm) ?_
  all_goals blk_simp [idx t]
  all_goals omega

theorem k_fwd : Rows (k := 1024) (Equiv.refl _) 0 (cells m c 0 (t.val / 64) (t.val % 64)).K (iblk m c 1 t) := by
  intro i x
  blk_simp [iblk]
  rw [V_main_arg0]
  refine at2_of (X0 m c) _ _ _ (Eq.trans ?_ (row_fwd _ _ _).symm) ?_
  all_goals blk_simp [idx t]
  all_goals omega

theorem q_bwd : Rows (k := 1024) Fin.revPerm 0 (cells m c 1 (t.val / 64) (t.val % 64)).Q (iblk m c 4 t) := by
  intro i x
  blk_simp [iblk]
  rw [V_main_arg0]
  refine at2_of (X0 m c) _ _ _ (Eq.trans ?_ (row_bwd _ _ (Nat.mod_lt _ (by omega)) _).symm) ?_
  all_goals blk_simp [idx t]
  all_goals omega

theorem k_bwd : Rows (k := 1024) Fin.revPerm 0 (cells m c 1 (t.val / 64) (t.val % 64)).K (iblk m c 5 t) := by
  intro i x
  blk_simp [iblk]
  rw [V_main_arg0]
  refine at2_of (X0 m c) _ _ _ (Eq.trans ?_ (row_bwd _ _ (Nat.mod_lt _ (by omega)) _).symm) ?_
  all_goals blk_simp [idx t]
  all_goals omega

theorem v_fwd (i : Fin 64) (x : Fin 2048) : iblk m c 2 t (ix2 i x) = (cells m c 0 (t.val / 64) (t.val % 64)).V ((Equiv.refl _) i : Fin 64) x := by
  blk_simp [iblk]
  rw [V_main_arg0]
  refine at2_of (X0 m c) _ _ _ (Eq.trans ?_ (row_fwd _ _ _).symm) ?_
  all_goals blk_simp [idx t]
  all_goals omega

theorem v_bwd (i : Fin 64) (x : Fin 2048) : iblk m c 6 t (ix2 i x) = (cells m c 1 (t.val / 64) (t.val % 64)).V (Fin.revPerm i : Fin 64) x := by
  blk_simp [iblk]
  rw [V_main_arg0]
  refine at2_of (X0 m c) _ _ _ (Eq.trans ?_ (row_bwd _ _ (Nat.mod_lt _ (by omega)) _).symm) ?_
  all_goals blk_simp [idx t]
  all_goals omega

/-- The weights and the bias are loaded whole. -/
theorem wblk (d : Fin 2) (r : Fin 128) (k : Fin 1024) : iblk m c 8 t (ix3 d r k)
    = if h : 16 * (d : ℕ) ≤ r ∧ (r : ℕ) < 16 * d + 16 then X2 m c (ix4 0 d ⟨r - 16 * d, by omega⟩ k) else 0 := by
  refine Eq.trans ?_ (weight m c d r k)
  blk_simp [iblk]
  generalize V m c main_v13 = Z
  blk_ext [idx t]

theorem bblk (d : Fin 2) (k : Fin 1024) : iblk m c 9 t (ix2 d k) = X3 m c (ix3 0 d k) := by
  refine Eq.trans ?_ (bias m c d k)
  blk_simp [iblk]
  blk_ext [idx t]

theorem a_fwd (i : Fin 64) (r : Fin 128) : iblk m c 3 t (ix2 i r) = at2 (X1 m c) (rowOf 0 (t.val / 64) (t.val % 64 * 64 + ((Equiv.refl _) i : Fin 64))) r := by
  blk_simp [iblk]
  rw [V_main_arg1]
  refine at2_of (X1 m c) _ _ _ (Eq.trans ?_ (row_fwd _ _ _).symm) ?_
  all_goals blk_simp [idx t]
  all_goals omega

theorem gate_fwd : IsGate (cells m c 0 (t.val / 64) (t.val % 64)) (Equiv.refl _) (iblk m c 3 t)
    (View.ld (iblk m c 8 t) (Rect.unit ![0, 0, 0] ![1, 128, 1024] inb_S2x128x1024_S1x128x1024_0_0_0))
    (View.ld (iblk m c 9 t) (Rect.unit ![0, 0] ![1, 1024] inb_S2x1024_S1x1024_0_0)) := by
  intro i k
  have hw : ∀ r : Fin 128, View.ld (iblk m c 8 t) (Rect.unit ![0, 0, 0] ![1, 128, 1024] inb_S2x128x1024_S1x128x1024_0_0_0) (ix3 0 r k) = iblk m c 8 t (ix3 0 r k) := by
    intro r
    pointwise
  have hb : View.ld (iblk m c 9 t) (Rect.unit ![0, 0] ![1, 1024] inb_S2x1024_S1x1024_0_0) (ix2 0 k) = iblk m c 9 t (ix2 0 k) := by
    pointwise
  have hk : k = Fin.ofNat 1024 k := Fin.ext (Nat.mod_eq_of_lt k.isLt).symm
  refine congrArg gate (congrArg₂ (· + ·) ?_ ?_)
  · refine Eq.trans (Finset.sum_congr rfl fun r _ => ?_)
      ((lanes 0 (fun r => at2 (X1 m c) (rowOf 0 (t.val / 64) (t.val % 64 * 64 + ((Equiv.refl _) i : Fin 64))) r) (fun r => X2 m c (ix4 0 0 r k))).trans ?_)
    · exact congrArg₂ (fun x y : EReal => x * y) (a_fwd m c t i r) ((hw r).trans (wblk m c t 0 r k))
    · exact Finset.sum_congr rfl fun r _ => congrArg (fun z => _ * X2 m c (ix4 0 0 r z)) hk
  · exact (hb.trans (bblk m c t 0 k)).trans (congrArg (fun z => X3 m c (ix3 0 0 z)) hk)

theorem a_bwd (i : Fin 64) (r : Fin 128) : iblk m c 7 t (ix2 i r) = at2 (X1 m c) (rowOf 1 (t.val / 64) (t.val % 64 * 64 + (Fin.revPerm i : Fin 64))) r := by
  blk_simp [iblk]
  rw [V_main_arg1]
  refine at2_of (X1 m c) _ _ _ (Eq.trans ?_ (row_bwd _ _ (Nat.mod_lt _ (by omega)) _).symm) ?_
  all_goals blk_simp [idx t]
  all_goals omega

theorem gate_bwd : IsGate (cells m c 1 (t.val / 64) (t.val % 64)) Fin.revPerm (iblk m c 7 t)
    (View.ld (iblk m c 8 t) (Rect.unit ![1, 0, 0] ![1, 128, 1024] inb_S2x128x1024_S1x128x1024_1_0_0))
    (View.ld (iblk m c 9 t) (Rect.unit ![1, 0] ![1, 1024] inb_S2x1024_S1x1024_1_0)) := by
  intro i k
  have hw : ∀ r : Fin 128, View.ld (iblk m c 8 t) (Rect.unit ![1, 0, 0] ![1, 128, 1024] inb_S2x128x1024_S1x128x1024_1_0_0) (ix3 0 r k) = iblk m c 8 t (ix3 1 r k) := by
    intro r
    pointwise
  have hb : View.ld (iblk m c 9 t) (Rect.unit ![1, 0] ![1, 1024] inb_S2x1024_S1x1024_1_0) (ix2 0 k) = iblk m c 9 t (ix2 1 k) := by
    pointwise
  have hk : k = Fin.ofNat 1024 k := Fin.ext (Nat.mod_eq_of_lt k.isLt).symm
  refine congrArg gate (congrArg₂ (· + ·) ?_ ?_)
  · refine Eq.trans (Finset.sum_congr rfl fun r _ => ?_)
      ((lanes 1 (fun r => at2 (X1 m c) (rowOf 1 (t.val / 64) (t.val % 64 * 64 + (Fin.revPerm i : Fin 64))) r) (fun r => X2 m c (ix4 0 1 r k))).trans ?_)
    · exact congrArg₂ (fun x y : EReal => x * y) (a_bwd m c t i r) ((hw r).trans (wblk m c t 1 r k))
    · exact Finset.sum_congr rfl fun r _ => congrArg (fun z => _ * X2 m c (ix4 0 1 r z)) hk
  · exact (hb.trans (bblk m c t 1 k)).trans (congrArg (fun z => X3 m c (ix3 0 1 z)) hk)

end Cert.GlaIdeal.Proved
-- ==== Proof.GlaState.lean ====
/- The kernel's state in scratch memory, over the grid: at every point it is the mathematical state before that point's
   chunk, so the blocks written are the chunk's output. -/
module

public import proofs.«01_k».proof.Proof.GlaBlocks
public import Idealize.ShloMosaic.Lib.Pipeline.Covers
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
open Cert.GlaScan

/-! # The states the scratch holds

After point `t` the scratch holds, for each direction and head, the state after chunk `t % 64` of batch entry
`t / 64`, transposed. -/

namespace Cert.GlaIdeal.Proved
open Cert.GlaIdeal Cert.GlaIdeal.Gen

variable (m : (ℓ : Loc nD τ sig) → Buf (Elt Ideal) ℓ) (c : Dev nD) (t : Fin cfg0.N)

/-- What a point leaves in the state of head 0, forward; the other heads and directions alike. -/
theorem value_fwd0 : Rows (Equiv.refl _) 0 (cells m c 0 (t.val / 64) (t.val % 64)).V (View.ld (iblk m c 2 t) (Rect.unit ![0, 0] ![64, 512] inb_S64x2048_S64x512_0_0)) := by
  intro i x
  refine Eq.trans ?_ (v_fwd m c t i ⟨0 + x, by omega⟩)
  pointwise

theorem value_fwd1 : Rows (Equiv.refl _) 512 (cells m c 0 (t.val / 64) (t.val % 64)).V (View.ld (iblk m c 2 t) (Rect.unit ![0, 512] ![64, 512] inb_S64x2048_S64x512_0_512)) := by
  intro i x
  refine Eq.trans ?_ (v_fwd m c t i ⟨512 + x, by omega⟩)
  pointwise

theorem value_fwd2 : Rows (Equiv.refl _) 1024 (cells m c 0 (t.val / 64) (t.val % 64)).V (View.ld (iblk m c 2 t) (Rect.unit ![0, 1024] ![64, 512] inb_S64x2048_S64x512_0_1024)) := by
  intro i x
  refine Eq.trans ?_ (v_fwd m c t i ⟨1024 + x, by omega⟩)
  pointwise

theorem value_fwd3 : Rows (Equiv.refl _) 1536 (cells m c 0 (t.val / 64) (t.val % 64)).V (View.ld (iblk m c 2 t) (Rect.unit ![0, 1536] ![64, 512] inb_S64x2048_S64x512_0_1536)) := by
  intro i x
  refine Eq.trans ?_ (v_fwd m c t i ⟨1536 + x, by omega⟩)
  pointwise

theorem value_bwd0 : Rows Fin.revPerm 0 (cells m c 1 (t.val / 64) (t.val % 64)).V (View.ld (iblk m c 6 t) (Rect.unit ![0, 0] ![64, 512] inb_S64x2048_S64x512_0_0)) := by
  intro i x
  refine Eq.trans ?_ (v_bwd m c t i ⟨0 + x, by omega⟩)
  pointwise

theorem value_bwd1 : Rows Fin.revPerm 512 (cells m c 1 (t.val / 64) (t.val % 64)).V (View.ld (iblk m c 6 t) (Rect.unit ![0, 512] ![64, 512] inb_S64x2048_S64x512_0_512)) := by
  intro i x
  refine Eq.trans ?_ (v_bwd m c t i ⟨512 + x, by omega⟩)
  pointwise

theorem value_bwd2 : Rows Fin.revPerm 1024 (cells m c 1 (t.val / 64) (t.val % 64)).V (View.ld (iblk m c 6 t) (Rect.unit ![0, 1024] ![64, 512] inb_S64x2048_S64x512_0_1024)) := by
  intro i x
  refine Eq.trans ?_ (v_bwd m c t i ⟨1024 + x, by omega⟩)
  pointwise

theorem value_bwd3 : Rows Fin.revPerm 1536 (cells m c 1 (t.val / 64) (t.val % 64)).V (View.ld (iblk m c 6 t) (Rect.unit ![0, 1536] ![64, 512] inb_S64x2048_S64x512_0_1536)) := by
  intro i x
  refine Eq.trans ?_ (v_bwd m c t i ⟨1536 + x, by omega⟩)
  pointwise

/-- An element of the part of the scratch one head's state is in. -/
theorem eta (x : S1x1x512x256.Idx) : ∃ (a : Fin 512) (b : Fin 256), x = ix4 0 0 a b :=
  ⟨x 2, x 3, funext fun a => by
    match a with
    | ⟨0, _⟩ => exact Fin.ext (Nat.lt_one_iff.1 (x 0).isLt)
    | ⟨1, _⟩ => exact Fin.ext (Nat.lt_one_iff.1 (x 1).isLt)
    | ⟨2, _⟩ => rfl
    | ⟨3, _⟩ => rfl⟩

/-- What the scratch holds after point `n`. -/
abbrev Held (n : ℕ) (P : Vec Ideal S2x4x512x256 .f32) : Prop :=
  ∀ (y : S2x4x512x256.Idx) (d h a b : ℕ), (y 0 : ℕ) = d → (y 1 : ℕ) = h → (y 2 : ℕ) = a → (y 3 : ℕ) = b →
    P y = state (cells m c d (n / 64)) (256 * h) (512 * h) (n % 64 + 1) b a

/-- Where the scratch was filled with zeros, the state before the first chunk. -/
theorem blank (r : Rect S2x4x512x256) (j : r.shape.Idx) (C : ℕ → Chunk) (o p : ℕ) {n k e : ℕ} (hn : n = 0) :
    (View.ld (Val := Elt Ideal) (e' := .f32) (k0_pay2 (F := Ideal)) r j : Elt Ideal .f32) = state C o p n k e := by
  subst hn
  show k0_pay2 (F := Ideal) (r.emb j) = (0 : EReal)
  pointwise [k0_pay2]

/-- Where a later store covers the index, the fill before it is not read. -/
theorem drop_fill (z : View.Piece (Elt Ideal) S2x4x512x256 .f32) (y : S2x4x512x256.Idx) : ∀ (L : List (View.Piece (Elt Ideal) S2x4x512x256 .f32))
    (_ : ∃ p ∈ L, y ∈ p.1.set), View.canon (L ++ [z]) y = View.canon L y
  | [], h => by
    obtain ⟨p, hp, _⟩ := h
    exact absurd hp List.not_mem_nil
  | p :: L, h => by
    by_cases hm : y ∈ p.1.set
    · obtain ⟨x, rfl⟩ := p.1.exists_idx_of_mem hm
      rw [List.cons_append, show p.1.idx x = p.1.emb x from rfl]
      exact (View.canon_cons_emb p.1 p.2 _ x).trans (View.canon_cons_emb p.1 p.2 _ x).symm
    · rw [List.cons_append, View.canon_cons_of_not_mem _ _ hm, View.canon_cons_of_not_mem _ _ hm]
      refine drop_fill z y L ?_
      obtain ⟨q, hq, hyq⟩ := h
      rcases List.mem_cons.mp hq with rfl | hq
      · exact absurd hyq hm
      · exact ⟨q, hq, hyq⟩

theorem stepB (h0 : ¬t.val % 64 = 0) (prev : Held m c (t.val - 1) (outsAt0 m c (t.val - 1) (Nat.lt_of_le_of_lt (Nat.sub_le _ _) t.isLt)).2.2) :
    Held m c t (outsAt0 m c t.val t.isLt).2.2 := by
  unfold Held at prev ⊢
  rw [show (t.val - 1) / 64 = t.val / 64 by omega, show (t.val - 1) % 64 + 1 = t.val % 64 by omega] at prev
  intro y _ _ _ _ rfl rfl rfl rfl
  rw [outsAt0_B m c t h0]; frame_out
  canon_tiles x h
  · obtain ⟨a, b, rfl⟩ := eta x
    rw [show (y 0 : ℕ) = 1 by omega, show (y 1 : ℕ) = 3 by omega, h2, h3]
    refine next_bwd3 _ _ (kout_bwd _ _ _ _ _ (cum_bwd _ _ _ _ (gate_bwd m c t)) (last_bwd _ _ _ _ (gate_bwd m c t)) (k_bwd m c t)) (dec_bwd _ (last_bwd _ _ _ _ (gate_bwd m c t))) (fun k x => (congrFun (Memref.IsWhole.read_unread _ _) _).trans (prev _ 1 3 k x ?_ ?_ ?_ ?_)) (value_bwd3 m c t) a b
    all_goals first | exact Rect.idx_unit_val _ _ _ _ _ | exact (Rect.idx_unit_val _ _ _ _ _).trans (Nat.zero_add _)
  · obtain ⟨a, b, rfl⟩ := eta x
    rw [show (y 0 : ℕ) = 1 by omega, show (y 1 : ℕ) = 2 by omega, h2, h3]
    refine next_bwd2 _ _ (kout_bwd _ _ _ _ _ (cum_bwd _ _ _ _ (gate_bwd m c t)) (last_bwd _ _ _ _ (gate_bwd m c t)) (k_bwd m c t)) (dec_bwd _ (last_bwd _ _ _ _ (gate_bwd m c t))) (fun k x => (congrFun (Memref.IsWhole.read_unread _ _) _).trans (prev _ 1 2 k x ?_ ?_ ?_ ?_)) (value_bwd2 m c t) a b
    all_goals first | exact Rect.idx_unit_val _ _ _ _ _ | exact (Rect.idx_unit_val _ _ _ _ _).trans (Nat.zero_add _)
  · obtain ⟨a, b, rfl⟩ := eta x
    rw [show (y 0 : ℕ) = 1 by omega, show (y 1 : ℕ) = 1 by omega, h2, h3]
    refine next_bwd1 _ _ (kout_bwd _ _ _ _ _ (cum_bwd _ _ _ _ (gate_bwd m c t)) (last_bwd _ _ _ _ (gate_bwd m c t)) (k_bwd m c t)) (dec_bwd _ (last_bwd _ _ _ _ (gate_bwd m c t))) (fun k x => (congrFun (Memref.IsWhole.read_unread _ _) _).trans (prev _ 1 1 k x ?_ ?_ ?_ ?_)) (value_bwd1 m c t) a b
    all_goals first | exact Rect.idx_unit_val _ _ _ _ _ | exact (Rect.idx_unit_val _ _ _ _ _).trans (Nat.zero_add _)
  · obtain ⟨a, b, rfl⟩ := eta x
    rw [show (y 0 : ℕ) = 1 by omega, show (y 1 : ℕ) = 0 by omega, h2, h3]
    refine next_bwd0 _ _ (cum_bwd _ _ _ _ (gate_bwd m c t)) (last_bwd _ _ _ _ (gate_bwd m c t)) (k_bwd m c t) (fun k x => (congrFun (Memref.IsWhole.read_unread _ _) _).trans (prev _ 1 0 k x ?_ ?_ ?_ ?_)) (value_bwd0 m c t) a b
    all_goals first | exact Rect.idx_unit_val _ _ _ _ _ | exact (Rect.idx_unit_val _ _ _ _ _).trans (Nat.zero_add _)
  · obtain ⟨a, b, rfl⟩ := eta x
    rw [show (y 0 : ℕ) = 0 by omega, show (y 1 : ℕ) = 3 by omega, h2, h3]
    refine next_fwd3 _ _ (kout_fwd _ _ _ _ _ (cum_fwd _ _ _ _ (gate_fwd m c t)) (last_fwd _ _ _ _ (gate_fwd m c t)) (k_fwd m c t)) (dec_fwd _ (last_fwd _ _ _ _ (gate_fwd m c t))) (fun k x => (congrFun (Memref.IsWhole.read_unread _ _) _).trans (prev _ 0 3 k x ?_ ?_ ?_ ?_)) (value_fwd3 m c t) a b
    all_goals first | exact Rect.idx_unit_val _ _ _ _ _ | exact (Rect.idx_unit_val _ _ _ _ _).trans (Nat.zero_add _)
  · obtain ⟨a, b, rfl⟩ := eta x
    rw [show (y 0 : ℕ) = 0 by omega, show (y 1 : ℕ) = 2 by omega, h2, h3]
    refine next_fwd2 _ _ (kout_fwd _ _ _ _ _ (cum_fwd _ _ _ _ (gate_fwd m c t)) (last_fwd _ _ _ _ (gate_fwd m c t)) (k_fwd m c t)) (dec_fwd _ (last_fwd _ _ _ _ (gate_fwd m c t))) (fun k x => (congrFun (Memref.IsWhole.read_unread _ _) _).trans (prev _ 0 2 k x ?_ ?_ ?_ ?_)) (value_fwd2 m c t) a b
    all_goals first | exact Rect.idx_unit_val _ _ _ _ _ | exact (Rect.idx_unit_val _ _ _ _ _).trans (Nat.zero_add _)
  · obtain ⟨a, b, rfl⟩ := eta x
    rw [show (y 0 : ℕ) = 0 by omega, show (y 1 : ℕ) = 1 by omega, h2, h3]
    refine next_fwd1 _ _ (kout_fwd _ _ _ _ _ (cum_fwd _ _ _ _ (gate_fwd m c t)) (last_fwd _ _ _ _ (gate_fwd m c t)) (k_fwd m c t)) (dec_fwd _ (last_fwd _ _ _ _ (gate_fwd m c t))) (fun k x => (congrFun (Memref.IsWhole.read_unread _ _) _).trans (prev _ 0 1 k x ?_ ?_ ?_ ?_)) (value_fwd1 m c t) a b
    all_goals first | exact Rect.idx_unit_val _ _ _ _ _ | exact (Rect.idx_unit_val _ _ _ _ _).trans (Nat.zero_add _)
  · obtain ⟨a, b, rfl⟩ := eta x
    rw [show (y 0 : ℕ) = 0 by omega, show (y 1 : ℕ) = 0 by omega, h2, h3]
    refine next_fwd0 _ _ (cum_fwd _ _ _ _ (gate_fwd m c t)) (last_fwd _ _ _ _ (gate_fwd m c t)) (k_fwd m c t) (fun k x => (congrFun (Memref.IsWhole.read_unread _ _) _).trans (prev _ 0 0 k x ?_ ?_ ?_ ?_)) (value_fwd0 m c t) a b
    all_goals first | exact Rect.idx_unit_val _ _ _ _ _ | exact (Rect.idx_unit_val _ _ _ _ _).trans (Nat.zero_add _)

theorem stepA (h0 : t.val % 64 = 0) : Held m c t (outsAt0 m c t.val t.isLt).2.2 := by
  unfold Held
  intro y _ _ _ _ rfl rfl rfl rfl
  rw [outsAt0_A m c t h0]; frame_out
  simp (decide := true) only [↓View.readCov_skip, ↓View.readCov_fill]
  have hz := h0
  clear h0
  refine (drop_fill _ y [_, _, _, _, _, _, _, _] (View.cover_of_tiledL (s := S2x4x512x256) _ ![1, 1, 512, 256] (by sl_kernel_rfl) y)).trans ?_
  canon_tiles x h
  · obtain ⟨a, b, rfl⟩ := eta x
    rw [show (y 0 : ℕ) = 1 by omega, show (y 1 : ℕ) = 3 by omega, h2, h3]
    refine next_bwd3 _ _ (kout_bwd _ _ _ _ _ (cum_bwd _ _ _ _ (gate_bwd m c t)) (last_bwd _ _ _ _ (gate_bwd m c t)) (k_bwd m c t)) (dec_bwd _ (last_bwd _ _ _ _ (gate_bwd m c t))) (fun k x => blank _ _ _ _ _ hz) (value_bwd3 m c t) a b
  · obtain ⟨a, b, rfl⟩ := eta x
    rw [show (y 0 : ℕ) = 1 by omega, show (y 1 : ℕ) = 2 by omega, h2, h3]
    refine next_bwd2 _ _ (kout_bwd _ _ _ _ _ (cum_bwd _ _ _ _ (gate_bwd m c t)) (last_bwd _ _ _ _ (gate_bwd m c t)) (k_bwd m c t)) (dec_bwd _ (last_bwd _ _ _ _ (gate_bwd m c t))) (fun k x => blank _ _ _ _ _ hz) (value_bwd2 m c t) a b
  · obtain ⟨a, b, rfl⟩ := eta x
    rw [show (y 0 : ℕ) = 1 by omega, show (y 1 : ℕ) = 1 by omega, h2, h3]
    refine next_bwd1 _ _ (kout_bwd _ _ _ _ _ (cum_bwd _ _ _ _ (gate_bwd m c t)) (last_bwd _ _ _ _ (gate_bwd m c t)) (k_bwd m c t)) (dec_bwd _ (last_bwd _ _ _ _ (gate_bwd m c t))) (fun k x => blank _ _ _ _ _ hz) (value_bwd1 m c t) a b
  · obtain ⟨a, b, rfl⟩ := eta x
    rw [show (y 0 : ℕ) = 1 by omega, show (y 1 : ℕ) = 0 by omega, h2, h3]
    refine next_bwd0 _ _ (cum_bwd _ _ _ _ (gate_bwd m c t)) (last_bwd _ _ _ _ (gate_bwd m c t)) (k_bwd m c t) (fun k x => blank _ _ _ _ _ hz) (value_bwd0 m c t) a b
  · obtain ⟨a, b, rfl⟩ := eta x
    rw [show (y 0 : ℕ) = 0 by omega, show (y 1 : ℕ) = 3 by omega, h2, h3]
    refine next_fwd3 _ _ (kout_fwd _ _ _ _ _ (cum_fwd _ _ _ _ (gate_fwd m c t)) (last_fwd _ _ _ _ (gate_fwd m c t)) (k_fwd m c t)) (dec_fwd _ (last_fwd _ _ _ _ (gate_fwd m c t))) (fun k x => blank _ _ _ _ _ hz) (value_fwd3 m c t) a b
  · obtain ⟨a, b, rfl⟩ := eta x
    rw [show (y 0 : ℕ) = 0 by omega, show (y 1 : ℕ) = 2 by omega, h2, h3]
    refine next_fwd2 _ _ (kout_fwd _ _ _ _ _ (cum_fwd _ _ _ _ (gate_fwd m c t)) (last_fwd _ _ _ _ (gate_fwd m c t)) (k_fwd m c t)) (dec_fwd _ (last_fwd _ _ _ _ (gate_fwd m c t))) (fun k x => blank _ _ _ _ _ hz) (value_fwd2 m c t) a b
  · obtain ⟨a, b, rfl⟩ := eta x
    rw [show (y 0 : ℕ) = 0 by omega, show (y 1 : ℕ) = 1 by omega, h2, h3]
    refine next_fwd1 _ _ (kout_fwd _ _ _ _ _ (cum_fwd _ _ _ _ (gate_fwd m c t)) (last_fwd _ _ _ _ (gate_fwd m c t)) (k_fwd m c t)) (dec_fwd _ (last_fwd _ _ _ _ (gate_fwd m c t))) (fun k x => blank _ _ _ _ _ hz) (value_fwd1 m c t) a b
  · obtain ⟨a, b, rfl⟩ := eta x
    rw [show (y 0 : ℕ) = 0 by omega, show (y 1 : ℕ) = 0 by omega, h2, h3]
    refine next_fwd0 _ _ (cum_fwd _ _ _ _ (gate_fwd m c t)) (last_fwd _ _ _ _ (gate_fwd m c t)) (k_fwd m c t) (fun k x => blank _ _ _ _ _ hz) (value_fwd0 m c t) a b

theorem held : ∀ (n : ℕ) (hn : n < cfg0.N), Held m c n (outsAt0 m c n hn).2.2
  | 0, hn => stepA m c ⟨0, hn⟩ rfl
  | n + 1, hn => by
    by_cases h0 : (n + 1) % 64 = 0
    · exact stepA m c ⟨n + 1, hn⟩ h0
    · exact stepB m c ⟨n + 1, hn⟩ h0 (held n _)

theorem eta2 (x : S64x512.Idx) : ∃ (a : Fin 64) (b : Fin 512), x = ix2 a b :=
  ⟨x 0, x 1, funext fun a => by
    match a with
    | ⟨0, _⟩ => rfl
    | ⟨1, _⟩ => rfl⟩

theorem rev_val (a : Fin 64) : 63 - (a : ℕ) = ((Fin.revPerm a : Fin 64) : ℕ) := by
  show 63 - (a : ℕ) = 63 + 1 - (a + 1)
  omega

/-- The output block of the first direction. -/
theorem block_fwd (y : S64x2048.Idx) : (outsAt0 m c t.val t.isLt).1 y
    = (cells m c 0 (t.val / 64) (t.val % 64)).out (256 * ((y 1 : ℕ) / 512)) (512 * ((y 1 : ℕ) / 512))
      (state (cells m c 0 (t.val / 64)) (256 * ((y 1 : ℕ) / 512)) (512 * ((y 1 : ℕ) / 512)) (t.val % 64)) (y 0) ((y 1 : ℕ) % 512) := by
  by_cases h0 : t.val % 64 = 0
  · rw [outsAt0_A m c t h0]; frame_out
    simp (decide := true) only [↓View.readCov_skip, ↓View.readCov_fill]
    have hz := h0
    clear h0
    canon_tiles x h
    · obtain ⟨a, b, rfl⟩ := eta2 x
      change (y 0 : ℕ) = (a : ℕ) at h0
      change (y 1 : ℕ) = 1536 + (b : ℕ) at h1
      rw [show (y 1 : ℕ) / 512 = 3 by omega, show (y 1 : ℕ) % 512 = b by omega, h0]
      refine out_fwd3 _ _ mask_fwd (qin_fwd _ _ _ _ _ (gate_fwd m c t) (q_fwd m c t)) (kin_fwd _ _ _ _ (cum_fwd _ _ _ _ (gate_fwd m c t)) (k_fwd m c t)) (fun k x => blank _ _ _ _ _ hz) (value_fwd3 m c t) a b
    · obtain ⟨a, b, rfl⟩ := eta2 x
      change (y 0 : ℕ) = (a : ℕ) at h0
      change (y 1 : ℕ) = 1024 + (b : ℕ) at h1
      rw [show (y 1 : ℕ) / 512 = 2 by omega, show (y 1 : ℕ) % 512 = b by omega, h0]
      refine out_fwd2 _ _ mask_fwd (qin_fwd _ _ _ _ _ (gate_fwd m c t) (q_fwd m c t)) (kin_fwd _ _ _ _ (cum_fwd _ _ _ _ (gate_fwd m c t)) (k_fwd m c t)) (fun k x => blank _ _ _ _ _ hz) (value_fwd2 m c t) a b
    · obtain ⟨a, b, rfl⟩ := eta2 x
      change (y 0 : ℕ) = (a : ℕ) at h0
      change (y 1 : ℕ) = 512 + (b : ℕ) at h1
      rw [show (y 1 : ℕ) / 512 = 1 by omega, show (y 1 : ℕ) % 512 = b by omega, h0]
      refine out_fwd1 _ _ mask_fwd (qin_fwd _ _ _ _ _ (gate_fwd m c t) (q_fwd m c t)) (kin_fwd _ _ _ _ (cum_fwd _ _ _ _ (gate_fwd m c t)) (k_fwd m c t)) (fun k x => blank _ _ _ _ _ hz) (value_fwd1 m c t) a b
    · obtain ⟨a, b, rfl⟩ := eta2 x
      change (y 0 : ℕ) = (a : ℕ) at h0
      change (y 1 : ℕ) = (b : ℕ) at h1
      rw [show (y 1 : ℕ) / 512 = 0 by omega, show (y 1 : ℕ) % 512 = b by omega, h0]
      refine out_fwd0 _ _ mask_fwd (qin_fwd _ _ _ _ _ (gate_fwd m c t) (q_fwd m c t)) (cum_fwd _ _ _ _ (gate_fwd m c t)) (k_fwd m c t) (fun k x => blank _ _ _ _ _ hz) (value_fwd0 m c t) a b
  · have prev := held m c (t.val - 1) (Nat.lt_of_le_of_lt (Nat.sub_le _ _) t.isLt)
    unfold Held at prev
    rw [show (t.val - 1) / 64 = t.val / 64 by omega, show (t.val - 1) % 64 + 1 = t.val % 64 by omega] at prev
    rw [outsAt0_B m c t h0]; frame_out
    clear h0
    canon_tiles x h
    · obtain ⟨a, b, rfl⟩ := eta2 x
      change (y 0 : ℕ) = (a : ℕ) at h0
      change (y 1 : ℕ) = 1536 + (b : ℕ) at h1
      rw [show (y 1 : ℕ) / 512 = 3 by omega, show (y 1 : ℕ) % 512 = b by omega, h0]
      refine out_fwd3 _ _ mask_fwd (qin_fwd _ _ _ _ _ (gate_fwd m c t) (q_fwd m c t)) (kin_fwd _ _ _ _ (cum_fwd _ _ _ _ (gate_fwd m c t)) (k_fwd m c t)) (fun k x => (congrFun (Memref.IsWhole.read_unread _ _) _).trans (prev _ 0 3 k x ?_ ?_ ?_ ?_)) (value_fwd3 m c t) a b
      all_goals first | exact Rect.idx_unit_val _ _ _ _ _ | exact (Rect.idx_unit_val _ _ _ _ _).trans (Nat.zero_add _)
    · obtain ⟨a, b, rfl⟩ := eta2 x
      change (y 0 : ℕ) = (a : ℕ) at h0
      change (y 1 : ℕ) = 1024 + (b : ℕ) at h1
      rw [show (y 1 : ℕ) / 512 = 2 by omega, show (y 1 : ℕ) % 512 = b by omega, h0]
      refine out_fwd2 _ _ mask_fwd (qin_fwd _ _ _ _ _ (gate_fwd m c t) (q_fwd m c t)) (kin_fwd _ _ _ _ (cum_fwd _ _ _ _ (gate_fwd m c t)) (k_fwd m c t)) (fun k x => (congrFun (Memref.IsWhole.read_unread _ _) _).trans (prev _ 0 2 k x ?_ ?_ ?_ ?_)) (value_fwd2 m c t) a b
      all_goals first | exact Rect.idx_unit_val _ _ _ _ _ | exact (Rect.idx_unit_val _ _ _ _ _).trans (Nat.zero_add _)
    · obtain ⟨a, b, rfl⟩ := eta2 x
      change (y 0 : ℕ) = (a : ℕ) at h0
      change (y 1 : ℕ) = 512 + (b : ℕ) at h1
      rw [show (y 1 : ℕ) / 512 = 1 by omega, show (y 1 : ℕ) % 512 = b by omega, h0]
      refine out_fwd1 _ _ mask_fwd (qin_fwd _ _ _ _ _ (gate_fwd m c t) (q_fwd m c t)) (kin_fwd _ _ _ _ (cum_fwd _ _ _ _ (gate_fwd m c t)) (k_fwd m c t)) (fun k x => (congrFun (Memref.IsWhole.read_unread _ _) _).trans (prev _ 0 1 k x ?_ ?_ ?_ ?_)) (value_fwd1 m c t) a b
      all_goals first | exact Rect.idx_unit_val _ _ _ _ _ | exact (Rect.idx_unit_val _ _ _ _ _).trans (Nat.zero_add _)
    · obtain ⟨a, b, rfl⟩ := eta2 x
      change (y 0 : ℕ) = (a : ℕ) at h0
      change (y 1 : ℕ) = (b : ℕ) at h1
      rw [show (y 1 : ℕ) / 512 = 0 by omega, show (y 1 : ℕ) % 512 = b by omega, h0]
      refine out_fwd0 _ _ mask_fwd (qin_fwd _ _ _ _ _ (gate_fwd m c t) (q_fwd m c t)) (cum_fwd _ _ _ _ (gate_fwd m c t)) (k_fwd m c t) (fun k x => (congrFun (Memref.IsWhole.read_unread _ _) _).trans (prev _ 0 0 k x ?_ ?_ ?_ ?_)) (value_fwd0 m c t) a b
      all_goals first | exact Rect.idx_unit_val _ _ _ _ _ | exact (Rect.idx_unit_val _ _ _ _ _).trans (Nat.zero_add _)

/-- The output block of the second direction. -/
theorem block_bwd (y : S64x2048.Idx) : (outsAt0 m c t.val t.isLt).2.1 y
    = (cells m c 1 (t.val / 64) (t.val % 64)).out (256 * ((y 1 : ℕ) / 512)) (512 * ((y 1 : ℕ) / 512))
      (state (cells m c 1 (t.val / 64)) (256 * ((y 1 : ℕ) / 512)) (512 * ((y 1 : ℕ) / 512)) (t.val % 64)) (63 - y 0) ((y 1 : ℕ) % 512) := by
  by_cases h0 : t.val % 64 = 0
  · rw [outsAt0_A m c t h0]; frame_out
    simp (decide := true) only [↓View.readCov_skip, ↓View.readCov_fill]
    have hz := h0
    clear h0
    canon_tiles x h
    · obtain ⟨a, b, rfl⟩ := eta2 x
      change (y 0 : ℕ) = (a : ℕ) at h0
      change (y 1 : ℕ) = 1536 + (b : ℕ) at h1
      rw [show (y 1 : ℕ) / 512 = 3 by omega, show (y 1 : ℕ) % 512 = b by omega, show 63 - (y 0 : ℕ) = ((Fin.revPerm a : Fin 64) : ℕ) from h0 ▸ rev_val a]
      refine out_bwd3 _ _ mask_bwd (qin_bwd _ _ _ _ _ (gate_bwd m c t) (q_bwd m c t)) (kin_bwd _ _ _ _ (cum_bwd _ _ _ _ (gate_bwd m c t)) (k_bwd m c t)) (fun k x => blank _ _ _ _ _ hz) (value_bwd3 m c t) a b
    · obtain ⟨a, b, rfl⟩ := eta2 x
      change (y 0 : ℕ) = (a : ℕ) at h0
      change (y 1 : ℕ) = 1024 + (b : ℕ) at h1
      rw [show (y 1 : ℕ) / 512 = 2 by omega, show (y 1 : ℕ) % 512 = b by omega, show 63 - (y 0 : ℕ) = ((Fin.revPerm a : Fin 64) : ℕ) from h0 ▸ rev_val a]
      refine out_bwd2 _ _ mask_bwd (qin_bwd _ _ _ _ _ (gate_bwd m c t) (q_bwd m c t)) (kin_bwd _ _ _ _ (cum_bwd _ _ _ _ (gate_bwd m c t)) (k_bwd m c t)) (fun k x => blank _ _ _ _ _ hz) (value_bwd2 m c t) a b
    · obtain ⟨a, b, rfl⟩ := eta2 x
      change (y 0 : ℕ) = (a : ℕ) at h0
      change (y 1 : ℕ) = 512 + (b : ℕ) at h1
      rw [show (y 1 : ℕ) / 512 = 1 by omega, show (y 1 : ℕ) % 512 = b by omega, show 63 - (y 0 : ℕ) = ((Fin.revPerm a : Fin 64) : ℕ) from h0 ▸ rev_val a]
      refine out_bwd1 _ _ mask_bwd (qin_bwd _ _ _ _ _ (gate_bwd m c t) (q_bwd m c t)) (kin_bwd _ _ _ _ (cum_bwd _ _ _ _ (gate_bwd m c t)) (k_bwd m c t)) (fun k x => blank _ _ _ _ _ hz) (value_bwd1 m c t) a b
    · obtain ⟨a, b, rfl⟩ := eta2 x
      change (y 0 : ℕ) = (a : ℕ) at h0
      change (y 1 : ℕ) = (b : ℕ) at h1
      rw [show (y 1 : ℕ) / 512 = 0 by omega, show (y 1 : ℕ) % 512 = b by omega, show 63 - (y 0 : ℕ) = ((Fin.revPerm a : Fin 64) : ℕ) from h0 ▸ rev_val a]
      refine out_bwd0 _ _ mask_bwd (qin_bwd _ _ _ _ _ (gate_bwd m c t) (q_bwd m c t)) (cum_bwd _ _ _ _ (gate_bwd m c t)) (k_bwd m c t) (fun k x => blank _ _ _ _ _ hz) (value_bwd0 m c t) a b
  · have prev := held m c (t.val - 1) (Nat.lt_of_le_of_lt (Nat.sub_le _ _) t.isLt)
    unfold Held at prev
    rw [show (t.val - 1) / 64 = t.val / 64 by omega, show (t.val - 1) % 64 + 1 = t.val % 64 by omega] at prev
    rw [outsAt0_B m c t h0]; frame_out
    clear h0
    canon_tiles x h
    · obtain ⟨a, b, rfl⟩ := eta2 x
      change (y 0 : ℕ) = (a : ℕ) at h0
      change (y 1 : ℕ) = 1536 + (b : ℕ) at h1
      rw [show (y 1 : ℕ) / 512 = 3 by omega, show (y 1 : ℕ) % 512 = b by omega, show 63 - (y 0 : ℕ) = ((Fin.revPerm a : Fin 64) : ℕ) from h0 ▸ rev_val a]
      refine out_bwd3 _ _ mask_bwd (qin_bwd _ _ _ _ _ (gate_bwd m c t) (q_bwd m c t)) (kin_bwd _ _ _ _ (cum_bwd _ _ _ _ (gate_bwd m c t)) (k_bwd m c t)) (fun k x => (congrFun (Memref.IsWhole.read_unread _ _) _).trans (prev _ 1 3 k x ?_ ?_ ?_ ?_)) (value_bwd3 m c t) a b
      all_goals first | exact Rect.idx_unit_val _ _ _ _ _ | exact (Rect.idx_unit_val _ _ _ _ _).trans (Nat.zero_add _)
    · obtain ⟨a, b, rfl⟩ := eta2 x
      change (y 0 : ℕ) = (a : ℕ) at h0
      change (y 1 : ℕ) = 1024 + (b : ℕ) at h1
      rw [show (y 1 : ℕ) / 512 = 2 by omega, show (y 1 : ℕ) % 512 = b by omega, show 63 - (y 0 : ℕ) = ((Fin.revPerm a : Fin 64) : ℕ) from h0 ▸ rev_val a]
      refine out_bwd2 _ _ mask_bwd (qin_bwd _ _ _ _ _ (gate_bwd m c t) (q_bwd m c t)) (kin_bwd _ _ _ _ (cum_bwd _ _ _ _ (gate_bwd m c t)) (k_bwd m c t)) (fun k x => (congrFun (Memref.IsWhole.read_unread _ _) _).trans (prev _ 1 2 k x ?_ ?_ ?_ ?_)) (value_bwd2 m c t) a b
      all_goals first | exact Rect.idx_unit_val _ _ _ _ _ | exact (Rect.idx_unit_val _ _ _ _ _).trans (Nat.zero_add _)
    · obtain ⟨a, b, rfl⟩ := eta2 x
      change (y 0 : ℕ) = (a : ℕ) at h0
      change (y 1 : ℕ) = 512 + (b : ℕ) at h1
      rw [show (y 1 : ℕ) / 512 = 1 by omega, show (y 1 : ℕ) % 512 = b by omega, show 63 - (y 0 : ℕ) = ((Fin.revPerm a : Fin 64) : ℕ) from h0 ▸ rev_val a]
      refine out_bwd1 _ _ mask_bwd (qin_bwd _ _ _ _ _ (gate_bwd m c t) (q_bwd m c t)) (kin_bwd _ _ _ _ (cum_bwd _ _ _ _ (gate_bwd m c t)) (k_bwd m c t)) (fun k x => (congrFun (Memref.IsWhole.read_unread _ _) _).trans (prev _ 1 1 k x ?_ ?_ ?_ ?_)) (value_bwd1 m c t) a b
      all_goals first | exact Rect.idx_unit_val _ _ _ _ _ | exact (Rect.idx_unit_val _ _ _ _ _).trans (Nat.zero_add _)
    · obtain ⟨a, b, rfl⟩ := eta2 x
      change (y 0 : ℕ) = (a : ℕ) at h0
      change (y 1 : ℕ) = (b : ℕ) at h1
      rw [show (y 1 : ℕ) / 512 = 0 by omega, show (y 1 : ℕ) % 512 = b by omega, show 63 - (y 0 : ℕ) = ((Fin.revPerm a : Fin 64) : ℕ) from h0 ▸ rev_val a]
      refine out_bwd0 _ _ mask_bwd (qin_bwd _ _ _ _ _ (gate_bwd m c t) (q_bwd m c t)) (cum_bwd _ _ _ _ (gate_bwd m c t)) (k_bwd m c t) (fun k x => (congrFun (Memref.IsWhole.read_unread _ _) _).trans (prev _ 1 0 k x ?_ ?_ ?_ ?_)) (value_bwd0 m c t) a b
      all_goals first | exact Rect.idx_unit_val _ _ _ _ _ | exact (Rect.idx_unit_val _ _ _ _ _).trans (Nat.zero_add _)

end Cert.GlaIdeal.Proved
-- ==== Proof.GlaKernel.lean ====
/- The kernel's run: the written blocks cover both results, which are therefore `result` of the arguments. -/
module

public import proofs.«01_k».proof.Proof.GlaState

@[expose] public section

set_option maxRecDepth 16384
noncomputable section
open Idealize.ShloMosaic Idealize.ShloMosaic.TcCoe Idealize.SL.Sem
open Idealize.ShloMosaic.Pipeline (Dat)
open Cert.GlaScan

/-! # The kernel's run, with its results named -/

namespace Cert.GlaIdeal.Proved
open Cert.GlaIdeal Cert.GlaIdeal.Gen

variable (m : (ℓ : Loc nD τ sig) → Buf (Elt Ideal) ℓ) (c : Dev nD) (t : Fin cfg0.N)

/-- The result of the first direction. -/
def resF : FVec Ideal S16384x2048 .f32 := fun i =>
  result (X0 m c) (X1 m c) (X2 m c) (X3 m c) 0 ((i 0 : ℕ) / 4096) ((i 0 : ℕ) % 4096) (i 1 : ℕ)

/-- The result of the second direction, whose processing order runs from the end. -/
def resB : FVec Ideal S16384x2048 .f32 := fun i =>
  result (X0 m c) (X1 m c) (X2 m c) (X3 m c) 1 ((i 0 : ℕ) / 4096) (4095 - (i 0 : ℕ) % 4096) (i 1 : ℕ)

/-- The grid point that writes a row of the first result. -/
theorem point_fwd (y : S64x2048.Idx) (i : S16384x2048.Idx) (h0 : (i 0 : ℕ) = (t.val / 64 * 64 + t.val % 64) * 64 + y 0) (h1 : (i 1 : ℕ) = y 1) :
    (outsAt0 m c t.val t.isLt).1 y = resF m c i := by
  have hy : (y 0 : ℕ) < 64 := (y 0).isLt
  rw [block_fwd]
  unfold resF result
  rw [h1, show (i 0 : ℕ) / 4096 = t.val / 64 by omega, show (i 0 : ℕ) % 4096 / 64 = t.val % 64 by omega,
    show (i 0 : ℕ) % 4096 % 64 = y 0 by omega]

/-- The grid point that writes a row of the second result. -/
theorem point_bwd (y : S64x2048.Idx) (i : S16384x2048.Idx) (h0 : (i 0 : ℕ) = (t.val / 64 * 64 + (63 - t.val % 64)) * 64 + y 0) (h1 : (i 1 : ℕ) = y 1) :
    (outsAt0 m c t.val t.isLt).2.1 y = resB m c i := by
  have hy : (y 0 : ℕ) < 64 := (y 0).isLt
  rw [block_bwd]
  unfold resB result
  rw [h1, show (i 0 : ℕ) / 4096 = t.val / 64 by omega, show (4095 - (i 0 : ℕ) % 4096) / 64 = t.val % 64 by omega,
    show (4095 - (i 0 : ℕ) % 4096) % 64 = 63 - y 0 by omega]

/-- The first result after the run. -/
theorem final_fwd : (dats m 0 c).arrAt 10 cfg0.N = resF m c := by
  refine (dats m 0 c).arrAt_eq_of_covers 10 _ (by decide +kernel) fun t _ y => ?_
  blk_simp
  rw [after0_10]
  refine point_fwd m c t y _ ?_ ?_
  all_goals blk_simp [idx t]

/-- The second result after the run. -/
theorem final_bwd : (dats m 0 c).arrAt 11 cfg0.N = resB m c := by
  refine (dats m 0 c).arrAt_eq_of_covers 11 _ (by decide +kernel) fun t _ y => ?_
  blk_simp
  rw [after0_11]
  refine point_bwd m c t y _ ?_ ?_
  all_goals blk_simp [idx t]

variable (ρ : Dev nD → PrngReg)

/-- The run with its result arrays named. -/
theorem run_blocks : θ_run defs (onTc (τ := τ) (main (F := Ideal))) ⟨m, fun _ => 0, ρ⟩ fun r => ∀ c : Dev nD,
    r.2.mem ((c : Thread nD τ).loc main_v16_0) = resF m c
    ∧ r.2.mem ((c : Thread nD τ).loc main_v16_1) = resB m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun r h c => ⟨((h c).1 10).trans (final_fwd m c), ((h c).1 11).trans (final_bwd m c),
    ((h c).1 0).trans (((dats m 0 c).arrAt_in 0 rfl _).trans ((A_eq m c 0).trans (V_main_arg0 m c))),
    ((h c).1 3).trans (((dats m 0 c).arrAt_in 3 rfl _).trans ((A_eq m c 3).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩) (run_main m ρ)

end Cert.GlaIdeal.Proved
-- ==== Proof.GlaMath.lean ====
/- Facts about the extended reals and the one that makes the reference's cumulated sum, a window sum with zero padding, the
   sum over the rows up to the current one. -/
module

public import proofs.«01_k».proof.Proof.GlaSpec
public import proofs.«01_k».proof.Proof.Gen.GlaRefIdeal.Run

@[expose] public section

set_option maxRecDepth 16384
noncomputable section
open Idealize.ShloMosaic Idealize.ShloMosaic.TcCoe Idealize.SL.Sem
open Cert.GlaScan

/-! # Two scalar facts of the reference: its log sigmoid and its running sum -/

namespace Cert.GlaRefIdeal.Proved
open Cert.GlaRefIdeal

/-- The constant one sixteenth. -/
theorem sixteenth : Ideal.ofBits .f32 1031798784#32 = (((1 : ℝ) / 16 : ℝ) : EReal) := by
  simp [Ideal.ofBits, Ideal.ieee, -EReal.coe_mul]
  norm_num

/-- The constant sixteen. -/
theorem sixteen : Ideal.ofBits .f32 1098907648#32 = ((16 : ℝ) : EReal) := by
  simp [Ideal.ofBits, Ideal.ieee, -EReal.coe_mul]
  norm_num

/-- Division by sixteen is multiplication by one sixteenth. -/
theorem div_sixteen (x : EReal) : Ideal.div x (Ideal.ofBits .f32 1098907648#32) = x * Ideal.ofBits .f32 1031798784#32 := by
  rw [sixteen, sixteenth]
  unfold Ideal.div
  rw [if_neg (by norm_num), ← EReal.coe_inv]
  norm_num

theorem exp_nonneg : ∀ x : EReal, 0 ≤ Ideal.exp x
  | ⊥ => le_refl _
  | ⊤ => le_top
  | (r : ℝ) => EReal.coe_nonneg.2 (Real.exp_pos r).le

theorem log_ne_bot : ∀ x : EReal, 1 ≤ x → Ideal.log x ≠ ⊥
  | ⊥, h => absurd (le_bot_iff.1 h) (by decide)
  | ⊤, _ => top_ne_bot
  | (r : ℝ), h => by
    have hr : (1 : ℝ) ≤ r := by exact_mod_cast h
    show (if r ≤ 0 then (⊥ : EReal) else (Real.log r : EReal)) ≠ ⊥
    rw [if_neg (by linarith)]
    exact EReal.coe_ne_bot _

/-- The reference's log sigmoid over sixteen is the kernel's. -/
theorem gate_ref (z : EReal) :
    Ideal.div (-(max (-z) 0 + Ideal.log1p (Ideal.exp (-(FloatOps.absf (F := Ideal) (φ := .f32) (-z)))))) (Ideal.ofBits .f32 1098907648#32) = gate z := by
  rw [div_sixteen]
  unfold gate
  have ha : FloatOps.absf (F := Ideal) (φ := .f32) (-z) = FloatOps.absf (F := Ideal) (φ := .f32) z := by
    show max (-z) (- -z) = max z (-z)
    rw [neg_neg, max_comm]
  rw [ha, zero_sub]
  have h1 : max (-z) 0 ≠ ⊥ := fun h => absurd (h ▸ le_max_right (-z) 0 : (0 : EReal) ≤ ⊥) (by simp)
  have h2 : Ideal.log (1 + Ideal.exp (-(FloatOps.absf (F := Ideal) (φ := .f32) z))) ≠ ⊥ :=
    log_ne_bot _ (le_add_of_nonneg_right (exp_nonneg _))
  unfold Ideal.log1p
  rw [EReal.neg_add (Or.inl h1) (Or.inr h2)]
  congr 2
  rcases le_total z 0 with h | h
  · rw [min_eq_left h, max_eq_left (EReal.neg_nonneg.2 h), neg_neg]
  · rw [min_eq_right h, max_eq_right (EReal.neg_le_zero.2 h), neg_zero]

/-- Moving a window's places onto the places of the array it reads. -/
def shift (i : Fin 64) : Fin 64 ≃ Fin 64 where
  toFun w := ⟨(i + w + 1) % 64, Nat.mod_lt _ (by omega)⟩
  invFun j := ⟨(j + 127 - i) % 64, Nat.mod_lt _ (by omega)⟩
  left_inv w := Fin.ext (by show ((i.val + w.val + 1) % 64 + 127 - i.val) % 64 = w.val; omega)
  right_inv j := Fin.ext (by show (i.val + (j.val + 127 - i.val) % 64 + 1) % 64 = j.val; omega)

/-- The window's places, one number each. -/
def places : Fin 64 ≃ Shape.Idx ⟨5, ![1, 1, 64, 1, 1]⟩ where
  toFun w := ix5 0 0 w 0 0
  invFun y := y 2
  left_inv _ := rfl
  right_inv y := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
    | ⟨4, _⟩ => exact Subsingleton.elim (α := Fin 1) _ _

theorem fold_sum {n : ℕ} (f : Fin n → EReal) : (List.finRange n).foldl (fun r k => r + f k) 0 = ∑ k, f k := by
  rw [← List.sum_ofFn, List.ofFn_eq_map, List.sum_eq_foldl, List.foldl_map]

/-- The running sum over the rows of a chunk. -/
theorem window_sum (x : FVec Ideal S8x64x64x4x256 .f32) (v : FVec Ideal S_ .f32) (hu : 0 < S_.numel) (hv : v (Shape.Idx.first hu) = 0)
    (h : S8x64x64x4x256.ReduceWindows ![1, 1, 64, 1, 1] ![1, 1, 1, 1, 1] ![0, 0, 63, 0, 0] ![0, 0, 0, 0, 0] S8x64x64x4x256)
    (n : Fin 8) (c i : Fin 64) (g : Fin 4) (k : Fin 256) :
    Host.reduceWindowAdd (F := Ideal) ![1, 1, 64, 1, 1] ![1, 1, 1, 1, 1] ![0, 0, 63, 0, 0] ![0, 0, 0, 0, 0] x v h hu (ix5 n c i g k)
      = ∑ j : Fin 64, if j.val ≤ i.val then x (ix5 n c j g k) else 0 := by
  unfold Host.reduceWindowAdd
  rw [hv]
  show Ideal.hostReduceWindowAdd _ _ _ _ h x 0 (ix5 n c i g k) = _
  unfold Ideal.hostReduceWindowAdd Host.reduceWindow
  refine (fold_sum _).trans ?_
  refine Fintype.sum_equiv ((Shape.rowMajor ⟨5, ![1, 1, 64, 1, 1]⟩).symm.trans (places.symm.trans (shift i))) _ _ fun p => ?_
  have e0 : (((Shape.rowMajor ⟨5, ![1, 1, 64, 1, 1]⟩).symm p 0 : Fin 1) : ℕ) = 0 := Fin.val_eq_zero _
  have e1 : (((Shape.rowMajor ⟨5, ![1, 1, 64, 1, 1]⟩).symm p 1 : Fin 1) : ℕ) = 0 := Fin.val_eq_zero _
  have e3 : (((Shape.rowMajor ⟨5, ![1, 1, 64, 1, 1]⟩).symm p 3 : Fin 1) : ℕ) = 0 := Fin.val_eq_zero _
  have e4 : (((Shape.rowMajor ⟨5, ![1, 1, 64, 1, 1]⟩).symm p 4 : Fin 1) : ℕ) = 0 := Fin.val_eq_zero _
  obtain ⟨q, e2⟩ : ∃ q : Fin 64, ((Shape.rowMajor ⟨5, ![1, 1, 64, 1, 1]⟩).symm p 2 : Fin 64) = q := ⟨_, rfl⟩
  have hs : ((((Shape.rowMajor ⟨5, ![1, 1, 64, 1, 1]⟩).symm.trans (places.symm.trans (shift i))) p : Fin 64) : ℕ) = (i + q + 1) % 64 := by
    rw [← e2]; rfl
  have hi := i.isLt
  have hq := q.isLt
  by_cases hc : 63 ≤ i.val + q.val
  · rw [if_pos (by rw [hs]; omega)]
    refine (dif_pos ?_).trans (congrArg x ?_)
    · intro a
      match a with
      | ⟨0, _⟩ => exact ⟨Nat.zero_le _, by show n.val * 1 + (((Shape.rowMajor ⟨5, ![1, 1, 64, 1, 1]⟩).symm p 0 : Fin 1) : ℕ) - 0 < 8; omega⟩
      | ⟨1, _⟩ => exact ⟨Nat.zero_le _, by show c.val * 1 + (((Shape.rowMajor ⟨5, ![1, 1, 64, 1, 1]⟩).symm p 1 : Fin 1) : ℕ) - 0 < 64; omega⟩
      | ⟨2, _⟩ => exact ⟨by show 63 ≤ i.val * 1 + (((Shape.rowMajor ⟨5, ![1, 1, 64, 1, 1]⟩).symm p 2 : Fin 64) : ℕ); rw [e2]; omega, by show i.val * 1 + (((Shape.rowMajor ⟨5, ![1, 1, 64, 1, 1]⟩).symm p 2 : Fin 64) : ℕ) - 63 < 64; rw [e2]; omega⟩
      | ⟨3, _⟩ => exact ⟨Nat.zero_le _, by show g.val * 1 + (((Shape.rowMajor ⟨5, ![1, 1, 64, 1, 1]⟩).symm p 3 : Fin 1) : ℕ) - 0 < 4; omega⟩
      | ⟨4, _⟩ => exact ⟨Nat.zero_le _, by show k.val * 1 + (((Shape.rowMajor ⟨5, ![1, 1, 64, 1, 1]⟩).symm p 4 : Fin 1) : ℕ) - 0 < 256; omega⟩
    · funext a
      match a with
      | ⟨0, _⟩ => exact Fin.ext (by show n.val * 1 + (((Shape.rowMajor ⟨5, ![1, 1, 64, 1, 1]⟩).symm p 0 : Fin 1) : ℕ) - 0 = n.val; omega)
      | ⟨1, _⟩ => exact Fin.ext (by show c.val * 1 + (((Shape.rowMajor ⟨5, ![1, 1, 64, 1, 1]⟩).symm p 1 : Fin 1) : ℕ) - 0 = c.val; omega)
      | ⟨2, _⟩ => exact Fin.ext ((show i.val * 1 + (((Shape.rowMajor ⟨5, ![1, 1, 64, 1, 1]⟩).symm p 2 : Fin 64) : ℕ) - 63 = (i.val + q.val + 1) % 64 by rw [e2]; omega).trans hs.symm)
      | ⟨3, _⟩ => exact Fin.ext (by show g.val * 1 + (((Shape.rowMajor ⟨5, ![1, 1, 64, 1, 1]⟩).symm p 3 : Fin 1) : ℕ) - 0 = g.val; omega)
      | ⟨4, _⟩ => exact Fin.ext (by show k.val * 1 + (((Shape.rowMajor ⟨5, ![1, 1, 64, 1, 1]⟩).symm p 4 : Fin 1) : ℕ) - 0 = k.val; omega)
  · rw [if_neg (by rw [hs]; omega)]
    refine dif_neg fun hin => hc ?_
    have h2 : 63 ≤ i.val * 1 + (((Shape.rowMajor ⟨5, ![1, 1, 64, 1, 1]⟩).symm p 2 : Fin 64) : ℕ) := (hin 2).1
    rw [e2] at h2
    omega

end Cert.GlaRefIdeal.Proved
-- ==== Proof.GlaRefGates.lean ====
/- The reference up to the chunks: queries, keys, values and log decay of the doubled batch, whose first half is the
   sequence and whose second half is the sequence turned round. -/
module

public import proofs.«01_k».proof.Proof.GlaSpec
public import proofs.«01_k».proof.Proof.GlaMath

@[expose] public section

set_option maxRecDepth 16384
noncomputable section
open Idealize.ShloMosaic Idealize.ShloMosaic.TcCoe Idealize.SL.Sem
open Cert.GlaScan

/-! # The reference before its scan -/

namespace Cert.GlaRefIdeal.Proved
open Cert.GlaRefIdeal Cert.GlaRefIdeal.Value Cert.GlaRefIdeal.Gen
open Idealize.ShloMosaic.StableHlo

variable (U : Valuation τ sig (Elt Ideal))

/-- The arguments of a launch, as arrays of extended reals. -/
abbrev Y0 : Shape.Idx ⟨2, ![16384, 18432]⟩ → EReal := U (Proc.devRef .tc main_arg0)
abbrev Y1 : Shape.Idx ⟨2, ![16384, 128]⟩ → EReal := U (Proc.devRef .tc main_arg1)
abbrev Y2 : Shape.Idx ⟨4, ![2, 2, 16, 1024]⟩ → EReal := U (Proc.devRef .tc main_arg2)
abbrev Y3 : Shape.Idx ⟨3, ![2, 2, 1024]⟩ → EReal := U (Proc.devRef .tc main_arg3)

/-- The contents once the gates are known. -/
def U1 : Valuation τ sig (Elt Ideal) := after hostOps0_2 (after hostOps0_1 (after hostOps0 U))

theorem q7_at (y : S4x4096x4x256.Idx) : (after hostOps0 U (Proc.devRef .tc main_v7) : S4x4096x4x256.Idx → EReal) y
    = at2 (Y0 U) (y 0 * 4096 + y 1) (12288 + (256 * y 2 + y 3)) * Ideal.ofBits .f32 1031798784#32 := by
  after_results
  pointwise
  refine congrArg (· * _) (at2_of (Y0 U) _ _ _ rfl ?_)
  show 12288 + ((y 2).val * 256 + (y 3).val) = _
  omega

/-- The scaled queries. -/
theorem q7 (b : Fin 4) (s : Fin 4096) (g : Fin 4) (k : Fin 256) : (U1 U (Proc.devRef .tc main_v7) : S4x4096x4x256.Idx → EReal) (ix4 b s g k)
    = at2 (Y0 U) (b * 4096 + s) (12288 + (256 * g + k)) * Ideal.ofBits .f32 1031798784#32 := by
  have h : U1 U (Proc.devRef .tc main_v7) = after hostOps0 U (Proc.devRef .tc main_v7) := by
    unfold U1
    generalize after hostOps0 U = W
    after_results
  rw [h]
  exact q7_at U (ix4 b s g k)

/-- The keys. -/
theorem k8 (b : Fin 4) (s : Fin 4096) (g : Fin 4) (k : Fin 256) : (U1 U (Proc.devRef .tc main_v8) : S4x4096x4x256.Idx → EReal) (ix4 b s g k)
    = at2 (Y0 U) (b * 4096 + s) (13312 + (256 * g + k)) := by
  unfold U1
  after_results
  simp only [cast_eq]
  pointwise
  refine at2_of (Y0 U) _ _ _ rfl ?_
  show 13312 + (g.val * 256 + k.val) = _
  omega

/-- The values. -/
theorem v9 (b : Fin 4) (s : Fin 4096) (g : Fin 4) (k : Fin 512) : (U1 U (Proc.devRef .tc main_v9) : S4x4096x4x512.Idx → EReal) (ix4 b s g k)
    = at2 (Y0 U) (b * 4096 + s) (14336 + (512 * g + k)) := by
  unfold U1
  after_results
  simp only [cast_eq]
  pointwise
  refine at2_of (Y0 U) _ _ _ rfl ?_
  show 14336 + (g.val * 512 + k.val) = _
  omega

/-- The log decay of the first direction. -/
theorem g20 (b : Fin 4) (s : Fin 4096) (d : Fin 2) (k : Fin 1024) : (after hostOps0 U (Proc.devRef .tc main_v20) : S4x4096x2x1024.Idx → EReal) (ix4 b s d k)
    = (∑ r : Fin 16, at2 (Y1 U) (b * 4096 + s) (16 * d + r) * Y2 U (ix4 0 (Fin.ofNat 2 d) r (Fin.ofNat 1024 k)))
      + Y3 U (ix3 0 (Fin.ofNat 2 d) (Fin.ofNat 1024 k)) := by
  after_results
  pointwise
  rw [show Fin.ofNat 2 d.val = d from Fin.ext (Nat.mod_eq_of_lt d.isLt), show Fin.ofNat 1024 k.val = k from Fin.ext (Nat.mod_eq_of_lt k.isLt)]
  refine congrArg (· + _) (Finset.sum_congr rfl fun r _ => ?_)
  refine (mul_comm _ _).trans (congrArg (· * _) (at2_of (Y1 U) _ _ _ rfl ?_))
  show d.val * 16 + r.val = _
  omega

/-- The log decay of the second direction. -/
theorem g24 (b : Fin 4) (s : Fin 4096) (d : Fin 2) (g : Fin 4) (k : Fin 256) : (U1 U (Proc.devRef .tc main_v24) : S4x4096x2x4x256.Idx → EReal) (ix5 b s d g k)
    = logA (Y1 U) (Y2 U) (Y3 U) d (b * 4096 + s) (256 * g + k) := by
  unfold U1
  generalize hW : after hostOps0 U = W
  after_results
  simp only [cast_eq]
  pointwise
  rw [if_neg (fun h => h rfl)]
  refine (gate_ref _).trans ?_
  unfold logA
  refine congrArg gate ?_
  rw [← hW]
  rw [show 256 * (g : ℕ) + k = g * 256 + k by omega]
  exact g20 U b s d ⟨g * 256 + k, _⟩

/-- The contents once the chunks are laid out. -/
def U2 (W : Valuation τ sig (Elt Ideal)) : Valuation τ sig (Elt Ideal) :=
  after hostOps0_10 (after hostOps0_9 (after hostOps0_8 (after hostOps0_7 (after hostOps0_6 (after hostOps0_5 (after hostOps0_4 (after hostOps0_3 W)))))))

theorem place_fwd (n : Fin 8) (c i : Fin 64) (h : (n : ℕ) < 4) : rowOf (n / 4) (n % 4) (c * 64 + i) = n * 4096 + (c * 64 + i) := by
  unfold rowOf
  rw [if_pos (by omega), Nat.mod_eq_of_lt h]

theorem place_bwd (n : Fin 8) (c i : Fin 64) (h : ¬ (n : ℕ) < 4) :
    rowOf (n / 4) (n % 4) (c * 64 + i) = (n - 4) * 4096 + (4096 - (c * 64 + i + 1)) := by
  have hn := n.isLt
  unfold rowOf
  rw [if_neg (by omega)]
  omega

theorem place_zero (n : Fin 8) (h : (n : ℕ) < 4) : (n : ℕ) / 4 = 0 := by omega

theorem place_one (n : Fin 8) (h : ¬ (n : ℕ) < 4) : (n : ℕ) / 4 = 1 := by
  have hn := n.isLt
  omega

/-- The queries of the doubled batch. -/
theorem q37 (n : Fin 8) (c i : Fin 64) (g : Fin 4) (k : Fin 256) : (U2 (U1 U) (Proc.devRef .tc main_v37) : S8x64x64x4x256.Idx → EReal) (ix5 n c i g k)
    = at2 (Y0 U) (rowOf (n / 4) (n % 4) (c * 64 + i)) (12288 + (256 * g + k)) * Ideal.ofBits .f32 1031798784#32 := by
  unfold U2
  generalize hW : U1 U = W
  after_results
  simp only [cast_eq]
  pointwise
  rw [← hW]
  split
  · rename_i h
    refine (q7 U ⟨n, h⟩ ⟨c * 64 + i, by omega⟩ g k).trans ?_
    rw [place_fwd n c i h]
  · rename_i h
    refine (q7 U ⟨n - 4, by omega⟩ (Fin.rev ⟨c * 64 + i, by omega⟩) g k).trans ?_
    rw [Fin.val_rev, place_bwd n c i h]

/-- The keys of the doubled batch. -/
theorem k38 (n : Fin 8) (c i : Fin 64) (g : Fin 4) (k : Fin 256) : (U2 (U1 U) (Proc.devRef .tc main_v38) : S8x64x64x4x256.Idx → EReal) (ix5 n c i g k)
    = at2 (Y0 U) (rowOf (n / 4) (n % 4) (c * 64 + i)) (13312 + (256 * g + k)) := by
  unfold U2
  generalize hW : U1 U = W
  after_results
  simp only [cast_eq]
  pointwise
  rw [← hW]
  split
  · rename_i h
    refine (k8 U ⟨n, h⟩ ⟨c * 64 + i, by omega⟩ g k).trans ?_
    rw [place_fwd n c i h]
  · rename_i h
    refine (k8 U ⟨n - 4, by omega⟩ (Fin.rev ⟨c * 64 + i, by omega⟩) g k).trans ?_
    rw [Fin.val_rev, place_bwd n c i h]

/-- The values of the doubled batch. -/
theorem v40 (n : Fin 8) (c i : Fin 64) (g : Fin 4) (k : Fin 512) : (U2 (U1 U) (Proc.devRef .tc main_v40) : S8x64x64x4x512.Idx → EReal) (ix5 n c i g k)
    = at2 (Y0 U) (rowOf (n / 4) (n % 4) (c * 64 + i)) (14336 + (512 * g + k)) := by
  unfold U2
  generalize hW : U1 U = W
  after_results
  simp only [cast_eq]
  pointwise
  rw [← hW]
  split
  · rename_i h
    refine (v9 U ⟨n, h⟩ ⟨c * 64 + i, by omega⟩ g k).trans ?_
    rw [place_fwd n c i h]
  · rename_i h
    refine (v9 U ⟨n - 4, by omega⟩ (Fin.rev ⟨c * 64 + i, by omega⟩) g k).trans ?_
    rw [Fin.val_rev, place_bwd n c i h]

/-- The log decay of the doubled batch. -/
theorem g39 (n : Fin 8) (c i : Fin 64) (g : Fin 4) (k : Fin 256) : (U2 (U1 U) (Proc.devRef .tc main_v39) : S8x64x64x4x256.Idx → EReal) (ix5 n c i g k)
    = logA (Y1 U) (Y2 U) (Y3 U) (n / 4) (rowOf (n / 4) (n % 4) (c * 64 + i)) (256 * g + k) := by
  unfold U2
  generalize hW : U1 U = W
  after_results
  simp only [cast_eq]
  pointwise
  rw [← hW]
  split
  · rename_i h
    refine (g24 U ⟨n, h⟩ ⟨c * 64 + i, by omega⟩ 0 g k).trans ?_
    rw [place_fwd n c i h, place_zero n h]; rfl
  · rename_i h
    refine (g24 U ⟨n - 4, by omega⟩ (Fin.rev ⟨c * 64 + i, by omega⟩) 1 g k).trans ?_
    rw [Fin.val_rev, place_bwd n c i h, place_one n h]; rfl

end Cert.GlaRefIdeal.Proved
-- ==== Proof.GlaRefEntry.lean ====
/- The reference's chunks: the cumulated log decay and the decayed queries and keys at each chunk, head, row and column. -/
module

public import proofs.«01_k».proof.Proof.GlaSpec
public import proofs.«01_k».proof.Proof.GlaRefGates

@[expose] public section

set_option maxRecDepth 16384
noncomputable section
open Idealize.ShloMosaic Idealize.ShloMosaic.TcCoe Idealize.SL.Sem
open Cert.GlaScan

/-! # The reference's chunks before its scan -/

namespace Cert.GlaRefIdeal.Proved
open Cert.GlaRefIdeal Cert.GlaRefIdeal.Value Cert.GlaRefIdeal.Gen
open Idealize.ShloMosaic.StableHlo

variable (U : Valuation τ sig (Elt Ideal))

/-- Chunk `c` of entry `n` of the reference's doubled batch. -/
def cellR (n c : ℕ) : Chunk := chunk (Y0 U) (Y1 U) (Y2 U) (Y3 U) (n / 4) (n % 4) c

/-- The contents once the running sum is taken. -/
def U3 : Valuation τ sig (Elt Ideal) := after hostOps0_11 (U2 (U1 U))

/-- The cumulated log decay in a chunk. -/
theorem cum41 (n : Fin 8) (c i : Fin 64) (g : Fin 4) (k : Fin 256) : (U3 U (Proc.devRef .tc main_v41) : S8x64x64x4x256.Idx → EReal) (ix5 n c i g k)
    = (cellR U n c).cum i (256 * g + k) := by
  have h : ∀ G : S8x64x64x4x256.Idx → EReal, U2 (U1 U) (Proc.devRef .tc main_v39) = G →
      (U3 U (Proc.devRef .tc main_v41) : S8x64x64x4x256.Idx → EReal) (ix5 n c i g k) = ∑ j : Fin 64, if j.val ≤ i.val then G (ix5 n c j g k) else 0 := by
    intro G hG
    unfold U3
    generalize U2 (U1 U) = W at hG
    after_results
    simp only [cast_eq]
    rw [hG]
    refine window_sum G _ h_S_ ?_ _ n c i g k
    pointwise
  refine Eq.trans (α := EReal) (h _ rfl) ?_
  unfold Chunk.cum
  exact Finset.sum_congr rfl fun j _ => congrArg (fun z : EReal => if j.val ≤ i.val then z else 0) (g39 U n c j g k)

theorem q37' (n : Fin 8) (c i : Fin 64) (g : Fin 4) (k : Fin 256) : (U3 U (Proc.devRef .tc main_v37) : S8x64x64x4x256.Idx → EReal) (ix5 n c i g k)
    = (cellR U n c).Q i (256 * g + k) * Ideal.ofBits .f32 1031798784#32 := by
  refine Eq.trans ?_ (q37 U n c i g k)
  unfold U3
  generalize U2 (U1 U) = W
  after_results

theorem k38' (n : Fin 8) (c i : Fin 64) (g : Fin 4) (k : Fin 256) : (U3 U (Proc.devRef .tc main_v38) : S8x64x64x4x256.Idx → EReal) (ix5 n c i g k)
    = (cellR U n c).K i (256 * g + k) := by
  refine Eq.trans ?_ (k38 U n c i g k)
  unfold U3
  generalize U2 (U1 U) = W
  after_results

/-- The contents once the keys and queries are scaled. -/
def U4 : Valuation τ sig (Elt Ideal) := after hostOps0_12 (U3 U)

theorem v40' (n : Fin 8) (c i : Fin 64) (g : Fin 4) (k : Fin 512) : (U4 U (Proc.devRef .tc main_v40) : S8x64x64x4x512.Idx → EReal) (ix5 n c i g k)
    = (cellR U n c).V i (512 * g + k) := by
  refine Eq.trans ?_ (v40 U n c i g k)
  unfold U4 U3
  generalize U2 (U1 U) = W
  after_results

section Scaled
variable (W : Valuation τ sig (Elt Ideal)) (n : Fin 8) (c i : Fin 64) (g : Fin 4) (k : Fin 256) (x y z : EReal)

theorem last42_of (hx : (W (Proc.devRef .tc main_v41) : S8x64x64x4x256.Idx → EReal) (ix5 n c 63 g k) = x) :
    (after hostOps0_12 W (Proc.devRef .tc main_v42) : S8x64x1x4x256.Idx → EReal) (ix5 n c 0 g k) = x := by
  after_results
  pointwise
  exact hx

theorem qin44_of (hx : (W (Proc.devRef .tc main_v37) : S8x64x64x4x256.Idx → EReal) (ix5 n c i g k) = x)
    (hy : (W (Proc.devRef .tc main_v41) : S8x64x64x4x256.Idx → EReal) (ix5 n c i g k) = y) :
    (after hostOps0_12 W (Proc.devRef .tc main_v44) : S8x64x64x4x256.Idx → EReal) (ix5 n c i g k) = x * Ideal.exp y := by
  after_results
  pointwise
  rw [hx, hy]

theorem kin47_of (hx : (W (Proc.devRef .tc main_v38) : S8x64x64x4x256.Idx → EReal) (ix5 n c i g k) = x)
    (hy : (W (Proc.devRef .tc main_v41) : S8x64x64x4x256.Idx → EReal) (ix5 n c i g k) = y) :
    (after hostOps0_12 W (Proc.devRef .tc main_v47) : S8x64x64x4x256.Idx → EReal) (ix5 n c i g k) = x * Ideal.exp (-y) := by
  after_results
  pointwise
  rw [hx, hy]

theorem kout51_of (hx : (W (Proc.devRef .tc main_v38) : S8x64x64x4x256.Idx → EReal) (ix5 n c i g k) = x)
    (hy : (W (Proc.devRef .tc main_v41) : S8x64x64x4x256.Idx → EReal) (ix5 n c i g k) = y)
    (hz : (W (Proc.devRef .tc main_v41) : S8x64x64x4x256.Idx → EReal) (ix5 n c 63 g k) = z) :
    (after hostOps0_12 W (Proc.devRef .tc main_v51) : S8x64x64x4x256.Idx → EReal) (ix5 n c i g k) = x * Ideal.exp (z - y) := by
  after_results
  pointwise
  rw [hx, hy, hz]

end Scaled

/-- The last row of the cumulated log decay. -/
theorem last42 (n : Fin 8) (c : Fin 64) (g : Fin 4) (k : Fin 256) : (U4 U (Proc.devRef .tc main_v42) : S8x64x1x4x256.Idx → EReal) (ix5 n c 0 g k)
    = (cellR U n c).cum 63 (256 * g + k) :=
  last42_of (U3 U) n c g k _ (cum41 U n c 63 g k)

/-- The decayed queries. -/
theorem qin44 (n : Fin 8) (c i : Fin 64) (g : Fin 4) (k : Fin 256) : (U4 U (Proc.devRef .tc main_v44) : S8x64x64x4x256.Idx → EReal) (ix5 n c i g k)
    = (cellR U n c).qin i (256 * g + k) :=
  Eq.trans (α := EReal) (qin44_of (U3 U) n c i g k _ _ (q37' U n c i g k) (cum41 U n c i g k)) (mul_assoc _ _ _)

/-- The keys for the rows of the same chunk. -/
theorem kin47 (n : Fin 8) (c i : Fin 64) (g : Fin 4) (k : Fin 256) : (U4 U (Proc.devRef .tc main_v47) : S8x64x64x4x256.Idx → EReal) (ix5 n c i g k)
    = (cellR U n c).kin i (256 * g + k) := by
  refine Eq.trans (α := EReal) (kin47_of (U3 U) n c i g k _ _ (k38' U n c i g k) (cum41 U n c i g k)) ?_
  unfold Chunk.kin
  rw [zero_sub]

/-- The keys for the next chunk's state. -/
theorem kout51 (n : Fin 8) (c i : Fin 64) (g : Fin 4) (k : Fin 256) : (U4 U (Proc.devRef .tc main_v51) : S8x64x64x4x256.Idx → EReal) (ix5 n c i g k)
    = (cellR U n c).kout i (256 * g + k) :=
  kout51_of (U3 U) n c i g k _ _ _ (k38' U n c i g k) (cum41 U n c i g k) (cum41 U n c 63 g k)

end Cert.GlaRefIdeal.Proved
-- ==== Proof.GlaRefScan.lean ====
/- The reference's scan: the arrays it starts from, what one trip does to the state and to the collected outputs, and what
   the lines after it read. -/
module

public import proofs.«01_k».proof.Proof.GlaRefEntry

@[expose] public section

set_option maxRecDepth 16384
noncomputable section
open Idealize.ShloMosaic Idealize.ShloMosaic.TcCoe Idealize.SL.Sem
open Cert.GlaScan

/-! # The reference's scan over the chunks -/

namespace Cert.GlaRefIdeal.Proved
open Cert.GlaRefIdeal Cert.GlaRefIdeal.Value Cert.GlaRefIdeal.Gen
open Idealize.ShloMosaic.StableHlo

/-- The trip counter as a number. -/
theorem trip_int : ∀ t : Fin 64, (Scf.iv 0#32 1#32 t.val).toInt = (t.val : ℤ) := by decide

/-- A slice of one place of the leading axis (five axes). -/
theorem slice5 {α : Type} {w : ℕ} (x : Shape.Idx ⟨5, ![64, 8, 64, 4, w]⟩ → α) (start : Fin 5 → ℤ)
    (h : Shape.Slices ⟨5, ![64, 8, 64, 4, w]⟩ (fun _ => 0) ⟨5, ![1, 8, 64, 4, w]⟩) (t : Fin 64)
    (hs : ∀ a : Fin 5, start a = if a = 0 then (t.val : ℤ) else 0) :
    Host.dynamicSlice ⟨5, ![1, 8, 64, 4, w]⟩ x start h = fun y => x (ix5 t (y 1) (y 2) (y 3) (y 4)) := by
  funext y
  have ht := t.isLt
  refine (Host.dynamicSlice_apply x start h y).trans (congrArg x (funext fun a => Fin.ext ?_))
  have e0 : ((y 0 : Fin 1) : ℕ) = 0 := Fin.val_eq_zero _
  match a with
  | ⟨0, _⟩ =>
    show (min (max (start 0) 0) ((64 - 1 : ℕ) : ℤ)).toNat + ((y 0 : Fin 1) : ℕ) = t.val
    rw [hs, e0, if_pos rfl]; omega
  | ⟨1, _⟩ =>
    show (min (max (start 1) 0) ((8 - 8 : ℕ) : ℤ)).toNat + (y 1 : ℕ) = (y 1 : ℕ)
    omega
  | ⟨2, _⟩ =>
    show (min (max (start 2) 0) ((64 - 64 : ℕ) : ℤ)).toNat + (y 2 : ℕ) = (y 2 : ℕ)
    omega
  | ⟨3, _⟩ =>
    show (min (max (start 3) 0) ((4 - 4 : ℕ) : ℤ)).toNat + (y 3 : ℕ) = (y 3 : ℕ)
    omega
  | ⟨4, _⟩ =>
    show (min (max (start 4) 0) ((w - w : ℕ) : ℤ)).toNat + (y 4 : ℕ) = (y 4 : ℕ)
    omega

/-- A slice of one place of the leading axis (four axes). -/
theorem slice4 {α : Type} (x : S64x8x4x256.Idx → α) (start : Fin 4 → ℤ)
    (h : S64x8x4x256.Slices (fun _ => 0) S1x8x4x256) (t : Fin 64)
    (hs : ∀ a : Fin 4, start a = if a = 0 then (t.val : ℤ) else 0) :
    Host.dynamicSlice S1x8x4x256 x start h = fun y => x (ix4 t (y 1) (y 2) (y 3)) := by
  funext y
  have ht := t.isLt
  refine (Host.dynamicSlice_apply x start h y).trans (congrArg x (funext fun a => Fin.ext ?_))
  have e0 : ((y 0 : Fin 1) : ℕ) = 0 := Fin.val_eq_zero _
  match a with
  | ⟨0, _⟩ =>
    show (min (max (start 0) 0) ((64 - 1 : ℕ) : ℤ)).toNat + ((y 0 : Fin 1) : ℕ) = t.val
    rw [hs, e0, if_pos rfl]; omega
  | ⟨1, _⟩ =>
    show (min (max (start 1) 0) ((8 - 8 : ℕ) : ℤ)).toNat + (y 1 : ℕ) = (y 1 : ℕ)
    omega
  | ⟨2, _⟩ =>
    show (min (max (start 2) 0) ((4 - 4 : ℕ) : ℤ)).toNat + (y 2 : ℕ) = (y 2 : ℕ)
    omega
  | ⟨3, _⟩ =>
    show (min (max (start 3) 0) ((256 - 256 : ℕ) : ℤ)).toNat + (y 3 : ℕ) = (y 3 : ℕ)
    omega

/-- Writing one place of the leading axis. -/
theorem update5 {α : Type} (x : S64x8x64x4x512.Idx → α) (u : S1x8x64x4x512.Idx → α) (start : Fin 5 → ℤ)
    (h : S64x8x64x4x512.Slices (fun _ => 0) S1x8x64x4x512) (t : Fin 64)
    (hs : ∀ a : Fin 5, start a = if a = 0 then (t.val : ℤ) else 0)
    (c : Fin 64) (n : Fin 8) (i : Fin 64) (g : Fin 4) (e : Fin 512) :
    Host.dynamicUpdateSlice x u start h (ix5 c n i g e) = if c = t then u (ix5 0 n i g e) else x (ix5 c n i g e) := by
  have ht := t.isLt
  have s0 : Host.clampedStart S64x8x64x4x512 S1x8x64x4x512 h.1 start 0 = t.val := by
    show (min (max (start 0) 0) ((64 - 1 : ℕ) : ℤ)).toNat = t.val
    rw [hs, if_pos rfl]; omega
  have s1 : Host.clampedStart S64x8x64x4x512 S1x8x64x4x512 h.1 start 1 = 0 := by
    show (min (max (start 1) 0) ((8 - 8 : ℕ) : ℤ)).toNat = 0
    omega
  have s2 : Host.clampedStart S64x8x64x4x512 S1x8x64x4x512 h.1 start 2 = 0 := by
    show (min (max (start 2) 0) ((64 - 64 : ℕ) : ℤ)).toNat = 0
    omega
  have s3 : Host.clampedStart S64x8x64x4x512 S1x8x64x4x512 h.1 start 3 = 0 := by
    show (min (max (start 3) 0) ((4 - 4 : ℕ) : ℤ)).toNat = 0
    omega
  have s4 : Host.clampedStart S64x8x64x4x512 S1x8x64x4x512 h.1 start 4 = 0 := by
    show (min (max (start 4) 0) ((512 - 512 : ℕ) : ℤ)).toNat = 0
    omega
  rw [Host.dynamicUpdateSlice_apply]
  by_cases hc : c = t
  · subst hc
    rw [if_pos rfl]
    refine (dif_pos ?_).trans (congrArg u (funext fun a => Fin.ext ?_))
    · intro a
      match a with
      | ⟨0, _⟩ => exact ⟨s0.le, by show c.val < Host.clampedStart _ _ h.1 start 0 + 1; rw [s0]; omega⟩
      | ⟨1, _⟩ => exact ⟨s1.le.trans (Nat.zero_le _), by show n.val < Host.clampedStart _ _ h.1 start 1 + 8; omega⟩
      | ⟨2, _⟩ => exact ⟨s2.le.trans (Nat.zero_le _), by show i.val < Host.clampedStart _ _ h.1 start 2 + 64; omega⟩
      | ⟨3, _⟩ => exact ⟨s3.le.trans (Nat.zero_le _), by show g.val < Host.clampedStart _ _ h.1 start 3 + 4; omega⟩
      | ⟨4, _⟩ => exact ⟨s4.le.trans (Nat.zero_le _), by show e.val < Host.clampedStart _ _ h.1 start 4 + 512; omega⟩
    · match a with
      | ⟨0, _⟩ => show c.val - Host.clampedStart _ _ h.1 start 0 = 0; rw [s0]; omega
      | ⟨1, _⟩ => show n.val - Host.clampedStart _ _ h.1 start 1 = n.val; rw [s1]; rfl
      | ⟨2, _⟩ => show i.val - Host.clampedStart _ _ h.1 start 2 = i.val; rw [s2]; rfl
      | ⟨3, _⟩ => show g.val - Host.clampedStart _ _ h.1 start 3 = g.val; rw [s3]; rfl
      | ⟨4, _⟩ => show e.val - Host.clampedStart _ _ h.1 start 4 = e.val; rw [s4]; rfl
  · rw [if_neg hc]
    refine dif_neg fun hin => hc (Fin.ext ?_)
    have h1 : Host.clampedStart S64x8x64x4x512 S1x8x64x4x512 h.1 start 0 ≤ c.val := (hin 0).1
    have h2 : c.val < Host.clampedStart S64x8x64x4x512 S1x8x64x4x512 h.1 start 0 + 1 := (hin 0).2
    omega

section Enter
variable (W : Valuation τ sig (Elt Ideal)) (n : Fin 8) (c i : Fin 64) (g : Fin 4) (k : Fin 256) (e : Fin 512)

/-- The contents before the scan, from those after the scaling. -/
def enter : Valuation τ sig (Elt Ideal) := after hostOps0_16 (after hostOps0_15 (after hostOps0_14 (after hostOps0_13 W)))

theorem enter_0 : (enter W (Proc.devRef .tc main_v66_0) : S64x8x64x4x256.Idx → EReal) (ix5 c n i g k)
    = (W (Proc.devRef .tc main_v44) : S8x64x64x4x256.Idx → EReal) (ix5 n c i g k) := by
  unfold enter
  after_results
  simp only [cast_eq, id_eq]
  pointwise

theorem enter_1 : (enter W (Proc.devRef .tc main_v66_1) : S64x8x64x4x256.Idx → EReal) (ix5 c n i g k)
    = (W (Proc.devRef .tc main_v51) : S8x64x64x4x256.Idx → EReal) (ix5 n c i g k) := by
  unfold enter
  after_results
  simp only [cast_eq, id_eq]
  pointwise

theorem enter_2 : (enter W (Proc.devRef .tc main_v66_2) : S64x8x64x4x512.Idx → EReal) (ix5 c n i g e)
    = (W (Proc.devRef .tc main_v40) : S8x64x64x4x512.Idx → EReal) (ix5 n c i g e) := by
  unfold enter
  after_results
  simp only [cast_eq, id_eq]
  pointwise

theorem enter_3 : (enter W (Proc.devRef .tc main_v66_3) : S64x8x4x256.Idx → EReal) (ix4 c n g k)
    = Ideal.exp ((W (Proc.devRef .tc main_v42) : S8x64x1x4x256.Idx → EReal) (ix5 n c 0 g k)) := by
  unfold enter
  after_results
  simp only [cast_eq, id_eq]
  pointwise

theorem enter_5 : (enter W (Proc.devRef .tc main_v66_5) : S8x4x256x512.Idx → EReal) (ix4 n g k e) = (0 : EReal) := by
  unfold enter
  after_results
  simp only [cast_eq, id_eq]
  pointwise

/-- The lower triangle as the reference computes it. -/
theorem tril_word : ∀ i x : Fin 64, IntOp.cmpi .sge (IntOp.addi (BitVec.ofNat 32 i.val) 0#32) (BitVec.ofNat 32 x.val)
    = if x.val ≤ i.val then 1#1 else 0#1 := by decide +kernel

/-- What the rows of a row's own chunk give. -/
theorem enter_57 (b : Fin 64 → EReal) (q : Fin 256 → EReal) (r : Fin 64 → Fin 256 → EReal)
    (h52 : ∀ j, (W (Proc.devRef .tc main_v52) : S64x64.Idx → BitVec 1) (ix2 i j) = 1#1)
    (hv : ∀ j, (W (Proc.devRef .tc main_v40) : S8x64x64x4x512.Idx → EReal) (ix5 n c j g e) = b j)
    (hq : ∀ k, (W (Proc.devRef .tc main_v44) : S8x64x64x4x256.Idx → EReal) (ix5 n c i g k) = q k)
    (hk : ∀ j k, (W (Proc.devRef .tc main_v47) : S8x64x64x4x256.Idx → EReal) (ix5 n c j g k) = r j k) :
    (enter W (Proc.devRef .tc main_v57) : S8x64x64x4x512.Idx → EReal) (ix5 n c i g e)
      = ∑ j : Fin 64, if j.val ≤ i.val then (∑ k : Fin 256, q k * r j k) * b j else 0 := by
  unfold enter
  after_results
  simp only [cast_eq, id_eq]
  pointwise
  refine Finset.sum_congr (M := EReal) rfl fun j _ => ?_
  rw [h52, tril_word]
  by_cases h : j.val ≤ i.val
  · rw [if_pos h, if_pos h]
    refine Eq.trans (α := EReal) ?_ (mul_comm (b j) _)
    exact congrArg₂ (fun p q : EReal => p * q) (hv j) (Finset.sum_congr rfl fun k _ => congrArg₂ (fun p q : EReal => p * q) (hq k) (hk j k))
  · rw [if_neg h, if_neg h]; rfl

end Enter

variable (V : Valuation τ sig (Elt Ideal)) (t : Fin 64) (ht : V (Proc.devRef .tc main_v66_4) = fun _ => Scf.iv 0#32 1#32 t)
  (n : Fin 8) (c i : Fin 64) (g : Fin 4) (k : Fin 256) (e : Fin 512)

omit n c i g k e in
include ht in
/-- The starts of the trip's slices, over five axes. -/
theorem starts5 (a : Fin 5) : BitVec.toInt ((![V (Proc.devRef .tc main_v66_4), constantI S_ 32 0#32, constantI S_ 32 0#32, constantI S_ 32 0#32,
    constantI S_ 32 0#32] : Fin 5 → S_.Idx → BitVec 32) a (Shape.Idx.first h_S_)) = if a = 0 then (t.val : ℤ) else 0 := by
  match a with
  | ⟨0, _⟩ => exact (congrArg (fun z : S_.Idx → BitVec 32 => BitVec.toInt (z (Shape.Idx.first h_S_))) ht).trans (trip_int t)
  | ⟨1, _⟩ => rfl
  | ⟨2, _⟩ => rfl
  | ⟨3, _⟩ => rfl
  | ⟨4, _⟩ => rfl

omit n c i g k e in
include ht in
/-- The starts of the trip's slices, over four axes. -/
theorem starts4 (a : Fin 4) : BitVec.toInt ((![V (Proc.devRef .tc main_v66_4), constantI S_ 32 0#32, constantI S_ 32 0#32, constantI S_ 32 0#32]
    : Fin 4 → S_.Idx → BitVec 32) a (Shape.Idx.first h_S_)) = if a = 0 then (t.val : ℤ) else 0 := by
  match a with
  | ⟨0, _⟩ => exact (congrArg (fun z : S_.Idx → BitVec 32 => BitVec.toInt (z (Shape.Idx.first h_S_))) ht).trans (trip_int t)
  | ⟨1, _⟩ => rfl
  | ⟨2, _⟩ => rfl
  | ⟨3, _⟩ => rfl

omit V t in
theorem step_5 (S : FVec Ideal S8x4x256x512 .f32) (D : FVec Ideal S1x8x4x256 .f32) (K : FVec Ideal S1x8x64x4x256 .f32) (X : FVec Ideal S1x8x64x4x512 .f32) :
    addf (F := Ideal) (mulf S (broadcastInDim S8x4x256x512 ![0, 1, 2, 3] bcast_S8x4x256x1_S8x4x256x512_0_1_2_3
      (broadcastInDim S8x4x256x1 ![0, 1, 2] bcast_S8x4x256_S8x4x256x1_0_1_2 (shapeCast S8x4x256 D shapeCasts_S1x8x4x256_S8x4x256))))
      (Host.dotGeneral dot_S8x64x4x256_S8x64x4x512_S8x4x256x512_1_1_3_3_02_02 none (shapeCast S8x64x4x256 K shapeCasts_S1x8x64x4x256_S8x64x4x256)
        (shapeCast S8x64x4x512 X shapeCasts_S1x8x64x4x512_S8x64x4x512)) (ix4 n g k e)
      = S (ix4 n g k e) * D (ix4 0 n g k) + ∑ j : Fin 64, K (ix5 0 n j g k) * X (ix5 0 n j g e) := by
  pointwise

include ht in
/-- One trip decays the state and adds the chunk. -/
theorem trip_5 (x : EReal) (a b : Fin 64 → EReal) (z : EReal)
    (hz : (V (Proc.devRef .tc main_v66_5) : S8x4x256x512.Idx → EReal) (ix4 n g k e) = z)
    (hx : (V (Proc.devRef .tc main_v66_3) : S64x8x4x256.Idx → EReal) (ix4 t n g k) = x)
    (ha : ∀ j, (V (Proc.devRef .tc main_v66_1) : S64x8x64x4x256.Idx → EReal) (ix5 t n j g k) = a j)
    (hb : ∀ j, (V (Proc.devRef .tc main_v66_2) : S64x8x64x4x512.Idx → EReal) (ix5 t n j g e) = b j) :
    (afterL bodyI V (Proc.devRef .tc main_v66_5) : S8x4x256x512.Idx → EReal) (ix4 n g k e) = z * x + ∑ j, b j * a j := by
  rw [trip_main_v66_5]
  simp only [id_eq]
  refine (step_5 n g k e _ _ _ _).trans ?_
  refine congrArg₂ (fun p q : EReal => p + q) (congrArg₂ (fun p q : EReal => p * q) hz ?_) (Finset.sum_congr rfl fun j _ => ?_)
  · exact (congrFun (slice4 (V (Proc.devRef .tc main_v66_3)) _ _ t (starts4 V t ht)) (ix4 0 n g k)).trans hx
  · refine Eq.trans (congrArg₂ (fun p q : EReal => p * q) ?_ ?_) (mul_comm (a j) (b j))
    · exact (congrFun (slice5 (V (Proc.devRef .tc main_v66_1)) _ _ t (starts5 V t ht)) (ix5 0 n j g k)).trans (ha j)
    · exact (congrFun (slice5 (V (Proc.devRef .tc main_v66_2)) _ _ t (starts5 V t ht)) (ix5 0 n j g e)).trans (hb j)

omit V t in
theorem step_6 (S : FVec Ideal S8x4x256x512 .f32) (Q : FVec Ideal S1x8x64x4x256 .f32) :
    broadcastInDim S1x8x64x4x512 ![1, 2, 3, 4] bcast_S8x64x4x512_S1x8x64x4x512_1_2_3_4
        (transpose S8x64x4x512 [0, 3, 1, 2]
          (Host.dotGeneral (F := Ideal) dot_S8x4x256x512_S8x64x4x256_S8x4x512x64_2_3_3_1_01_02 none S
            (shapeCast S8x64x4x256 Q shapeCasts_S1x8x64x4x256_S8x64x4x256)) transposes_S8x4x512x64_S8x64x4x512_0_3_1_2) (ix5 0 n i g e)
      = ∑ k : Fin 256, S (ix4 n g k e) * Q (ix5 0 n i g k) := by
  pointwise

include ht in
/-- One trip puts its chunk's rows among the collected ones. -/
theorem trip_6 (x : EReal) (a b : Fin 256 → EReal)
    (hx : (V (Proc.devRef .tc main_v66_6) : S64x8x64x4x512.Idx → EReal) (ix5 c n i g e) = x)
    (ha : ∀ k, (V (Proc.devRef .tc main_v66_5) : S8x4x256x512.Idx → EReal) (ix4 n g k e) = a k)
    (hb : ∀ k, (V (Proc.devRef .tc main_v66_0) : S64x8x64x4x256.Idx → EReal) (ix5 t n i g k) = b k) :
    (afterL bodyI V (Proc.devRef .tc main_v66_6) : S64x8x64x4x512.Idx → EReal) (ix5 c n i g e) = if c = t then ∑ k, b k * a k else x := by
  rw [trip_main_v66_6]
  simp only [id_eq]
  refine (update5 (V (Proc.devRef .tc main_v66_6)) _ _ _ t (starts5 V t ht) c n i g e).trans ?_
  refine congrArg₂ (fun p q : EReal => if c = t then p else q) ?_ hx
  refine (step_6 n i g e _ _).trans (Finset.sum_congr rfl fun k _ => ?_)
  refine Eq.trans (congrArg₂ (fun p q : EReal => p * q) (ha k) ?_) (mul_comm (a k) (b k))
  exact (congrFun (slice5 (V (Proc.devRef .tc main_v66_0)) _ _ t (starts5 V t ht)) (ix5 0 n i g k)).trans (hb k)

/-! ## Around the scan -/

omit t n c i g k e in
theorem body_57 : afterL bodyI V (Proc.devRef .tc main_v57) = V (Proc.devRef .tc main_v57) := by
  simp only [bodyI, afterL_cons, afterL_nil]
  after_results

omit t n c i g k e in
theorem cond_57 : after condOps V (Proc.devRef .tc main_v57) = V (Proc.devRef .tc main_v57) := by
  after_results

/-- What a chunk's own rows give, plus what the state before it gives. -/
def within (n : Fin 8) (c i : Fin 64) (g : Fin 4) (e : Fin 512) : EReal :=
  @HAdd.hAdd EReal EReal EReal _ (V (Proc.devRef .tc main_v57) (ix5 n c i g e)) (V (Proc.devRef .tc main_v66_6) (ix5 c n i g e))

omit t n c i g k e in
/-- The first result, read from the doubled batch. -/
theorem post_71 (R : Fin 8 → Fin 64 → Fin 64 → Fin 4 → Fin 512 → EReal)
    (hR : ∀ n c i g e, within V n c i g e = R n c i g e)
    (r : Fin 16384) (x : Fin 2048) : (afterL postI V (Proc.devRef .tc main_v71) : S16384x2048.Idx → EReal) (ix2 r x)
      = R ⟨r / 4096, by omega⟩ ⟨r % 4096 / 64, by omega⟩ ⟨r % 4096 % 64, by omega⟩ ⟨x / 512, by omega⟩ ⟨x % 512, by omega⟩ := by
  simp only [postI, afterL_cons, afterL_nil]
  after_results
  simp only [cast_eq]
  pointwise
  exact hR _ _ _ _ _

omit t n c i g k e in
/-- The second result, read from the doubled batch, turned round. -/
theorem post_74 (R : Fin 8 → Fin 64 → Fin 64 → Fin 4 → Fin 512 → EReal)
    (hR : ∀ n c i g e, within V n c i g e = R n c i g e)
    (r : Fin 16384) (x : Fin 2048) : (afterL postI V (Proc.devRef .tc main_v74) : S16384x2048.Idx → EReal) (ix2 r x)
      = R ⟨4 + r / 4096, by omega⟩ ⟨(4095 - r % 4096) / 64, by omega⟩ ⟨(4095 - r % 4096) % 64, by omega⟩ ⟨x / 512, by omega⟩ ⟨x % 512, by omega⟩ := by
  simp only [postI, afterL_cons, afterL_nil]
  after_results
  simp only [cast_eq]
  pointwise
  refine Eq.trans (α := EReal) (congrArg₂ (fun p q : EReal => p + q) (congrArg (V (Proc.devRef .tc main_v57)) ?_)
    (congrArg (V (Proc.devRef .tc main_v66_6)) ?_)) (hR _ _ _ _ _)
  · funext a
    match a with
    | ⟨0, _⟩ => rfl
    | ⟨1, _⟩ => exact Fin.ext (by show (4096 - (r.val % 4096 + 1)) / 64 = (4095 - r.val % 4096) / 64; omega)
    | ⟨2, _⟩ => exact Fin.ext (by show (4096 - (r.val % 4096 + 1)) % 64 = (4095 - r.val % 4096) % 64; omega)
    | ⟨3, _⟩ => rfl
    | ⟨4, _⟩ => rfl
  · funext a
    match a with
    | ⟨0, _⟩ => exact Fin.ext (by show (4096 - (r.val % 4096 + 1)) / 64 = (4095 - r.val % 4096) / 64; omega)
    | ⟨1, _⟩ => rfl
    | ⟨2, _⟩ => exact Fin.ext (by show (4096 - (r.val % 4096 + 1)) % 64 = (4095 - r.val % 4096) % 64; omega)
    | ⟨3, _⟩ => rfl
    | ⟨4, _⟩ => rfl

end Cert.GlaRefIdeal.Proved
-- ==== Proof.GlaRefRun.lean ====
/- The reference's run: the state over the trips, by induction, and from it the two results. -/
module

public import proofs.«01_k».proof.Proof.GlaRefScan

@[expose] public section

set_option maxRecDepth 16384
noncomputable section
open Idealize.ShloMosaic Idealize.ShloMosaic.TcCoe Idealize.SL.Sem
open Cert.GlaScan

/-! # The reference's run, with its results named -/

namespace Cert.GlaRefIdeal.Proved
open Cert.GlaRefIdeal Cert.GlaRefIdeal.Value Cert.GlaRefIdeal.Gen
open Idealize.ShloMosaic.StableHlo

section Entry
variable (U : Valuation τ sig (Elt Ideal)) (n : Fin 8) (c i : Fin 64) (g : Fin 4) (k : Fin 256) (e : Fin 512)

/-- The contents before the scan. -/
def E : Valuation τ sig (Elt Ideal) := enter (U4 U)

theorem E_0 : (E U (Proc.devRef .tc main_v66_0) : S64x8x64x4x256.Idx → EReal) (ix5 c n i g k) = (cellR U n c).qin i (256 * g + k) :=
  (enter_0 (U4 U) n c i g k).trans (qin44 U n c i g k)

theorem E_1 : (E U (Proc.devRef .tc main_v66_1) : S64x8x64x4x256.Idx → EReal) (ix5 c n i g k) = (cellR U n c).kout i (256 * g + k) :=
  (enter_1 (U4 U) n c i g k).trans (kout51 U n c i g k)

theorem E_2 : (E U (Proc.devRef .tc main_v66_2) : S64x8x64x4x512.Idx → EReal) (ix5 c n i g e) = (cellR U n c).V i (512 * g + e) :=
  (enter_2 (U4 U) n c i g e).trans (v40' U n c i g e)

theorem E_3 : (E U (Proc.devRef .tc main_v66_3) : S64x8x4x256.Idx → EReal) (ix4 c n g k) = Ideal.exp ((cellR U n c).cum 63 (256 * g + k)) :=
  (enter_3 (U4 U) n c g k).trans (congrArg Ideal.exp (last42 U n c g k))

theorem E_5 : (E U (Proc.devRef .tc main_v66_5) : S8x4x256x512.Idx → EReal) (ix4 n g k e) = (0 : EReal) := enter_5 (U4 U) n g k e

theorem ones52 (j : Fin 64) : (U4 U (Proc.devRef .tc main_v52) : S64x64.Idx → BitVec 1) (ix2 i j) = 1#1 := by
  unfold U4
  generalize U3 U = W
  after_results
  pointwise

theorem E_57 : (E U (Proc.devRef .tc main_v57) : S8x64x64x4x512.Idx → EReal) (ix5 n c i g e)
    = ∑ j : Fin 64, if j.val ≤ i.val then (∑ k : Fin 256, (cellR U n c).qin i (256 * g + k) * (cellR U n c).kin j (256 * g + k))
        * (cellR U n c).V j (512 * g + e) else 0 :=
  enter_57 (U4 U) n c i g e (fun j => (cellR U n c).V j (512 * g + e)) (fun k => (cellR U n c).qin i (256 * g + k))
    (fun j k => (cellR U n c).kin j (256 * g + k)) (ones52 U i) (fun j => v40' U n c j g e) (fun k => qin44 U n c i g k)
    (fun j k => kin47 U n c j g k)

end Entry

variable (m : (ℓ : Loc nD τ sig) → Buf (Elt Ideal) ℓ) (d : Dev nD)

/-- The contents at the launch. -/
abbrev L : Valuation τ sig (Elt Ideal) := launchContents m d

/-- A buffer no trip writes keeps its contents. -/
theorem keep (r : DevRef τ sig) (hc : ∀ V : Valuation τ sig (Elt Ideal), after condOps V r = V r)
    (hb : ∀ V : Valuation τ sig (Elt Ideal), afterL bodyI V r = V r) : ∀ k, atK m k d r = E (L m d) r
  | 0 => rfl
  | k + 1 => (hb _).trans ((hc _).trans (keep r hc hb k))

/-- The state in processing order of entry `n` of the doubled batch, head `g`, before chunk `c`. -/
def stateR (n g c : ℕ) : ℕ → ℕ → EReal := state (cellR (L m d) n) (256 * g) (512 * g) c

/-- What the scan carries before trip `k`: the state, and the results of the chunks before. -/
theorem carried (k : ℕ) (hk : k ≤ 64) :
    (∀ n g x e, (atK m k d (Proc.devRef .tc main_v66_5) : S8x4x256x512.Idx → EReal) (ix4 n g x e) = stateR m d n g k x e)
    ∧ ∀ (c : Fin 64) n i g e, c.val < k → (atK m k d (Proc.devRef .tc main_v66_6) : S64x8x64x4x512.Idx → EReal) (ix5 c n i g e)
      = ∑ x : Fin 256, (cellR (L m d) n c).qin i (256 * g + x) * stateR m d n g c x e := by
  induction k with
  | zero => exact ⟨fun n g x e => E_5 (L m d) n g x e, fun c n i g e h => absurd h (Nat.not_lt_zero _)⟩
  | succ k ih =>
    obtain ⟨h5, h6⟩ := ih (by omega)
    have hA := cond_keeps (atK m k d)
    have ht : after condOps (atK m k d) (Proc.devRef .tc main_v66_4) = fun _ => Scf.iv 0#32 1#32 (⟨k, by omega⟩ : Fin 64) :=
      (hA main_v66_4 (by decide)).trans (atK_ctr m d k)
    have k0 := (hA main_v66_0 (by decide)).trans (keep m d _ (fun V => cond_keeps V main_v66_0 (by decide)) trip_main_v66_0 k)
    have k1 := (hA main_v66_1 (by decide)).trans (keep m d _ (fun V => cond_keeps V main_v66_1 (by decide)) trip_main_v66_1 k)
    have k2 := (hA main_v66_2 (by decide)).trans (keep m d _ (fun V => cond_keeps V main_v66_2 (by decide)) trip_main_v66_2 k)
    have k3 := (hA main_v66_3 (by decide)).trans (keep m d _ (fun V => cond_keeps V main_v66_3 (by decide)) trip_main_v66_3 k)
    have k5 := hA main_v66_5 (by decide)
    have k6 := hA main_v66_6 (by decide)
    refine ⟨fun n g x e => ?_, fun c n i g e hc => ?_⟩
    · exact trip_5 (after condOps (atK m k d)) ⟨k, by omega⟩ ht n g x e _ _ _ _
        ((congrFun k5 _).trans (h5 n g x e)) ((congrFun k3 _).trans (E_3 (L m d) n ⟨k, by omega⟩ g x))
        (fun j => (congrFun k1 _).trans (E_1 (L m d) n ⟨k, by omega⟩ j g x))
        (fun j => (congrFun k2 _).trans (E_2 (L m d) n ⟨k, by omega⟩ j g e))
    · refine Eq.trans (α := EReal) (trip_6 (after condOps (atK m k d)) ⟨k, by omega⟩ ht n c i g e _ _ _ (congrFun k6 _)
        (fun x => (congrFun k5 _).trans (h5 n g x e)) (fun x => (congrFun k0 _).trans (E_0 (L m d) n ⟨k, by omega⟩ i g x))) ?_
      rcases Nat.lt_succ_iff_lt_or_eq.mp hc with h | h
      · rw [if_neg fun h' => absurd (congrArg Fin.val h') (Nat.ne_of_lt h)]
        exact h6 c n i g e h
      · subst h
        rw [if_pos rfl]

/-- The output of entry `n` of the doubled batch: chunk, row, head and value column. -/
def outR (n : Fin 8) (c i : Fin 64) (g : Fin 4) (e : Fin 512) : EReal :=
  (cellR (L m d) n c).out (256 * g) (512 * g) (stateR m d n g c) i e

/-- After the last trip each row of the doubled batch is its output. -/
theorem out_after (n : Fin 8) (c i : Fin 64) (g : Fin 4) (e : Fin 512) :
    within (after condOps (atK m 64 d)) n c i g e = outR m d n c i g e :=
  congrArg₂ (fun p q : EReal => p + q)
    ((congrFun ((cond_57 _).trans (keep m d _ cond_57 body_57 64)) _).trans (E_57 (L m d) n c i g e))
    ((congrFun (cond_keeps (atK m 64 d) main_v66_6 (by decide)) _).trans ((carried m d 64 (le_refl _)).2 c n i g e c.isLt))

/-- The result of the first direction. -/
def resF : FVec Ideal S16384x2048 .f32 := fun i =>
  result (Y0 (L m d)) (Y1 (L m d)) (Y2 (L m d)) (Y3 (L m d)) 0 ((i 0 : ℕ) / 4096) ((i 0 : ℕ) % 4096) (i 1 : ℕ)

/-- The result of the second direction, whose processing order runs from the end. -/
def resB : FVec Ideal S16384x2048 .f32 := fun i =>
  result (Y0 (L m d)) (Y1 (L m d)) (Y2 (L m d)) (Y3 (L m d)) 1 ((i 0 : ℕ) / 4096) (4095 - (i 0 : ℕ) % 4096) (i 1 : ℕ)

/-- The first result after the run. -/
theorem final_71 : finalContents condOps preI bodyI postI 64 m d (Proc.devRef .tc main_v71) = resF m d := by
  funext y
  refine Eq.trans (α := EReal) (congrArg _ (ix2_eta y).symm) ?_
  refine Eq.trans (α := EReal) (post_71 (after condOps (atK m 64 d)) (outR m d) (out_after m d) (y 0) (y 1)) ?_
  have hr : (y 0 : ℕ) < 16384 := (y 0).isLt
  unfold outR stateR resF result
  have h : ∀ c, cellR (L m d) ((y 0 : ℕ) / 4096) c = chunk (Y0 (L m d)) (Y1 (L m d)) (Y2 (L m d)) (Y3 (L m d)) 0 ((y 0 : ℕ) / 4096) c := by
    intro c
    unfold cellR
    rw [show (y 0 : ℕ) / 4096 / 4 = 0 by omega, show (y 0 : ℕ) / 4096 % 4 = (y 0 : ℕ) / 4096 by omega]
  rw [h, show cellR (L m d) ((y 0 : ℕ) / 4096) = _ from funext h]

/-- The second result after the run. -/
theorem final_74 : finalContents condOps preI bodyI postI 64 m d (Proc.devRef .tc main_v74) = resB m d := by
  funext y
  refine Eq.trans (α := EReal) (congrArg _ (ix2_eta y).symm) ?_
  refine Eq.trans (α := EReal) (post_74 (after condOps (atK m 64 d)) (outR m d) (out_after m d) (y 0) (y 1)) ?_
  have hr : (y 0 : ℕ) < 16384 := (y 0).isLt
  unfold outR stateR resB result
  have h : ∀ c, cellR (L m d) (4 + (y 0 : ℕ) / 4096) c = chunk (Y0 (L m d)) (Y1 (L m d)) (Y2 (L m d)) (Y3 (L m d)) 1 ((y 0 : ℕ) / 4096) c := by
    intro c
    unfold cellR
    rw [show (4 + (y 0 : ℕ) / 4096) / 4 = 1 by omega, show (4 + (y 0 : ℕ) / 4096) % 4 = (y 0 : ℕ) / 4096 by omega]
  rw [h, show cellR (L m d) (4 + (y 0 : ℕ) / 4096) = _ from funext h]

/-! ## The arguments -/

section Args
variable (V : Valuation τ sig (Elt Ideal))

/-- The lines before the scan keep the arguments. -/
theorem E_args : E V (Proc.devRef .tc main_arg0) = V (Proc.devRef .tc main_arg0) ∧ E V (Proc.devRef .tc main_arg1) = V (Proc.devRef .tc main_arg1)
    ∧ E V (Proc.devRef .tc main_arg2) = V (Proc.devRef .tc main_arg2) ∧ E V (Proc.devRef .tc main_arg3) = V (Proc.devRef .tc main_arg3) := by
  refine ⟨?_, ?_, ?_, ?_⟩ <;>
  · unfold E enter U4 U3 U2 U1
    after_results

/-- A trip keeps the arguments. -/
theorem body_args : afterL bodyI V (Proc.devRef .tc main_arg0) = V (Proc.devRef .tc main_arg0) ∧ afterL bodyI V (Proc.devRef .tc main_arg1) = V (Proc.devRef .tc main_arg1)
    ∧ afterL bodyI V (Proc.devRef .tc main_arg2) = V (Proc.devRef .tc main_arg2) ∧ afterL bodyI V (Proc.devRef .tc main_arg3) = V (Proc.devRef .tc main_arg3) := by
  refine ⟨?_, ?_, ?_, ?_⟩ <;>
  · simp only [bodyI, afterL_cons, afterL_nil]
    after_results

/-- The loop's test keeps the arguments. -/
theorem cond_args : after condOps V (Proc.devRef .tc main_arg0) = V (Proc.devRef .tc main_arg0) ∧ after condOps V (Proc.devRef .tc main_arg1) = V (Proc.devRef .tc main_arg1)
    ∧ after condOps V (Proc.devRef .tc main_arg2) = V (Proc.devRef .tc main_arg2) ∧ after condOps V (Proc.devRef .tc main_arg3) = V (Proc.devRef .tc main_arg3) := by
  refine ⟨?_, ?_, ?_, ?_⟩ <;> after_results

/-- The lines after the scan keep the arguments. -/
theorem post_args : afterL postI V (Proc.devRef .tc main_arg0) = V (Proc.devRef .tc main_arg0) ∧ afterL postI V (Proc.devRef .tc main_arg1) = V (Proc.devRef .tc main_arg1)
    ∧ afterL postI V (Proc.devRef .tc main_arg2) = V (Proc.devRef .tc main_arg2) ∧ afterL postI V (Proc.devRef .tc main_arg3) = V (Proc.devRef .tc main_arg3) := by
  refine ⟨?_, ?_, ?_, ?_⟩ <;>
  · simp only [postI, afterL_cons, afterL_nil]
    after_results

end Args

/-- A buffer that nothing writes ends as it was. -/
theorem final_arg (r : DevRef τ sig) (hp : ∀ V : Valuation τ sig (Elt Ideal), afterL postI V r = V r)
    (hc : ∀ V : Valuation τ sig (Elt Ideal), after condOps V r = V r) (hb : ∀ V : Valuation τ sig (Elt Ideal), afterL bodyI V r = V r)
    (he : ∀ V, E V r = V r) : finalContents condOps preI bodyI postI 64 m d r = L m d r :=
  (hp _).trans ((hc _).trans ((keep m d r hc hb 64).trans (he _)))

variable (ρ : Dev nD → PrngReg)

/-- The reference runs, with its two results named and its arguments unchanged. -/
theorem run : θ_run (defs (F := Ideal)) (onTc (τ := τ) (main (F := Ideal))) ⟨m, fun _ => 0, ρ⟩ fun r => ∀ c : Dev nD,
    r.2.mem ((c.tc : Thread nD τ).loc main_v71) = resF m c
    ∧ r.2.mem ((c.tc : Thread nD τ).loc main_v74) = resB m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨(h c main_v71 rfl).trans (final_71 m c), (h c main_v74 rfl).trans (final_74 m c),
    (h c main_arg0 rfl).trans (final_arg m c _ (fun V => (post_args V).1) (fun V => (cond_args V).1) (fun V => (body_args V).1) (fun V => (E_args V).1)),
    (h c main_arg1 rfl).trans (final_arg m c _ (fun V => (post_args V).2.1) (fun V => (cond_args V).2.1) (fun V => (body_args V).2.1) (fun V => (E_args V).2.1)),
    (h c main_arg2 rfl).trans (final_arg m c _ (fun V => (post_args V).2.2.1) (fun V => (cond_args V).2.2.1) (fun V => (body_args V).2.2.1) (fun V => (E_args V).2.2.1)),
    (h c main_arg3 rfl).trans (final_arg m c _ (fun V => (post_args V).2.2.2) (fun V => (cond_args V).2.2.2) (fun V => (body_args V).2.2.2) (fun V => (E_args V).2.2.2))⟩)
    (run_fold m ρ)

end Cert.GlaRefIdeal.Proved
-- ==== Proof.GlaValue.lean ====
/- The value claim of the gated linear attention's scan: the kernel's two results and the reference's are both `result`, read
   at the arguments each was given, which agree. -/
module

public import proofs.«01_k».proof.Defs
public import proofs.«01_k».proof.Proof.GlaKernel
public import proofs.«01_k».proof.Proof.GlaRefRun

@[expose] public section

noncomputable section
open Idealize.ShloMosaic Idealize.ShloMosaic.TcCoe Idealize.SL.Sem
open Cert.GlaScan

namespace Cert.GlaIdeal.Proved
open Cert.GlaIdeal

/-- Kernel and reference compute the same two results. -/
theorem algebraic : Cert.algebraic_GlaIdeal_GlaRefIdeal := by
  intro m ρ m' ρ' _ hag
  refine ⟨fun c => resF m c, fun c => resB m c, run_blocks m ρ, ?_⟩
  have e : ∀ (c : Dev nD) (d s : ℕ → ℕ) (p : Fin 2),
      (fun i : S16384x2048.Idx => result (m' ((c.tc : Thread Cert.GlaRefIdeal.nD Cert.GlaRefIdeal.τ).loc Cert.GlaRefIdeal.main_arg0))
        (m' ((c.tc : Thread Cert.GlaRefIdeal.nD Cert.GlaRefIdeal.τ).loc Cert.GlaRefIdeal.main_arg1))
        (m' ((c.tc : Thread Cert.GlaRefIdeal.nD Cert.GlaRefIdeal.τ).loc Cert.GlaRefIdeal.main_arg2))
        (m' ((c.tc : Thread Cert.GlaRefIdeal.nD Cert.GlaRefIdeal.τ).loc Cert.GlaRefIdeal.main_arg3)) p (d (i 0)) (s (i 0)) (i 1))
      = fun i => result (X0 m c) (X1 m c) (X2 m c) (X3 m c) p (d (i 0)) (s (i 0)) (i 1) := by
    intro c d s p
    rw [(hag c).1, (hag c).2.1, (hag c).2.2.1, (hag c).2.2.2]
  exact (θ_run Cert.GlaRefIdeal.defs _ _).mono (fun r h c => ⟨(h c).1.trans (e c (· / 4096) (· % 4096) 0),
    (h c).2.1.trans (e c (· / 4096) (4095 - · % 4096) 1), (h c).2.2⟩) (Cert.GlaRefIdeal.Proved.run m' ρ')

end Cert.GlaIdeal.Proved
-- ==== Proof.lean ====
module

public import proofs.«01_k».proof.Defs
public import proofs.«01_k».proof.Proof.Gen.Gates.Frame
public import proofs.«01_k».proof.Proof.GatesValue
public import proofs.«01_k».proof.Proof.Gen.Mixers.Frame
public import proofs.«01_k».proof.Proof.MixersValue
public import proofs.«01_k».proof.Proof.Gen.Decay.Frame
public import proofs.«01_k».proof.Proof.DecayValue
public import proofs.«01_k».proof.Proof.Gen.Short.Frame
public import proofs.«01_k».proof.Proof.ShortValue
public import proofs.«01_k».proof.Proof.Gen.GlaOut.Frame
public import proofs.«01_k».proof.Proof.GlaOutValue
public import proofs.«01_k».proof.Proof.Gen.Mix.Frame
public import proofs.«01_k».proof.Proof.MixValue
public import proofs.«01_k».proof.Proof.Gen.Out.Frame
public import proofs.«01_k».proof.Proof.OutValue
public import proofs.«01_k».proof.Proof.Gen.Lna.Frame
public import proofs.«01_k».proof.Proof.LnaValue
public import proofs.«01_k».proof.Proof.Gen.FfnIn.Frame
public import proofs.«01_k».proof.Proof.FfnInValue
public import proofs.«01_k».proof.Proof.Gen.FfnOut.Frame
public import proofs.«01_k».proof.Proof.FfnOutValue
public import proofs.«01_k».proof.Proof.Gen.Lnb.Frame
public import proofs.«01_k».proof.Proof.LnbValue
public import proofs.«01_k».proof.Proof.Gen.Gla.Frame
public import proofs.«01_k».proof.Proof.GlaValue

@[expose] public section

namespace Cert.Proof

open Idealize.ShloMosaic Idealize.SL.Sem

/-- The reference terminates and leaves its arguments unchanged. -/
theorem frameGatesRefIdeal : Cert.quiescent_GatesRefIdeal := fun m ρ _ =>
  (θ_run Cert.GatesRefIdeal.defs _ _).mono (fun r h => ⟨fun c => (h c).2.2, sem_eq_zero_of_no_sems (by decide) r.2⟩) (Cert.GatesRefIdeal.Value.run m ρ)

/-- The reference terminates and leaves its arguments unchanged. -/
theorem frameMixersRefIdeal : Cert.quiescent_MixersRefIdeal := fun m ρ _ =>
  (θ_run Cert.MixersRefIdeal.defs _ _).mono (fun r h => ⟨fun c => (h c).2.2, sem_eq_zero_of_no_sems (by decide) r.2⟩) (Cert.MixersRefIdeal.Value.run m ρ)

/-- The reference terminates and leaves its arguments unchanged. -/
theorem frameDecayRefIdeal : Cert.quiescent_DecayRefIdeal := fun m ρ _ =>
  (θ_run Cert.DecayRefIdeal.defs _ _).mono (fun r h => ⟨fun c => (h c).2, sem_eq_zero_of_no_sems (by decide) r.2⟩) (Cert.DecayRefIdeal.Value.run m ρ)

/-- The reference terminates and leaves its arguments unchanged. -/
theorem frameShortRefIdeal : Cert.quiescent_ShortRefIdeal := fun m ρ _ =>
  (θ_run Cert.ShortRefIdeal.defs _ _).mono (fun r h => ⟨fun c => (h c).2, sem_eq_zero_of_no_sems (by decide) r.2⟩) (Cert.ShortRefIdeal.Value.run m ρ)

/-- The reference terminates and leaves its arguments unchanged. -/
theorem frameGlaOutRefIdeal : Cert.quiescent_GlaOutRefIdeal := fun m ρ _ =>
  (θ_run Cert.GlaOutRefIdeal.defs _ _).mono (fun r h => ⟨fun c => (h c).2, sem_eq_zero_of_no_sems (by decide) r.2⟩) (Cert.GlaOutRefIdeal.Value.run m ρ)

/-- The reference terminates and leaves its arguments unchanged. -/
theorem frameMixRefIdeal : Cert.quiescent_MixRefIdeal := fun m ρ _ =>
  (θ_run Cert.MixRefIdeal.defs _ _).mono (fun r h => ⟨fun c => (h c).2, sem_eq_zero_of_no_sems (by decide) r.2⟩) (Cert.MixRefIdeal.Value.run m ρ)

/-- The reference terminates and leaves its arguments unchanged. -/
theorem frameOutRefIdeal : Cert.quiescent_OutRefIdeal := fun m ρ _ =>
  (θ_run Cert.OutRefIdeal.defs _ _).mono (fun r h => ⟨fun c => (h c).2, sem_eq_zero_of_no_sems (by decide) r.2⟩) (Cert.OutRefIdeal.Value.run m ρ)

/-- The reference terminates and leaves its arguments unchanged. -/
theorem frameLnaRefIdeal : Cert.quiescent_LnaRefIdeal := fun m ρ _ =>
  (θ_run Cert.LnaRefIdeal.defs _ _).mono (fun r h => ⟨fun c => (h c).2, sem_eq_zero_of_no_sems (by decide) r.2⟩) (Cert.LnaRefIdeal.Value.run m ρ)

/-- The reference terminates and leaves its arguments unchanged. -/
theorem frameFfnInRefIdeal : Cert.quiescent_FfnInRefIdeal := fun m ρ _ =>
  (θ_run Cert.FfnInRefIdeal.defs _ _).mono (fun r h => ⟨fun c => (h c).2, sem_eq_zero_of_no_sems (by decide) r.2⟩) (Cert.FfnInRefIdeal.Value.run m ρ)

/-- The reference terminates and leaves its arguments unchanged. -/
theorem frameFfnOutRefIdeal : Cert.quiescent_FfnOutRefIdeal := fun m ρ _ =>
  (θ_run Cert.FfnOutRefIdeal.defs _ _).mono (fun r h => ⟨fun c => (h c).2, sem_eq_zero_of_no_sems (by decide) r.2⟩) (Cert.FfnOutRefIdeal.Value.run m ρ)

/-- The reference terminates and leaves its arguments unchanged. -/
theorem frameLnbRefIdeal : Cert.quiescent_LnbRefIdeal := fun m ρ _ =>
  (θ_run Cert.LnbRefIdeal.defs _ _).mono (fun r h => ⟨fun c => (h c).2, sem_eq_zero_of_no_sems (by decide) r.2⟩) (Cert.LnbRefIdeal.Value.run m ρ)

/-- The reference terminates and leaves its arguments unchanged. -/
theorem frameGlaRefIdeal : Cert.quiescent_GlaRefIdeal := fun m ρ _ =>
  (θ_run Cert.GlaRefIdeal.defs _ _).mono (fun r h => ⟨fun c => (h c).2.2, sem_eq_zero_of_no_sems (by decide) r.2⟩) (Cert.GlaRefIdeal.Proved.run m ρ)

/-- Every claim of the certificate. -/
theorem claim : Cert.Claim :=
  ⟨Cert.Gates.Gen.facts, Cert.GatesIdeal.Gen.facts, Cert.GatesRefIdeal.Gen.facts, Cert.Mixers.Gen.facts, Cert.MixersIdeal.Gen.facts, Cert.MixersRefIdeal.Gen.facts, Cert.Decay.Gen.facts, Cert.DecayIdeal.Gen.facts, Cert.DecayRefIdeal.Gen.facts, Cert.Short.Gen.facts, Cert.ShortIdeal.Gen.facts, Cert.ShortRefIdeal.Gen.facts, Cert.GlaOut.Gen.facts, Cert.GlaOutIdeal.Gen.facts, Cert.GlaOutRefIdeal.Gen.facts, Cert.Mix.Gen.facts, Cert.MixIdeal.Gen.facts, Cert.MixRefIdeal.Gen.facts, Cert.Out.Gen.facts, Cert.OutIdeal.Gen.facts, Cert.OutRefIdeal.Gen.facts, Cert.Lna.Gen.facts, Cert.LnaIdeal.Gen.facts, Cert.LnaRefIdeal.Gen.facts, Cert.FfnIn.Gen.facts, Cert.FfnInIdeal.Gen.facts, Cert.FfnInRefIdeal.Gen.facts, Cert.FfnOut.Gen.facts, Cert.FfnOutIdeal.Gen.facts, Cert.FfnOutRefIdeal.Gen.facts, Cert.Lnb.Gen.facts, Cert.LnbIdeal.Gen.facts, Cert.LnbRefIdeal.Gen.facts, Cert.Gla.Gen.facts, Cert.GlaIdeal.Gen.facts, Cert.GlaRefIdeal.Gen.facts,
  fun m ρ _ => Cert.Gates.Gen.frame m ρ,
  fun m ρ _ => Cert.GatesIdeal.Gen.frame m ρ,
  Cert.Proof.frameGatesRefIdeal,
  fun m ρ _ => Cert.Mixers.Gen.frame m ρ,
  fun m ρ _ => Cert.MixersIdeal.Gen.frame m ρ,
  Cert.Proof.frameMixersRefIdeal,
  fun m ρ _ => Cert.Decay.Gen.frame m ρ,
  fun m ρ _ => Cert.DecayIdeal.Gen.frame m ρ,
  Cert.Proof.frameDecayRefIdeal,
  fun m ρ _ => Cert.Short.Gen.frame m ρ,
  fun m ρ _ => Cert.ShortIdeal.Gen.frame m ρ,
  Cert.Proof.frameShortRefIdeal,
  fun m ρ _ => Cert.GlaOut.Gen.frame m ρ,
  fun m ρ _ => Cert.GlaOutIdeal.Gen.frame m ρ,
  Cert.Proof.frameGlaOutRefIdeal,
  fun m ρ _ => Cert.Mix.Gen.frame m ρ,
  fun m ρ _ => Cert.MixIdeal.Gen.frame m ρ,
  Cert.Proof.frameMixRefIdeal,
  fun m ρ _ => Cert.Out.Gen.frame m ρ,
  fun m ρ _ => Cert.OutIdeal.Gen.frame m ρ,
  Cert.Proof.frameOutRefIdeal,
  fun m ρ _ => Cert.Lna.Gen.frame m ρ,
  fun m ρ _ => Cert.LnaIdeal.Gen.frame m ρ,
  Cert.Proof.frameLnaRefIdeal,
  fun m ρ _ => Cert.FfnIn.Gen.frame m ρ,
  fun m ρ _ => Cert.FfnInIdeal.Gen.frame m ρ,
  Cert.Proof.frameFfnInRefIdeal,
  fun m ρ _ => Cert.FfnOut.Gen.frame m ρ,
  fun m ρ _ => Cert.FfnOutIdeal.Gen.frame m ρ,
  Cert.Proof.frameFfnOutRefIdeal,
  fun m ρ _ => Cert.Lnb.Gen.frame m ρ,
  fun m ρ _ => Cert.LnbIdeal.Gen.frame m ρ,
  Cert.Proof.frameLnbRefIdeal,
  fun m ρ _ => Cert.Gla.Gen.frame m ρ,
  fun m ρ _ => Cert.GlaIdeal.Gen.frame m ρ,
  Cert.Proof.frameGlaRefIdeal,
  trivial, Cert.GatesIdeal.Proved.algebraic,
  trivial, Cert.MixersIdeal.Proved.algebraic,
  trivial, Cert.DecayIdeal.Proved.algebraic,
  trivial, Cert.ShortIdeal.Proved.algebraic,
  trivial, Cert.GlaOutIdeal.Proved.algebraic,
  trivial, Cert.MixIdeal.Proved.algebraic,
  trivial, Cert.OutIdeal.Proved.algebraic,
  trivial, Cert.LnaIdeal.Proved.algebraic,
  trivial, Cert.FfnInIdeal.Proved.algebraic,
  trivial, Cert.FfnOutIdeal.Proved.algebraic,
  trivial, Cert.LnbIdeal.Proved.algebraic,
  trivial, Cert.GlaIdeal.Proved.algebraic⟩

end Cert.Proof

end
